-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 1024]⟩ : Shape).Idx, (Layout.blockN ⟨2, ![512, 1024]⟩ ⟨2, ![1024, 1024]⟩ (Layout.meshBlock [2, 2] ![[0], []] c) ((Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![512, 1024]⟩ : Shape).Idx → _) i = 1#1 → r.2.mem ((c.tc : Thread Cert.KernelIdeal.nD Cert.KernelIdeal.τ).loc Cert.KernelIdeal.main_v1) i = (Layout.blockN ⟨2, ![512, 1024]⟩ ⟨2, ![1024, 1024]⟩ (Layout.meshBlock [2, 2] ![[0], []] c) v0 : (⟨2, ![512, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v49) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x3 : Shape := ⟨2, ![1024, 3]⟩
abbrev S1024x1 : Shape := ⟨2, ![1024, 1]⟩
abbrev S1024 : Shape := ⟨1, ![1024]⟩
abbrev S_ : Shape := ⟨0, ![]⟩

class Facts : Prop where
  sliceFits_S1024x8_S1024x3 : S1024x8.Slices (fun _ => 0) S1024x3
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x3_S1024x1_0_2 : S1024x3.Slices ![0, 2] S1024x1
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x8_S1024x8_1_0_0_1_n_n_wf : DotDims.WF S1024x1024 S1024x8 S1024x8 [1] [0] [0] [1] [] []

variable [Facts]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1024 1 :=
  let main_v0 : FVec F S1024x8 .f32 := (fun l r => Host.dotGeneral dot_S1024x1024_S1024x8_S1024x8_1_0_0_1_n_n none l r) main_arg0 main_arg1
  let main_values : FVec F S1024x3 .f32 := (fun x => (Host.topK S1024x3 1 (FloatOps.cmpfTotal .gt) x sliceFits_S1024x8_S1024x3).1) main_v0
  let main_indices : IVec S1024x3 32 := (fun x => (Host.topK S1024x3 1 (FloatOps.cmpfTotal .gt) x sliceFits_S1024x8_S1024x3).2) main_v0
  let main_v1 : FVec F S1024x1 .f32 := (extractStridedSlice S1024x1 ![0, 0] · slices_S1024x3_S1024x1_0_0) main_values
  let main_v2 : FVec F S1024 .f32 := shapeCast S1024 main_v1 shapeCasts_S1024x1_S1024
  let main_v3 : FVec F S1024x1 .f32 := (extractStridedSlice S1024x1 ![0, 1] · slices_S1024x3_S1024x1_0_1) main_values
  let main_v4 : FVec F S1024 .f32 := shapeCast S1024 main_v3 shapeCasts_S1024x1_S1024
  let main_v5 : IVec S1024 1 := cmpf .ogt main_v2 main_v4
  let main_v6 : FVec F S1024x1 .f32 := (extractStridedSlice S1024x1 ![0, 1] · slices_S1024x3_S1024x1_0_1) main_values
  let main_v7 : FVec F S1024 .f32 := shapeCast S1024 main_v6 shapeCasts_S1024x1_S1024
  let main_v8 : FVec F S1024x1 .f32 := (extractStridedSlice S1024x1 ![0, 2] · slices_S1024x3_S1024x1_0_2) main_values
  let main_v9 : FVec F S1024 .f32 := shapeCast S1024 main_v8 shapeCasts_S1024x1_S1024
  let main_v10 : IVec S1024 1 := cmpf .ogt main_v7 main_v9
  let main_v11 : IVec S1024 1 := andi main_v5 main_v10
  let main_v12 : FVec F S1024x1 .f32 := (extractStridedSlice S1024x1 ![0, 0] · slices_S1024x3_S1024x1_0_0) main_values
  let main_v13 : FVec F S1024 .f32 := shapeCast S1024 main_v12 shapeCasts_S1024x1_S1024
  let main_cst : FVec F S_ .f32 := constant S_ .f32 0x7F800000#32
  let main_v14 : FVec F S1024 .f32 := broadcastInDim S1024 ![] bcast_S_S1024 main_cst
  let main_v15 : IVec S1024 1 := cmpf .olt main_v13 main_v14
  let main_v16 : IVec S1024 1 := andi main_v11 main_v15
  let main_v17 : IVec S1024x1 1 := broadcastInDim S1024x1 ![0] bcast_S1024_S1024x1_0 main_v16
  let main_v18 : IVec S1024x1024 1 := broadcastInDim S1024x1024 ![0, 1] bcast_S1024x1_S1024x1024_0_1 main_v17
  main_v18
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S256x1024 : Shape := ⟨2, ![256, 1024]⟩
abbrev S2x256x2048 : Shape := ⟨3, ![2, 256, 2048]⟩
abbrev S2x512x1024 : Shape := ⟨3, ![2, 512, 1024]⟩
abbrev S2 : Shape := ⟨1, ![2]⟩
abbrev S4 : Shape := ⟨1, ![4]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x512x1024 : Shape := ⟨3, ![1, 512, 1024]⟩
abbrev S256x4 : Shape := ⟨2, ![256, 4]⟩
abbrev S256 : Shape := ⟨1, ![256]⟩
abbrev S256x1 : Shape := ⟨2, ![256, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S64x1024 : Shape := ⟨2, ![64, 1024]⟩

abbrev nBuf : Space → Nat
  | .hbm => 5
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S512x1024, .f32⟩
  | .local _ .vmem, ⟨3, _⟩ => ⟨S1024x4, .f32⟩
  | .local _ .vmem, ⟨4, _⟩ => ⟨S512x1024, .f32⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S4x1024x2048, .bf16⟩
  | .local _ .vmem, ⟨9, _⟩ => ⟨S4x2048x1024, .bf16⟩
  | .local _ .vmem, ⟨10, _⟩ => ⟨S2x256x2048, .f32⟩
  | .local _ .vmem, ⟨11, _⟩ => ⟨S2x512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_29 : BitVec 32 := 256#32
  let v32 : BitVec 32 := Scalar.muli v5 c256_i32_29
  let v33 : Index := Scalar.indexCast v32
  let c0 : Index := 0#32
  ![v33.toNat, 0]
def k0_dev1 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v40 : BitVec 32 := Scalar.muli v6 c2_i32_33
  let v41 : BitVec 32 := Scalar.addi c0_i32_34 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v42 : BitVec 32 := Scalar.muli v5 c1_i32_35
  let v43 : BitVec 32 := Scalar.addi v41 v42
  v43.toNat
def k0_dev2 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v44 : BitVec 32 := Scalar.muli v2 c2_i32_37
  let v45 : BitVec 32 := Scalar.addi c0_i32_38 v44
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_39 : BitVec 32 := 1#32
  let v46 : BitVec 32 := Scalar.muli v7 c1_i32_39
  let v47 : BitVec 32 := Scalar.addi v45 v46
  v47.toNat
def k0_dev3 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v48 : BitVec 32 := Scalar.muli v6 c2_i32_43
  let v49 : BitVec 32 := Scalar.addi c0_i32_44 v48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v50 : BitVec 32 := Scalar.muli v5 c1_i32_45
  let v51 : BitVec 32 := Scalar.addi v49 v50
  v51.toNat
def k0_dev4 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v56 : BitVec 32 := Scalar.muli v6 c2_i32_48
  let v57 : BitVec 32 := Scalar.addi c0_i32_49 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v58 : BitVec 32 := Scalar.muli v5 c1_i32_50
  let v59 : BitVec 32 := Scalar.addi v57 v58
  v59.toNat
def k0_dev5 (d0 : Dev nD) : Nat :=
  let c0_i32_784 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_783 : BitVec 32 := 2#32
  let v807 : BitVec 32 := Scalar.muli v6 c2_i32_783
  let v808 : BitVec 32 := Scalar.addi c0_i32_784 v807
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_785 : BitVec 32 := 1#32
  let v809 : BitVec 32 := Scalar.muli v5 c1_i32_785
  let v810 : BitVec 32 := Scalar.addi v808 v809
  v810.toNat
def k0_dev6 (d0 : Dev nD) : Nat :=
  let c0_i32_793 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_792 : BitVec 32 := 2#32
  let v817 : BitVec 32 := Scalar.muli v6 c2_i32_792
  let v818 : BitVec 32 := Scalar.addi c0_i32_793 v817
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_794 : BitVec 32 := 1#32
  let v819 : BitVec 32 := Scalar.muli v5 c1_i32_794
  let v820 : BitVec 32 := Scalar.addi v818 v819
  v820.toNat
def k0_dev7 (d0 : Dev nD) : Nat :=
  let c0_i32_801 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_800 : BitVec 32 := 2#32
  let v827 : BitVec 32 := Scalar.muli v6 c2_i32_800
  let v828 : BitVec 32 := Scalar.addi c0_i32_801 v827
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_802 : BitVec 32 := 1#32
  let v829 : BitVec 32 := Scalar.muli v5 c1_i32_802
  let v830 : BitVec 32 := Scalar.addi v828 v829
  v830.toNat
def k0_dev8 (d0 : Dev nD) : Nat :=
  let c0_i32_809 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_808 : BitVec 32 := 2#32
  let v837 : BitVec 32 := Scalar.muli v6 c2_i32_808
  let v838 : BitVec 32 := Scalar.addi c0_i32_809 v837
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_810 : BitVec 32 := 1#32
  let v839 : BitVec 32 := Scalar.muli v5 c1_i32_810
  let v840 : BitVec 32 := Scalar.addi v838 v839
  v840.toNat
def k0_off2 (d0 : Dev nD) (c0_i32_857 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_856 : BitVec 32 := 256#32
  let v897 : BitVec 32 := Scalar.muli v5 c256_i32_856
  let v898 : BitVec 32 := Scalar.addi v897 c0_i32_857
  let v902 : Index := Scalar.indexCast v898
  let c0_860 : Index := 0#32
  ![v902.toNat, 0]
def k0_off3 (d0 : Dev nD) (c0_i32_857 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_856 : BitVec 32 := 256#32
  let v897 : BitVec 32 := Scalar.muli v5 c256_i32_856
  let v898 : BitVec 32 := Scalar.addi v897 c0_i32_857
  let c0_i32_866 : BitVec 32 := 0#32
  ![v898.toNat, 0]
def k0_dev9 (d0 : Dev nD) : Nat :=
  let c0_i32_864 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_863 : BitVec 32 := 2#32
  let v904 : BitVec 32 := Scalar.muli v2 c2_i32_863
  let v905 : BitVec 32 := Scalar.addi c0_i32_864 v904
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_865 : BitVec 32 := 1#32
  let v906 : BitVec 32 := Scalar.muli v7 c1_i32_865
  let v907 : BitVec 32 := Scalar.addi v905 v906
  v907.toNat
def k0_dev10 (d0 : Dev nD) : Nat :=
  let c0_i32_884 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_883 : BitVec 32 := 2#32
  let v929 : BitVec 32 := Scalar.muli v2 c2_i32_883
  let v930 : BitVec 32 := Scalar.addi c0_i32_884 v929
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_885 : BitVec 32 := 1#32
  let v931 : BitVec 32 := Scalar.muli v7 c1_i32_885
  let v932 : BitVec 32 := Scalar.addi v930 v931
  v932.toNat
def k0_dev11 (d0 : Dev nD) : Nat :=
  let c0_i32_904 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_903 : BitVec 32 := 2#32
  let v954 : BitVec 32 := Scalar.muli v2 c2_i32_903
  let v955 : BitVec 32 := Scalar.addi c0_i32_904 v954
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_905 : BitVec 32 := 1#32
  let v956 : BitVec 32 := Scalar.muli v7 c1_i32_905
  let v957 : BitVec 32 := Scalar.addi v955 v956
  v957.toNat
def k0_dev12 (d0 : Dev nD) : Nat :=
  let c0_i32_924 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_923 : BitVec 32 := 2#32
  let v979 : BitVec 32 := Scalar.muli v2 c2_i32_923
  let v980 : BitVec 32 := Scalar.addi c0_i32_924 v979
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_925 : BitVec 32 := 1#32
  let v981 : BitVec 32 := Scalar.muli v7 c1_i32_925
  let v982 : BitVec 32 := Scalar.addi v980 v981
  v982.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S8x1024x1024 : Shape := ⟨3, ![8, 1024, 1024]⟩
abbrev S1x1024 : Shape := ⟨2, ![1, 1024]⟩
abbrev S8 : Shape := ⟨1, ![8]⟩
abbrev S8x1 : Shape := ⟨2, ![8, 1]⟩
abbrev S8x1024 : Shape := ⟨2, ![8, 1024]⟩
abbrev S8x1024x1 : Shape := ⟨3, ![8, 1024, 1]⟩
abbrev S1x1024x1 : Shape := ⟨3, ![1, 1024, 1]⟩

abbrev nBuf : Space → Nat
  | .hbm => 70
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x2048, .f32⟩
  | .hbm, ⟨3, _⟩ => ⟨S8x2048x1024, .f32⟩
  | .hbm, ⟨4, _⟩ => ⟨S1024x8, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S8x2048x1024, .f32⟩
  | .hbm, ⟨19, _⟩ => ⟨S8x1024x2048, .f32⟩
  | .hbm, ⟨20, _⟩ => ⟨S_, .f32⟩
  | .hbm, ⟨21, _⟩ => ⟨S8x1024x2048, .f32⟩
  | .hbm, ⟨22, _⟩ => ⟨S8x1024x2048, .f32⟩
  | .hbm, ⟨23, _⟩ => ⟨S8x1024x1024, .f32⟩
  | .hbm, ⟨24, _⟩ => ⟨S_, .f32⟩
  | .hbm, ⟨25, _⟩ => ⟨S1024x1024, .f32⟩
  | .hbm, ⟨26, _⟩ => ⟨S1024x1, .i32⟩
  | .hbm, ⟨27, _⟩ => ⟨S1024, .i32⟩
  | .hbm, ⟨28, _⟩ => ⟨S1x1024, .i32⟩
  | .hbm, ⟨29, _⟩ => ⟨S8, .i32⟩
  | .hbm, ⟨30, _⟩ => ⟨S8x1, .i32⟩
  | .hbm, ⟨31, _⟩ => ⟨S8x1024, .i32⟩
  | .hbm, ⟨32, _⟩ => ⟨S8x1024, .i32⟩
  | .hbm, ⟨33, _⟩ => ⟨S8x1024, .i1⟩
  | .hbm, ⟨34, _⟩ => ⟨S8x1024x1, .i1⟩
  | .hbm, ⟨35, _⟩ => ⟨S1024x1, .f32⟩
  | .hbm, ⟨36, _⟩ => ⟨S1024, .f32⟩
  | .hbm, ⟨37, _⟩ => ⟨S1x1024x1, .f32⟩
  | .hbm, ⟨38, _⟩ => ⟨S8x1024x1024, .f32⟩
  | .hbm, ⟨39, _⟩ => ⟨S8x1024x1024, .f32⟩
  | .hbm, ⟨40, _⟩ => ⟨S_, .f32⟩
  | .hbm, ⟨41, _⟩ => ⟨S_, .f32⟩
  | .hbm, ⟨42, _⟩ => ⟨S8x1024x1024, .i1⟩
  | .hbm, ⟨43, _⟩ => ⟨S8x1024x1024, .f32⟩
  | .hbm, ⟨44, _⟩ => ⟨S8x1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1, .i32⟩
  | .hbm, ⟨49, _⟩ => ⟨S1024, .i32⟩
  | .hbm, ⟨50, _⟩ => ⟨S1x1024, .i32⟩
  | .hbm, ⟨51, _⟩ => ⟨S8, .i32⟩
  | .hbm, ⟨52, _⟩ => ⟨S8x1, .i32⟩
  | .hbm, ⟨53, _⟩ => ⟨S8x1024, .i32⟩
  | .hbm, ⟨54, _⟩ => ⟨S8x1024, .i32⟩
  | .hbm, ⟨55, _⟩ => ⟨S8x1024, .i1⟩
  | .hbm, ⟨56, _⟩ => ⟨S8x1024x1, .i1⟩
  | .hbm, ⟨57, _⟩ => ⟨S1024x1, .f32⟩
  | .hbm, ⟨58, _⟩ => ⟨S1024, .f32⟩
  | .hbm, ⟨59, _⟩ => ⟨S1x1024x1, .f32⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S_, .f32⟩
  | .hbm, ⟨64, _⟩ => ⟨S8x1024x1024, .i1⟩
  | .hbm, ⟨65, _⟩ => ⟨S8x1024x1024, .f32⟩
  | .hbm, ⟨66, _⟩ => ⟨S8x1024x1024, .f32⟩
  | .hbm, ⟨67, _⟩ => ⟨S_, .f32⟩
  | .hbm, ⟨68, _⟩ => ⟨S1024x1024, .f32⟩
  | .hbm, ⟨69, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.ICommon.lean ====
/-
# The exchange between the four devices: cells, contents, schedule

The kernel runs on a 2 × 2 mesh. Device `c` talks to two neighbours: `xn c` differs from `c` in the first mesh axis
and holds the other four experts of the same tokens; `yn c` differs in the second axis and holds the same experts and
the same tokens, of which the two devices work on one half each. This file names the semaphore cells the devices
signal each other through, the contents every buffer holds when it changes hands, and the schedule of who hands what
to whom.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The ghost state: the pipeline's cells, the exchange's cells, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL

/-- Where the exchange's rounds live among the certificate's ghost state. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance ER_lands : (ER : Emb UB 𝕄).LandsIn (upEmb : UEmb _ 𝕄) := by
  unfold ER; infer_instance

abbrev EC : UEmb Counters (MT nD τ sig Unit (Elt F) ℕ UU ℕ) := countersEmb

variable (m : (ℓ : Loc nD τ sig) → Buf (Elt F) ℓ) (ρ : Dev nD → PrngReg)

/-- The state the devices start from: the memory `m`, every counter at zero. -/
def st₀ : MemSt nD τ sig (Elt F) := ⟨m, fun _ => 0, ρ⟩

/-! ## The neighbours -/

/-- The neighbour along the first axis: the other experts, the same tokens. -/
def xn (c : Dev nD) : Dev nD := ⟨(c.val % 2 + 2) - 2 * (c.val / 2), by revert c; decide⟩
/-- The neighbour along the second axis: the same experts, the same tokens. -/
def yn (c : Dev nD) : Dev nD := ⟨(2 * (c.val / 2) + 1) - c.val % 2, by revert c; decide⟩

theorem xn_xn (c : Dev nD) : xn (xn c) = c := by revert c; decide
theorem yn_yn (c : Dev nD) : yn (yn c) = c := by revert c; decide

def xSwap : Dev nD ≃ Dev nD := ⟨xn, xn, xn_xn, xn_xn⟩
def ySwap : Dev nD ≃ Dev nD := ⟨yn, yn, yn_yn, yn_yn⟩

theorem xn_mod (c : Dev nD) : (xn c).val % 2 = c.val % 2 := by revert c; decide
theorem yn_mod (c : Dev nD) : (yn c).val % 2 = 1 - c.val % 2 := by revert c; decide
theorem yn_div (c : Dev nD) : (yn c).val / 2 = c.val / 2 := by revert c; decide

theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = xn c := Fin.ext (k0_dev4_eq c)
theorem dev5_eq (c : Dev nD) : (⟨k0_dev5 c, k0_dev5_lt c⟩ : Dev nD) = xn c := Fin.ext (k0_dev5_eq c)
theorem dev6_eq (c : Dev nD) : (⟨k0_dev6 c, k0_dev6_lt c⟩ : Dev nD) = xn c := Fin.ext (k0_dev6_eq c)
theorem dev7_eq (c : Dev nD) : (⟨k0_dev7 c, k0_dev7_lt c⟩ : Dev nD) = xn c := Fin.ext (k0_dev7_eq c)
theorem dev8_eq (c : Dev nD) : (⟨k0_dev8 c, k0_dev8_lt c⟩ : Dev nD) = xn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = yn c := Fin.ext (k0_dev10_eq c)
theorem dev11_eq (c : Dev nD) : (⟨k0_dev11 c, k0_dev11_lt c⟩ : Dev nD) = yn c := Fin.ext (k0_dev11_eq c)
theorem dev12_eq (c : Dev nD) : (⟨k0_dev12 c, k0_dev12_lt c⟩ : Dev nD) = yn c := Fin.ext (k0_dev12_eq c)

/-! ## The memrefs -/

abbrev xM : Memref sig .tc .vmem S512x1024 .f32 := Memref.whole cc0_stg0_0
abbrev rM : Memref sig .tc .vmem S1024x4 .f32 := Memref.whole cc0_stg1_0
abbrev oM : Memref sig .tc .vmem S512x1024 .f32 := Memref.whole cc0_stg2_0
abbrev h1M : Memref sig .tc .hbm S4x1024x2048 .f32 := Memref.whole main_arg2
abbrev h2M : Memref sig .tc .hbm S4x2048x1024 .f32 := Memref.whole main_arg3
abbrev rrM : Memref sig .tc .vmem S1024x4 .f32 := Memref.whole cc0_scratch0
abbrev xcM : Memref sig .tc .vmem S512x1024 .f32 := Memref.whole cc0_scratch1
abbrev xbM : Memref sig .tc .vmem S512x1024 .bf16 := Memref.whole cc0_scratch2
abbrev psM : Memref sig .tc .vmem S256x1024 .f32 := Memref.whole cc0_scratch3
abbrev prM : Memref sig .tc .vmem S256x1024 .f32 := Memref.whole cc0_scratch4
abbrev w1M : Memref sig .tc .vmem S4x1024x2048 .bf16 := Memref.whole cc0_scratch5
abbrev w2M : Memref sig .tc .vmem S4x2048x1024 .bf16 := Memref.whole cc0_scratch6
abbrev g1M : Memref sig .tc .vmem S2x256x2048 .f32 := Memref.whole cc0_scratch7
abbrev g2M : Memref sig .tc .vmem S2x512x1024 .f32 := Memref.whole cc0_scratch8

/-- The lower and the upper half of the token buffer's rows. -/
abbrev rlo : Rect S512x1024 := Rect.unit (s := S512x1024) ![0, 0] S256x1024.size inb_S512x1024_S256x1024_0_0
abbrev rhi : Rect S512x1024 := Rect.unit (s := S512x1024) ![256, 0] S256x1024.size inb_S512x1024_S256x1024_256_0
/-- The rows of the block a device works on. -/
abbrev rown (c : Dev nD) : Rect S512x1024 := Rect.unit (s := S512x1024) (k0_off1 c) S256x1024.size (k0_off1_inb c)

abbrev xlM : Memref sig .tc .vmem S256x1024 .f32 := xcM.slice rlo (fun _ => rfl)
abbrev xhM : Memref sig .tc .vmem S256x1024 .f32 := xcM.slice rhi (fun _ => rfl)

theorem inb_chunk (r : Fin 4) : ∀ a, (![64 * r.val, 0] : Fin 2 → Nat) a + S64x1024.size a ≤ S256x1024.size a := by
  revert r; decide

/-- The `r`-th quarter of the 256 rows, the unit the partial sums and the results travel in. -/
abbrev rch (r : Fin 4) : Rect S256x1024 := Rect.unit (s := S256x1024) ![64 * r.val, 0] S64x1024.size (inb_chunk r)
abbrev psC (r : Fin 4) : Memref sig .tc .vmem S64x1024 .f32 := psM.slice (rch r) (fun _ => rfl)
abbrev prC (r : Fin 4) : Memref sig .tc .vmem S64x1024 .f32 := prM.slice (rch r) (fun _ => rfl)
abbrev ro (d : Dev nD) (r : Fin 4) : Rect S512x1024 :=
  Rect.unit (s := S512x1024) (k0_off3 d (BitVec.ofNat 32 (64 * r.val))) S64x1024.size (k0_off3_inb d r)
abbrev ro' (d : Dev nD) (r : Fin 4) : Rect S512x1024 :=
  Rect.unit (s := S512x1024) (k0_off2 d (BitVec.ofNat 32 (64 * r.val))) S64x1024.size (k0_off2_inb d r)
abbrev oC (d : Dev nD) (r : Fin 4) : Memref sig .tc .vmem S64x1024 .f32 := oM.slice (ro d r) (fun _ => rfl)

/-! ## The cells -/

abbrev barS : Sem sig := ((SemArray.scalar (sig.barrier 0 rfl)) : Sems sig S_).sem
abbrev barCell (c : Dev nD) : GSem nD τ sig := ((c : Thread nD τ), .reg barS)
abbrev dq (k : ℕ) (h : k < 27 := by decide) : DmaSem sig := ⟨k, h⟩
abbrev dCell (c : Dev nD) (k : ℕ) (h : k < 27 := by decide) : GSem nD τ sig := ((c : Thread nD τ), .dma (dq k h))

/-- The exchange's cells of one device: the barrier and the twenty transfer semaphores 3 … 22. -/
def slot : Fin 21 → SemLoc sig := fun j => if h : j.val = 0 then .reg barS else .dma ⟨j.val + 2, by have := j.isLt; show _ < 27; omega⟩
abbrev kcell (ck : Dev nD × Fin 21) : GSem nD τ sig := ((ck.1 : Thread nD τ), slot ck.2)

abbrev Nr : ℕ := (rrM : Memref sig .tc .vmem S1024x4 .f32).view.dmaCredit
abbrev Nx : ℕ := (xhM : Memref sig .tc .vmem S256x1024 .f32).view.dmaCredit
abbrev Nc : ℕ := (prC 0 : Memref sig .tc .vmem S64x1024 .f32).view.dmaCredit
theorem Nr_pos : 0 < Nr := View.dmaCredit_pos _ (by decide)
theorem Nx_pos : 0 < Nx := View.dmaCredit_pos _ (by decide)
theorem Nc_pos : 0 < Nc := View.dmaCredit_pos _ (by decide)

/-! ## The contents -/

/-- The token block staged on device `c`. -/
def xstg (c : Dev nD) : (cc0_stg0_0 : Ref sig .tc).ty.Contents (Elt F) :=
  (win0_0.blk (0 : Fin 1)).view.read (Elt F) (m ((c : Thread nD τ).loc main_arg0))
/-- The router columns staged on device `c`. -/
def rstg (c : Dev nD) : (cc0_stg1_0 : Ref sig .tc).ty.Contents (Elt F) :=
  (win0_1.blk (0 : Fin 1)).view.read (Elt F) (m ((c : Thread nD τ).loc main_arg1))

/-- The half of its tokens device `c` works on. -/
def xlo (c : Dev nD) : Vec F S256x1024 .f32 := k0_pay1 ((xM).view.readAt (Elt F) (rown c).toLoadRect (xstg m c))

/-- The place inside a half of a row of the whole. -/
def sub (i : S512x1024.Idx) : S256x1024.Idx := fun
  | ⟨0, _⟩ => ⟨(i (0 : Fin 2)).val % 256, Nat.mod_lt _ (by decide)⟩
  | ⟨1, _⟩ => ⟨(i (1 : Fin 2)).val, (i (1 : Fin 2)).isLt⟩

/-- The token buffer: the device's own half in the lower rows, its neighbour's in the upper rows. -/
def XC (c : Dev nD) : S512x1024.Idx → Elt F .f32 := fun i =>
  if (i (0 : Fin 2)).val < 256 then xlo m c (sub i) else xlo m (xn c) (sub i)

/-- The weights rounded to bf16. -/
def BF1 (c : Dev nD) : S4x1024x2048.Idx → Elt F .bf16 := truncf .bf16 (m ((c : Thread nD τ).loc main_arg2) : FVec F S4x1024x2048 .f32) bitsLt_bf16_f32
def BF2 (c : Dev nD) : S4x2048x1024.Idx → Elt F .bf16 := truncf .bf16 (m ((c : Thread nD τ).loc main_arg3) : FVec F S4x2048x1024 .f32) bitsLt_bf16_f32

theorem inb_w1 (e : Fin 4) : ∀ a, (![e.val, 0, 0] : Fin 3 → Nat) a + S1x1024x2048.size a ≤ S4x1024x2048.size a := by revert e; decide
theorem inb_w2 (e : Fin 4) : ∀ a, (![e.val, 0, 0] : Fin 3 → Nat) a + S1x2048x1024.size a ≤ S4x2048x1024.size a := by revert e; decide
abbrev re1 (e : Fin 4) : Rect S4x1024x2048 := Rect.unit (s := S4x1024x2048) ![e.val, 0, 0] S1x1024x2048.size (inb_w1 e)
abbrev re2 (e : Fin 4) : Rect S4x2048x1024 := Rect.unit (s := S4x2048x1024) ![e.val, 0, 0] S1x2048x1024.size (inb_w2 e)
def W1e (c : Dev nD) (e : Fin 4) : Vec F S1x1024x2048 .bf16 := (w1M).view.readAt (Elt F) (re1 e).toLoadRect (BF1 m c)
def W2e (c : Dev nD) (e : Fin 4) : Vec F S1x2048x1024 .bf16 := (w2M).view.readAt (Elt F) (re2 e).toLoadRect (BF2 m c)

/-- The weights of the device's own experts for the tokens `x`, `r` its own router columns and `r'` its neighbour's. -/
def gateLo (x : Vec F S256x1024 .f32) (r r' : Vec F S1024x4 .f32) : FVec F S256x4 .f32 :=
  k0_pay6 (k0_pay2 x r) (k0_pay3 x r') (k0_pay4 x r r') (k0_pay5 x r r')
def gateHi (x : Vec F S256x1024 .f32) (r r' : Vec F S1024x4 .f32) : FVec F S256x4 .f32 :=
  k0_pay31 (k0_pay27 x r) (k0_pay28 x r') (k0_pay29 x r) (k0_pay30 x r')

def wlo (c : Dev nD) : FVec F S256x4 .f32 := gateLo (xlo m c) (rstg m c) (rstg m (xn c))
def whi (c : Dev nD) : FVec F S256x4 .f32 := gateHi (xlo m (xn c)) (rstg m c) (rstg m (xn c))
def blo (c : Dev nD) : FVec F S256x1024 .bf16 := k0_pay7 (xlo m c)
def bhi (c : Dev nD) : FVec F S256x1024 .bf16 := k0_pay32 (xlo m (xn c))

/-- The device's experts' share of its neighbour's tokens. -/
def accHi (c : Dev nD) : FVec F S256x1024 .f32 :=
  k0_pay53 (whi m c) (k0_pay43 (whi m c) (k0_pay33 (whi m c) (bhi m c) (W1e m c 0) (W2e m c 0) (bhi m c) (W1e m c 1) (W2e m c 1))
    (bhi m c) (W1e m c 2) (W2e m c 2)) (bhi m c) (W1e m c 3) (W2e m c 3)

/-- The first expert's share of the device's own tokens, then the first three experts'. -/
def acc0 (c : Dev nD) : FVec F S256x1024 .f32 := k0_pay17 (wlo m c) (blo m c) (W1e m c 0) (W2e m c 0)
def acc2 (c : Dev nD) : FVec F S256x1024 .f32 :=
  k0_pay54 (wlo m c) (acc0 m c) (blo m c) (W1e m c 1) (W2e m c 1) (blo m c) (W1e m c 2) (W2e m c 2)
/-- The device's experts' share of its own tokens. -/
def accLo (c : Dev nD) : FVec F S256x1024 .f32 :=
  k0_pay57 (wlo m c) (acc2 m c) (k0_pay55 (blo m c) (W1e m c 3)) k0_pay56 (W2e m c 3)

/-- The result for the device's own tokens: its own experts' share and its neighbour's. -/
def sums (c : Dev nD) : FVec F S256x1024 .f32 := addf (accLo m c) (accHi m (xn c))

/-- The device in column `h` of the same row of the mesh. -/
def colDev (c : Dev nD) (h : ℕ) (hh : h < 2) : Dev nD := ⟨2 * (c.val / 2) + h, by have := c.isLt; show _ < 4; have : c.val < 4 := c.isLt; omega⟩

theorem row_half (i : S512x1024.Idx) : (i (0 : Fin 2)).val / 256 < 2 := by
  have : (i (0 : Fin 2)).val < 512 := (i (0 : Fin 2)).isLt
  omega

/-- The result block: each half of the rows from the device that worked on it. -/
def OUT (c : Dev nD) : S512x1024.Idx → Elt F .f32 := fun i => sums m (colDev c ((i (0 : Fin 2)).val / 256) (row_half i)) (sub i)

/-! ## The schedule -/

section Pays
variable (c : Dev nD)

/-- A part of a buffer of device `c`, at the given contents. -/
abbrev own (v : Ref sig .tc) (S : Finset (Idx ((c : Thread nD τ).loc v))) (f : Buf (Elt F) ((c : Thread nD τ).loc v)) : sProp 𝕄 :=
  ((c : Thread nD τ).loc v) ↦[S]{fullShare} f

/-- What `xn c`'s barrier signal hands `c`: the three landing places on `xn c`. -/
def barX : sProp 𝕄 :=
  iprop((∃ f, own (xn c) cc0_scratch0 Finset.univ f) ∗ (∃ f, own (xn c) cc0_scratch1 (xhM).view.set f) ∗ (∃ f, own (xn c) cc0_scratch4 Finset.univ f))
/-- What `yn c`'s barrier signal hands `c`: the rows of `yn c`'s result that `c` computes. -/
def barY : sProp 𝕄 :=
  iprop((∃ f, own (yn c) cc0_stg2_0 (oC c 0).view.set f) ∗ (∃ f, own (yn c) cc0_stg2_0 (oC c 1).view.set f)
    ∗ (∃ f, own (yn c) cc0_stg2_0 (oC c 2).view.set f) ∗ (∃ f, own (yn c) cc0_stg2_0 (oC c 3).view.set f))

/-- What the transfer semaphores hand over, by number. -/
def pay : ℕ → sProp 𝕄
  | 3 => own c cc0_scratch0 Finset.univ (rstg m (xn c))
  | 4 => own c cc0_scratch1 (xhM).view.set (XC m c)
  | 5 => own c cc0_stg1_0 Finset.univ (rstg m c)
  | 6 => iprop(((c : Thread nD τ).loc cc0_scratch1) ↦[(xlM).view.set]{(fullShare).left} XC m c)
  | 7 => own c cc0_scratch4 (prC 0).view.set (accHi m (xn c))
  | 8 => own c cc0_scratch4 (prC 1).view.set (accHi m (xn c))
  | 9 => own c cc0_scratch4 (prC 2).view.set (accHi m (xn c))
  | 10 => own c cc0_scratch4 (prC 3).view.set (accHi m (xn c))
  | 11 => own c cc0_scratch3 (psC 0).view.set (accHi m c)
  | 12 => own c cc0_scratch3 (psC 1).view.set (accHi m c)
  | 13 => own c cc0_scratch3 (psC 2).view.set (accHi m c)
  | 14 => own c cc0_scratch3 (psC 3).view.set (accHi m c)
  | 15 => own c cc0_stg2_0 (oC (yn c) 0).view.set (OUT m c)
  | 16 => own c cc0_stg2_0 (oC (yn c) 1).view.set (OUT m c)
  | 17 => own c cc0_stg2_0 (oC (yn c) 2).view.set (OUT m c)
  | 18 => own c cc0_stg2_0 (oC (yn c) 3).view.set (OUT m c)
  | 19 => own c cc0_stg2_0 (oC c 0).view.set (OUT m c)
  | 20 => own c cc0_stg2_0 (oC c 1).view.set (OUT m c)
  | 21 => own c cc0_stg2_0 (oC c 2).view.set (OUT m c)
  | 22 => own c cc0_stg2_0 (oC c 3).view.set (OUT m c)
  | _ => iprop(emp)

end Pays

/-- How many units the transfer semaphore of the given number receives. -/
def amt (k : ℕ) : ℕ := if k = 3 ∨ k = 5 then Nr else if k = 4 ∨ k = 6 then Nx else Nc
theorem amt_pos (k : ℕ) : 0 < amt k := by
  unfold amt; split
  · exact Nr_pos
  · split
    · exact Nx_pos
    · exact Nc_pos

/-- Every cell of the exchange is used in one round: the barrier by its two neighbours, a transfer's cell by one transfer. -/
def sched : Rounds.Schedule (GSem nD τ sig) Bool 𝕄 where
  duties g r := if r = 0 ∧ g.1.2 = .tc then (match g.2 with | .reg _ => {true, false} | .dma q => if 3 ≤ q.val ∧ q.val < 23 then {true} else ∅) else ∅
  unitless _ := False
  amount g _ _ := match g.2 with | .reg _ => 1 | .dma q => amt q.val
  payload g _ d := match g.2 with
    | .reg _ => if d then barX g.1.1 else barY g.1.1
    | .dma q => pay m g.1.1 q.val
  amount_pos g _ _ _ := by
    rcases g with ⟨t, _ | q⟩
    · exact Nat.one_pos
    · exact amt_pos _

instance pay_storable (c : Dev nD) (k : ℕ) : BI.Storable (upEmb : UEmb _ 𝕄) (pay m c k) := by
  unfold pay own; split <;> infer_instance
instance barX_storable (c : Dev nD) : BI.Storable (upEmb : UEmb _ 𝕄) (barX (F := F) c) := by unfold barX own; infer_instance
instance barY_storable (c : Dev nD) : BI.Storable (upEmb : UEmb _ 𝕄) (barY (F := F) c) := by unfold barY own; infer_instance

instance sched_storable (g : GSem nD τ sig) (r : ℕ) (d : Bool) : BI.Storable (upEmb : UEmb _ 𝕄) ((sched (F := F) m).payload g r d) := by
  rcases g with ⟨t, _ | q⟩
  · show BI.Storable upEmb (if d then barX t.1 else barY t.1)
    split <;> infer_instance
  · show BI.Storable upEmb (pay m t.1 q.val)
    infer_instance

/-! ### The schedule's entries -/

section Entries
variable (c : Dev nD)

theorem duties_bar : (sched (F := F) m).duties (barCell c) 0 = {true, false} := by dsimp only [sched]; exact if_pos ⟨rfl, rfl⟩
theorem duties_dma (k : ℕ) (hk : k < 27) (h : 3 ≤ k ∧ k < 23) : (sched (F := F) m).duties (dCell c k hk) 0 = {true} := by
  dsimp only [sched]; rw [if_pos ⟨rfl, rfl⟩]; exact if_pos h
theorem duties_later (g : GSem nD τ sig) : ∀ r, 1 ≤ r → (sched (F := F) m).duties g r = ∅ :=
  fun r hr => by dsimp only [sched]; exact if_neg fun h => by omega
theorem expect_bar : (sched (F := F) m).expect (barCell c) 0 = 2 := by
  unfold Schedule.expect Schedule.amountOf; rw [duties_bar, Finset.sum_pair (by decide)]; rfl
theorem expect_dma (k : ℕ) (hk : k < 27) (h : 3 ≤ k ∧ k < 23) : (sched (F := F) m).expect (dCell c k hk) 0 = amt k := by
  unfold Schedule.expect Schedule.amountOf; rw [duties_dma m c k hk h, Finset.sum_singleton]; rfl
theorem rest_bar : bigSep ((sched (F := F) m).duties (barCell c) 0 \ ∅) (fun d => (sched (F := F) m).payload (barCell c) 0 d) = iprop(barX c ∗ barY c) := by
  rw [Finset.sdiff_empty, duties_bar, bigSep_insert (by decide), bigSep_singleton]; rfl
theorem rest_dma (k : ℕ) (hk : k < 27) (h : 3 ≤ k ∧ k < 23) :
    bigSep ((sched (F := F) m).duties (dCell c k hk) 0 \ ∅) (fun d => (sched (F := F) m).payload (dCell c k hk) 0 d) = pay m c k := by
  rw [Finset.sdiff_empty, duties_dma m c k hk h, bigSep_singleton]; rfl

end Entries

/-! ## What a device owes, and the order of the waits -/

/-- The units of a list of cells, summed; the head comes off on the right. -/
def tl : List (GSem nD τ sig × ℕ) → CellTallies nD τ sig Unit
  | [] => 0
  | p :: ps => tl ps + tallyAt p.1 () p.2

theorem tl_pos {l : List (GSem nD τ sig × ℕ)} {g : GSem nD τ sig} {u : Unit} (h : 0 < tl l g u) : ∃ p ∈ l, p.1 = g := by
  induction l with
  | nil => exact absurd h (Nat.lt_irrefl 0)
  | cons p ps ih =>
    unfold tl at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨p', hp', e⟩ := ih h
      exact ⟨p', List.mem_cons_of_mem _ hp', e⟩

def oweOut (c : Dev nD) : List (GSem nD τ sig × ℕ) := [(dCell (yn c) 15, Nc), (dCell (yn c) 16, Nc), (dCell (yn c) 17, Nc), (dCell (yn c) 18, Nc)]
def oweSum (c : Dev nD) : List (GSem nD τ sig × ℕ) :=
  (dCell (xn c) 7, Nc) :: (dCell (xn c) 8, Nc) :: (dCell (xn c) 9, Nc) :: (dCell (xn c) 10, Nc) :: oweOut c
def oweAll (c : Dev nD) : List (GSem nD τ sig × ℕ) :=
  (barCell (xn c), 1) :: (barCell (yn c), 1) :: (dCell (xn c) 3, Nr) :: (dCell (xn c) 4, Nx) :: oweSum c

def L (g : GSem nD τ sig) : Finset Unit := if g.1.2 = .tc then {()} else ∅
def lvl : SemLoc sig → ℕ
  | .reg _ => 1
  | .dma q => if q.val = 3 then 2 else if q.val = 4 then 3 else if 7 ≤ q.val ∧ q.val ≤ 10 then 4 else if 15 ≤ q.val ∧ q.val ≤ 18 then 5 else 0
def lv (g : GSem nD τ sig) (_ : Unit) : ℕ := lvl g.2
theorem L_of_ne (g : GSem nD τ sig) (h : g.1.2 ≠ .tc) : L g = ∅ := if_neg h
theorem L_tc (c : Dev nD) (sm : SemLoc sig) : L ((c : Thread nD τ), sm) = {()} := if_pos rfl

/-- A device may wait on a cell that stands below every cell it still owes. -/
theorem mayWait_tl (c : Dev nD) (sm : SemLoc sig) (l : List (GSem nD τ sig × ℕ)) (h : ∀ p ∈ l, p.1.1.2 = .tc ∧ lvl sm < lvl p.1.2) :
    (levAts L lv : sProp 𝕄) ⊢ MayWait (c : Thread nD τ) sm () (tl l) :=
  MayOwe.of_cut (L := L) (lev := lv) (lvl sm) (fun p hp => by rw [Finset.mem_singleton.mp hp, L_tc]; exact Finset.mem_singleton_self _)
    (fun g u hg => by
      obtain ⟨p, hp, rfl⟩ := tl_pos hg
      unfold L; rw [if_pos (h p hp).1]; exact Finset.mem_singleton_self _)
    (fun p hp => by rw [Finset.mem_singleton.mp hp]; exact le_refl _)
    (fun g u hg => by
      obtain ⟨p, hp, rfl⟩ := tl_pos hg
      exact (h p hp).2)

theorem above_out (c : Dev nD) (sm : SemLoc sig) (hs : lvl sm < 5) : ∀ p ∈ oweOut c, p.1.1.2 = .tc ∧ lvl sm < lvl p.1.2 :=
  List.forall_mem_cons.mpr ⟨⟨rfl, hs⟩, List.forall_mem_cons.mpr ⟨⟨rfl, hs⟩, List.forall_mem_cons.mpr ⟨⟨rfl, hs⟩,
    List.forall_mem_cons.mpr ⟨⟨rfl, hs⟩, List.forall_mem_nil _⟩⟩⟩⟩
theorem above_sum (c : Dev nD) (sm : SemLoc sig) (hs : lvl sm < 4) : ∀ p ∈ oweSum c, p.1.1.2 = .tc ∧ lvl sm < lvl p.1.2 :=
  List.forall_mem_cons.mpr ⟨⟨rfl, hs⟩, List.forall_mem_cons.mpr ⟨⟨rfl, hs⟩, List.forall_mem_cons.mpr ⟨⟨rfl, hs⟩,
    List.forall_mem_cons.mpr ⟨⟨rfl, hs⟩, above_out c sm (Nat.lt_trans hs (by decide))⟩⟩⟩⟩
theorem above_bar (c : Dev nD) (sm : SemLoc sig) (hs : lvl sm < 2) :
    ∀ p ∈ (dCell (xn c) 3, Nr) :: (dCell (xn c) 4, Nx) :: oweSum c, p.1.1.2 = .tc ∧ lvl sm < lvl p.1.2 :=
  List.forall_mem_cons.mpr ⟨⟨rfl, hs⟩, List.forall_mem_cons.mpr ⟨⟨rfl, Nat.lt_trans hs (show 2 < 3 from by decide)⟩, above_sum c sm (Nat.lt_trans hs (by decide))⟩⟩
theorem above_all (c : Dev nD) (sm : SemLoc sig) (hs : lvl sm < 1) : ∀ p ∈ oweAll c, p.1.1.2 = .tc ∧ lvl sm < lvl p.1.2 :=
  List.forall_mem_cons.mpr ⟨⟨rfl, hs⟩, List.forall_mem_cons.mpr ⟨⟨rfl, hs⟩, above_bar c sm (Nat.lt_trans hs (by decide))⟩⟩

end Cert.KernelIdealProof

end
-- ==== Proof.IViews.lean ====
/-
# Where the pieces of the buffers lie, and what is read and written there
-/
module

public import proofs.«01_k».proof.Proof.ICommon

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Writing and reading rectangles of whole buffers -/

section Rects
variable {b : Ref sig .tc} (r : Rect b.ty.shape) (f : b.ty.Contents (Elt F)) (w : r.shape.Idx → Elt F b.ty.elt)

/-- A rectangle's element after the rectangle was written. -/
theorem wr_at (x : r.shape.Idx) : ((View.whole b).slice r).write (Elt F) f w Finset.univ (r.emb x) = w x := by
  have := ((View.whole b).slice r).write_emb_of_mem (Val := Elt F) f w (M := Finset.univ) (x := x) (Finset.mem_univ _)
  exact this

/-- Writing a rectangle with the restriction of `G` leaves `G` there. -/
theorem wr_on (G : b.ty.Contents (Elt F)) (h : ∀ x, w x = G (r.emb x)) :
    ∀ i ∈ ((View.whole b).slice r).set, ((View.whole b).slice r).write (Elt F) f w Finset.univ i = G i := by
  intro i hi
  obtain ⟨x, -, rfl⟩ := Finset.mem_map.mp hi
  exact (wr_at r f w x).trans (h x)

/-- Writing a rectangle leaves the rest of the buffer. -/
theorem wr_off {i : b.ty.shape.Idx} (hi : i ∉ r.set) : ((View.whole b).slice r).write (Elt F) f w Finset.univ i = f i := by
  refine View.write_of_not_mem _ _ _ ?_
  rw [View.setOn_univ, View.set_slice_whole]; exact hi

end Rects

/-- The place of an element of a block of rows inside the whole. -/
theorem emb_val {s : Shape} (r : Rect s) (h : ∀ a, r.stride a = 1) (x : r.shape.Idx) (a : Fin s.rank) :
    (r.emb x a).val = r.off a + (x a).val := by
  rw [Rect.emb_apply, h a, Nat.one_mul]

/-! ## The token buffer -/

theorem sub_row (i : S512x1024.Idx) (x : S256x1024.Idx) (h0 : (i (0 : Fin 2)).val % 256 = (x (0 : Fin 2)).val)
    (h1 : (i (1 : Fin 2)).val = (x (1 : Fin 2)).val) : sub i = x := by
  funext a
  match a with
  | ⟨0, _⟩ => exact Fin.ext h0
  | ⟨1, _⟩ => exact Fin.ext h1

theorem row_lt (x : S256x1024.Idx) : (x (0 : Fin 2)).val < 256 := (x (0 : Fin 2)).isLt
theorem row64_lt (x : S64x1024.Idx) : (x (0 : Fin 2)).val < 64 := (x (0 : Fin 2)).isLt

theorem XC_lo (c : Dev nD) (x : S256x1024.Idx) : XC m c (rlo.emb x) = xlo m c x := by
  have h0 : (rlo.emb x (0 : Fin 2)).val = 0 + (x (0 : Fin 2)).val := emb_val rlo (fun _ => rfl) x (0 : Fin 2)
  have h1 : (rlo.emb x (1 : Fin 2)).val = 0 + (x (1 : Fin 2)).val := emb_val rlo (fun _ => rfl) x (1 : Fin 2)
  have hx := row_lt x
  unfold XC
  rw [if_pos (by omega), sub_row (rlo.emb x) x (by omega) (by omega)]
theorem XC_hi (c : Dev nD) (x : S256x1024.Idx) : XC m c (rhi.emb x) = xlo m (xn c) x := by
  have h0 : (rhi.emb x (0 : Fin 2)).val = 256 + (x (0 : Fin 2)).val := emb_val rhi (fun _ => rfl) x (0 : Fin 2)
  have h1 : (rhi.emb x (1 : Fin 2)).val = 0 + (x (1 : Fin 2)).val := emb_val rhi (fun _ => rfl) x (1 : Fin 2)
  have hx := row_lt x
  unfold XC
  rw [if_neg (by omega), sub_row (rhi.emb x) x (by omega) (by omega)]

theorem read_lo (c : Dev nD) : (xcM).view.readAt (Elt F) rlo.toLoadRect (XC m c) = xlo m c := funext fun x => XC_lo m c x
theorem read_hi (c : Dev nD) : (xcM).view.readAt (Elt F) rhi.toLoadRect (XC m c) = xlo m (xn c) := funext fun x => XC_hi m c x

/-- The store of the device's own half. -/
theorem store_lo (c : Dev nD) (f : (cc0_scratch1 : Ref sig .tc).ty.Contents (Elt F)) :
    ∀ i ∈ (xlM).view.set, ((xcM).access rlo : View sig .tc _ _ _).write (Elt F) f (xlo m c) Finset.univ i = XC m c i :=
  wr_on (b := cc0_scratch1) rlo f _ (XC m c) fun x => (XC_lo m c x).symm
/-- The landing of the neighbour's half. -/
theorem land_hi (c : Dev nD) (f : (cc0_scratch1 : Ref sig .tc).ty.Contents (Elt F)) :
    ∀ i ∈ (xhM).view.set, (xhM).view.write (Elt F) f ((xlM).view.read (Elt F) (XC m (xn c))) Finset.univ i = XC m c i :=
  wr_on (b := cc0_scratch1) rhi f _ (XC m c) fun x => (XC_lo m (xn c) x).trans (XC_hi m c x).symm

theorem lo_hi_disjoint : Disjoint (xlM).view.set (xhM).view.set := by
  show Disjoint ((View.whole cc0_scratch1).slice rlo).set ((View.whole cc0_scratch1).slice rhi).set
  rw [View.set_slice_whole, View.set_slice_whole, Finset.disjoint_left]
  intro i h h'
  have a := Rect.mem_set_unit.mp h (0 : Fin 2)
  have b := Rect.mem_set_unit.mp h' (0 : Fin 2)
  have a2 : (i (0 : Fin 2)).val < 0 + 256 := a.2
  have b1 : 256 ≤ (i (0 : Fin 2)).val := b.1
  omega
theorem lo_hi_union : (xlM).view.set ∪ (xhM).view.set = Finset.univ := by
  show ((View.whole cc0_scratch1).slice rlo).set ∪ ((View.whole cc0_scratch1).slice rhi).set = Finset.univ
  rw [View.set_slice_whole, View.set_slice_whole]
  refine Finset.eq_univ_iff_forall.mpr fun i => Finset.mem_union.mpr ?_
  have i0 : (i (0 : Fin 2)).val < 512 := (i (0 : Fin 2)).isLt
  have i1 : (i (1 : Fin 2)).val < 1024 := (i (1 : Fin 2)).isLt
  by_cases h : (i (0 : Fin 2)).val < 256
  · refine .inl (Rect.mem_set_unit.mpr fun a => ?_)
    match a with
    | ⟨0, _⟩ => exact ⟨Nat.zero_le _, by show (i (0 : Fin 2)).val < 0 + 256; omega⟩
    | ⟨1, _⟩ => exact ⟨Nat.zero_le _, by show (i (1 : Fin 2)).val < 0 + 1024; omega⟩
  · refine .inr (Rect.mem_set_unit.mpr fun a => ?_)
    match a with
    | ⟨0, _⟩ => exact ⟨by show 256 ≤ (i (0 : Fin 2)).val; omega, by show (i (0 : Fin 2)).val < 256 + 256; omega⟩
    | ⟨1, _⟩ => exact ⟨Nat.zero_le _, by show (i (1 : Fin 2)).val < 0 + 1024; omega⟩

/-! ## The rounded tokens -/

theorem read_lo_store (f : (cc0_scratch2 : Ref sig .tc).ty.Contents (Elt F)) (w : Vec F S256x1024 .bf16) :
    (xbM).view.readAt (Elt F) rlo.toLoadRect (((xbM).access rlo : View sig .tc _ _ _).write (Elt F) f w Finset.univ) = w :=
  funext fun x => wr_at (b := cc0_scratch2) rlo f w x
theorem read_hi_store (f : (cc0_scratch2 : Ref sig .tc).ty.Contents (Elt F)) (w : Vec F S256x1024 .bf16) :
    (xbM).view.readAt (Elt F) rhi.toLoadRect (((xbM).access rhi : View sig .tc _ _ _).write (Elt F) f w Finset.univ) = w :=
  funext fun x => wr_at (b := cc0_scratch2) rhi f w x
theorem read_lo_store_hi (f : (cc0_scratch2 : Ref sig .tc).ty.Contents (Elt F)) (w : Vec F S256x1024 .bf16) :
    (xbM).view.readAt (Elt F) rlo.toLoadRect (((xbM).access rhi : View sig .tc _ _ _).write (Elt F) f w Finset.univ)
      = (xbM).view.readAt (Elt F) rlo.toLoadRect f := funext fun x =>
  wr_off (b := cc0_scratch2) rhi f w (i := rlo.emb x) fun h => by
    have b := (Rect.mem_set_unit.mp h (0 : Fin 2)).1
    have h0 : (rlo.emb x (0 : Fin 2)).val = 0 + (x (0 : Fin 2)).val := emb_val rlo (fun _ => rfl) x (0 : Fin 2)
    have hx := row_lt x
    have b1 : 256 ≤ (rlo.emb x (0 : Fin 2)).val := b
    omega

/-! ## The quarters of the partial sums -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem mem_rch (r : Fin 4) (i : S256x1024.Idx) : i ∈ (rch r).set ↔ 64 * r.val ≤ (i (0 : Fin 2)).val ∧ (i (0 : Fin 2)).val < 64 * r.val + 64 := by
  have i1 : (i (1 : Fin 2)).val < 1024 := (i (1 : Fin 2)).isLt
  refine Rect.mem_set_unit.trans ⟨fun h => h (0 : Fin 2), fun h a => ?_⟩
  match a with
  | ⟨0, _⟩ => exact h
  | ⟨1, _⟩ => exact ⟨Nat.zero_le _, by show (i (1 : Fin 2)).val < 0 + 1024; omega⟩

theorem quarters (b : Ref sig .tc) (c : Dev nD) (K : Fin 4 → Finset (Idx ((c : Thread nD τ).loc b)))
    (hd : ∀ t t', t ≠ t' → Disjoint (K t) (K t')) (hu : ∀ i, ∃ t, i ∈ K t) (f : Buf (Elt F) ((c : Thread nD τ).loc b)) :
    (own c b Finset.univ f : sProp 𝕄) = iprop(own c b (K 0) f ∗ own c b (K 1) f ∗ own c b (K 2) f ∗ own c b (K 3) f) := by
  rw [← bigSep_fin4 fun t => own c b (K t) f]
  unfold own
  rw [← pointsTo_biUnion Finset.univ K fun t _ t' _ h => hd t t' h]
  congr 1
  exact (Finset.eq_univ_iff_forall.mpr fun i => Finset.mem_biUnion.mpr ((hu i).imp fun t h => ⟨Finset.mem_univ _, h⟩)).symm

theorem rch_disjoint (t t' : Fin 4) (h : t ≠ t') : Disjoint (rch t).set (rch t').set := by
  rw [Finset.disjoint_left]; intro i hi hi'
  have a := (mem_rch t i).mp hi
  have b := (mem_rch t' i).mp hi'
  exact h (Fin.ext (by omega))
theorem rch_cover (i : S256x1024.Idx) : ∃ t, i ∈ (rch t).set := by
  have i0 : (i (0 : Fin 2)).val < 256 := (i (0 : Fin 2)).isLt
  exact ⟨⟨(i (0 : Fin 2)).val / 64, by omega⟩, (mem_rch _ i).mpr ⟨by show 64 * (_ / 64) ≤ _; omega, by show _ < 64 * (_ / 64) + 64; omega⟩⟩

theorem ps_quarters (c : Dev nD) (f : (cc0_scratch3 : Ref sig .tc).ty.Contents (Elt F)) :
    (own c cc0_scratch3 Finset.univ f : sProp 𝕄)
      = iprop(own c cc0_scratch3 (psC 0).view.set f ∗ own c cc0_scratch3 (psC 1).view.set f ∗ own c cc0_scratch3 (psC 2).view.set f ∗ own c cc0_scratch3 (psC 3).view.set f) :=
  quarters cc0_scratch3 c (fun t => (psC t).view.set)
    (fun t t' h => by
      show Disjoint ((View.whole cc0_scratch3).slice (rch t)).set ((View.whole cc0_scratch3).slice (rch t')).set
      rw [View.set_slice_whole, View.set_slice_whole]; exact rch_disjoint t t' h)
    (fun i => (rch_cover i).imp fun t h => by
      show i ∈ ((View.whole cc0_scratch3).slice (rch t)).set
      rw [View.set_slice_whole]; exact h) f
theorem pr_quarters (c : Dev nD) (f : (cc0_scratch4 : Ref sig .tc).ty.Contents (Elt F)) :
    (own c cc0_scratch4 Finset.univ f : sProp 𝕄)
      = iprop(own c cc0_scratch4 (prC 0).view.set f ∗ own c cc0_scratch4 (prC 1).view.set f ∗ own c cc0_scratch4 (prC 2).view.set f ∗ own c cc0_scratch4 (prC 3).view.set f) :=
  quarters cc0_scratch4 c (fun t => (prC t).view.set)
    (fun t t' h => by
      show Disjoint ((View.whole cc0_scratch4).slice (rch t)).set ((View.whole cc0_scratch4).slice (rch t')).set
      rw [View.set_slice_whole, View.set_slice_whole]; exact rch_disjoint t t' h)
    (fun i => (rch_cover i).imp fun t h => by
      show i ∈ ((View.whole cc0_scratch4).slice (rch t)).set
      rw [View.set_slice_whole]; exact h) f

/-- The landing of a quarter of the neighbour's partial sums. -/
theorem land_pr (r : Fin 4) (f : (cc0_scratch4 : Ref sig .tc).ty.Contents (Elt F)) (g : (cc0_scratch3 : Ref sig .tc).ty.Contents (Elt F)) :
    ∀ i ∈ (prC r).view.set, (prC r).view.write (Elt F) f ((psC r).view.read (Elt F) g) Finset.univ i = g i :=
  wr_on (b := cc0_scratch4) (rch r) f _ g fun x => rfl

/-! ## The quarters of the two halves of the result -/

theorem off3_0 (d : Dev nD) (r : Fin 4) : k0_off3 d (BitVec.ofNat 32 (64 * r.val)) (0 : Fin 2) = 256 * (d.val % 2) + 64 * r.val := by
  rw [k0_off3_eq]; rfl
theorem off3_1 (d : Dev nD) (r : Fin 4) : k0_off3 d (BitVec.ofNat 32 (64 * r.val)) (1 : Fin 2) = 0 := by
  rw [k0_off3_eq]; rfl
theorem off23 (d : Dev nD) (r : Fin 4) : k0_off2 d (BitVec.ofNat 32 (64 * r.val)) = k0_off3 d (BitVec.ofNat 32 (64 * r.val)) := by
  rw [k0_off3_eq, k0_off2_eq]
theorem ro_eq (d : Dev nD) (r : Fin 4) : ro' d r = ro d r := Rect.unit_congr (off23 d r) _ _

theorem mem_ro (d : Dev nD) (r : Fin 4) (i : S512x1024.Idx) :
    i ∈ (ro d r).set ↔ 256 * (d.val % 2) + 64 * r.val ≤ (i (0 : Fin 2)).val ∧ (i (0 : Fin 2)).val < 256 * (d.val % 2) + 64 * r.val + 64 := by
  have i1 : (i (1 : Fin 2)).val < 1024 := (i (1 : Fin 2)).isLt
  refine Rect.mem_set_unit.trans ⟨fun h => ?_, fun h a => ?_⟩
  · have h := h (0 : Fin 2)
    rw [off3_0] at h; exact h
  · match a with
    | ⟨0, _⟩ => show k0_off3 d (BitVec.ofNat 32 (64 * r.val)) (0 : Fin 2) ≤ _ ∧ _ < k0_off3 d (BitVec.ofNat 32 (64 * r.val)) (0 : Fin 2) + 64; rw [off3_0]; exact h
    | ⟨1, _⟩ => show k0_off3 d (BitVec.ofNat 32 (64 * r.val)) (1 : Fin 2) ≤ (i (1 : Fin 2)).val ∧ (i (1 : Fin 2)).val < k0_off3 d (BitVec.ofNat 32 (64 * r.val)) (1 : Fin 2) + 1024; rw [off3_1]; exact ⟨Nat.zero_le _, by omega⟩

theorem oC_set (d : Dev nD) (r : Fin 4) : (oC d r).view.set = (ro d r).set := by
  show ((View.whole cc0_stg2_0).slice (ro d r)).set = _
  rw [View.set_slice_whole]

/-- The rows of the result that device `d` works on. -/
def rowsOf (d : Dev nD) : Finset S512x1024.Idx := Finset.univ.biUnion fun r : Fin 4 => (oC d r).view.set

/-- The result's rows: four quarters for each of the two devices of the row. -/
theorem out_quarters (c d : Dev nD) (f : (cc0_stg2_0 : Ref sig .tc).ty.Contents (Elt F)) :
    (own c cc0_stg2_0 Finset.univ f : sProp 𝕄)
      = iprop((own c cc0_stg2_0 (oC d 0).view.set f ∗ own c cc0_stg2_0 (oC d 1).view.set f ∗ own c cc0_stg2_0 (oC d 2).view.set f ∗ own c cc0_stg2_0 (oC d 3).view.set f)
        ∗ (own c cc0_stg2_0 (oC (yn d) 0).view.set f ∗ own c cc0_stg2_0 (oC (yn d) 1).view.set f ∗ own c cc0_stg2_0 (oC (yn d) 2).view.set f ∗ own c cc0_stg2_0 (oC (yn d) 3).view.set f)) := by
  have hy := yn_mod d
  have hb (e : Dev nD) : iprop(own c cc0_stg2_0 (oC e 0).view.set f ∗ own c cc0_stg2_0 (oC e 1).view.set f ∗ own c cc0_stg2_0 (oC e 2).view.set f ∗ own c cc0_stg2_0 (oC e 3).view.set f)
      = (own c cc0_stg2_0 (rowsOf e) f : sProp 𝕄) := by
    rw [← bigSep_fin4 fun t => own c cc0_stg2_0 (oC e t).view.set f]
    unfold own
    refine (pointsTo_biUnion (ℓ := (c : Thread nD τ).loc cc0_stg2_0) Finset.univ (fun r : Fin 4 => (oC e r).view.set) ?_).symm
    intro t _ t' _ h
    show Disjoint (oC e t).view.set (oC e t').view.set
    rw [oC_set, oC_set, Finset.disjoint_left]; intro i hi hi'
    have a := (mem_ro e t i).mp hi
    have b := (mem_ro e t' i).mp hi'
    exact h (Fin.ext (by omega))
  rw [hb d, hb (yn d)]
  unfold own
  have hmem (e : Dev nD) (i : S512x1024.Idx) : i ∈ rowsOf e
      ↔ 256 * (e.val % 2) ≤ (i (0 : Fin 2)).val ∧ (i (0 : Fin 2)).val < 256 * (e.val % 2) + 256 := by
    unfold rowsOf
    rw [Finset.mem_biUnion]
    constructor
    · rintro ⟨r, -, h⟩
      rw [oC_set] at h
      have a := (mem_ro e r i).mp h
      have := r.isLt
      omega
    · intro h
      refine ⟨⟨((i (0 : Fin 2)).val - 256 * (e.val % 2)) / 64, by omega⟩, Finset.mem_univ _, ?_⟩
      rw [oC_set]
      exact (mem_ro e _ i).mpr (by show _ + 64 * (_ / 64) ≤ _ ∧ _ < _ + 64 * (_ / 64) + 64; omega)
  have hdis : Disjoint (rowsOf d) (rowsOf (yn d)) := by
    rw [Finset.disjoint_left]; intro i h h'
    have a := (hmem d i).mp h
    have b := (hmem (yn d) i).mp h'
    omega
  rw [← Entails.antisymm (pointsTo_union (ℓ := (c : Thread nD τ).loc cc0_stg2_0) hdis).1 (pointsTo_union (ℓ := (c : Thread nD τ).loc cc0_stg2_0) hdis).2]
  refine congrArg (fun S : Finset S512x1024.Idx => (((c : Thread nD τ).loc cc0_stg2_0) ↦[S]{fullShare} f : sProp 𝕄)) ?_
  refine (Finset.eq_univ_iff_forall.mpr fun i => Finset.mem_union.mpr ?_).symm
  have i0 : (i (0 : Fin 2)).val < 512 := (i (0 : Fin 2)).isLt
  by_cases h : 256 * (d.val % 2) ≤ (i (0 : Fin 2)).val ∧ (i (0 : Fin 2)).val < 256 * (d.val % 2) + 256
  · exact .inl ((hmem d i).mpr h)
  · exact .inr ((hmem (yn d) i).mpr (by omega))

theorem OUT_yn (c : Dev nD) : OUT m (yn c) = OUT m c := by
  funext i
  unfold OUT colDev
  simp only [yn_div]

theorem OUT_ro (c : Dev nD) (r : Fin 4) (x : S64x1024.Idx) : OUT m c ((ro c r).emb x) = sums m c ((rch r).emb x) := by
  have h0 : ((ro c r).emb x (0 : Fin 2)).val = k0_off3 c (BitVec.ofNat 32 (64 * r.val)) (0 : Fin 2) + (x (0 : Fin 2)).val := emb_val (ro c r) (fun _ => rfl) x (0 : Fin 2)
  have h1 : ((ro c r).emb x (1 : Fin 2)).val = k0_off3 c (BitVec.ofNat 32 (64 * r.val)) (1 : Fin 2) + (x (1 : Fin 2)).val := emb_val (ro c r) (fun _ => rfl) x (1 : Fin 2)
  have g0 : ((rch r).emb x (0 : Fin 2)).val = 64 * r.val + (x (0 : Fin 2)).val := emb_val (rch r) (fun _ => rfl) x (0 : Fin 2)
  have g1 : ((rch r).emb x (1 : Fin 2)).val = 0 + (x (1 : Fin 2)).val := emb_val (rch r) (fun _ => rfl) x (1 : Fin 2)
  rw [off3_0] at h0
  rw [off3_1] at h1
  have hx := row64_lt x
  have hr := r.isLt
  have hc : c.val < 4 := c.isLt
  unfold OUT
  rw [sub_row ((ro c r).emb x) ((rch r).emb x) (by omega) (by omega)]
  congr 1
  exact Fin.ext (by show 2 * (c.val / 2) + ((ro c r).emb x (0 : Fin 2)).val / 256 = c.val; omega)

/-- The store of a quarter of the result. -/
theorem store_out (c : Dev nD) (r : Fin 4) (f : (cc0_stg2_0 : Ref sig .tc).ty.Contents (Elt F)) (w : Vec F S64x1024 .f32)
    (hw : ∀ x : S64x1024.Idx, w x = sums m c ((rch r).emb x)) :
    ∀ i ∈ (oC c r).view.set, ((oM).access (ro' c r) : View sig .tc _ _ _).write (Elt F) f w Finset.univ i = OUT m c i := by
  rw [oC_set, ← ro_eq]
  intro i hi
  refine wr_on (b := cc0_stg2_0) (ro' c r) f w (OUT m c) (fun x => (hw x).trans ?_) i (by rw [View.set_slice_whole]; exact hi)
  exact (OUT_ro m c r x).symm.trans (congrArg (OUT m c) (funext fun a => Fin.ext (by
    rw [emb_val (ro c r) (fun _ => rfl) x a]
    refine ((emb_val (ro' c r) (fun _ => rfl) x a).trans ?_).symm
    show k0_off2 c (BitVec.ofNat 32 (64 * r.val)) a + _ = k0_off3 c (BitVec.ofNat 32 (64 * r.val)) a + _
    rw [off23])))
theorem store_out_set (c : Dev nD) (r : Fin 4) : ((oM).access (ro' c r) : View sig .tc _ _ _).setOn Finset.univ ⊆ (oC c r).view.set := by
  rw [oC_set, ← ro_eq]
  show ((View.whole cc0_stg2_0).slice (ro' c r)).set ⊆ _
  rw [View.set_slice_whole]
theorem load_out_set (c : Dev nD) (r : Fin 4) : (oM).view.setOn (ro' c r).toLoadRect.set ⊆ (oC c r).view.set := by
  rw [oC_set, ← ro_eq]; intro i hi
  obtain ⟨x, hx, rfl⟩ := Finset.mem_map.mp hi
  exact hx

/-- The landing of a quarter of the result on the neighbour. -/
theorem land_out (c : Dev nD) (r : Fin 4) (f : (cc0_stg2_0 : Ref sig .tc).ty.Contents (Elt F)) :
    ∀ i ∈ (oC c r).view.set, (oC c r).view.write (Elt F) f ((oC c r).view.read (Elt F) (OUT m c)) Finset.univ i = OUT m (yn c) i := by
  rw [OUT_yn]
  exact wr_on (b := cc0_stg2_0) (ro c r) f _ (OUT m c) fun x => rfl

end Cert.KernelIdealProof

end
-- ==== Proof.IWeights.lean ====
/-
# The weights: fetched in blocks of rows through two slots, rounded, and kept

Each of the two weight arrays is fetched in sixteen blocks of rows; block `k` of expert `e` goes through slot
`k % 2` of a staging buffer, is rounded to bf16 and stored at its place in the kept copy.
-/
module

public import proofs.«01_k».proof.Proof.IViews
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- Device `c` runs `k` to `Q`. -/
abbrev Run (c : Dev nD) {α : Type} (k : Prog (TpuEff nD τ sig (Elt F) Λ₀ .tc) α) (Q : α → sProp 𝕄) : sProp 𝕄 :=
  wp frame (wpE (defs₀ (F := F)) 𝒱₀ (c : Thread nD τ) none) Set.univ k Q

/-- Device `c` owes the cells of `l`, whatever it waited on before. -/
def OW (c : Dev nD) (l : List (GSem nD τ sig × ℕ)) : sProp 𝕄 := iprop(∃ W, owes (c : Thread nD τ) (tl l) W)

/-- The share of a weight array's contents that a slot's transfers read with. -/
def sh (s : Fin 2) : PosShare TreeShare := if s = 0 then (fullShare).left else (fullShare).right

/-! ## Weight array 1 -/

section Arr1

theorem inb_h1 (e k : Fin 4) : ∀ a, (![e.val, 256 * k.val, 0] : Fin 3 → Nat) a + S1x256x2048.size a ≤ S4x1024x2048.size a := by revert e k; decide
theorem inb_g1 (s : Fin 2) : ∀ a, (![s.val, 0, 0] : Fin 3 → Nat) a + S1x256x2048.size a ≤ S2x256x2048.size a := by revert s; decide

/-- Block `k` of expert `e`, and a slot. -/
abbrev rk1 (e k : Fin 4) : Rect S4x1024x2048 := Rect.unit (s := S4x1024x2048) ![e.val, 256 * k.val, 0] S1x256x2048.size (inb_h1 e k)
abbrev rs1 (s : Fin 2) : Rect S2x256x2048 := Rect.unit (s := S2x256x2048) ![s.val, 0, 0] S1x256x2048.size (inb_g1 s)
abbrev hc1 (e k : Fin 4) : Memref sig .tc .hbm S256x2048 .f32 := (h1M.slice (rk1 e k) (fun _ => rfl)).squeeze S256x2048 squeezes_S1x256x2048_S256x2048
abbrev gs1 (s : Fin 2) : Memref sig .tc .vmem S256x2048 .f32 := (g1M.slice (rs1 s) (fun _ => rfl)).squeeze S256x2048 squeezes_S1x256x2048_S256x2048

theorem q_lt1 (s : Fin 2) : 23 + s.val < 27 := by have := s.isLt; omega
abbrev wcell1 (c : Dev nD) (s : Fin 2) : GSem nD τ sig := ((c : Thread nD τ), .dma ⟨23 + s.val, q_lt1 s⟩)

/-- The elements of a slot. -/
def T1 (s : Fin 2) : Finset S2x256x2048.Idx := Finset.univ.filter fun i => (i (0 : Fin 3)).val = s.val

theorem mem_rs1 (s : Fin 2) (i : S2x256x2048.Idx) (h : i ∈ (rs1 s).set) : i ∈ T1 s := by
  have a := Rect.mem_set_unit.mp h (0 : Fin 3)
  have a1 : s.val ≤ (i (0 : Fin 3)).val := a.1
  have a2 : (i (0 : Fin 3)).val < s.val + 1 := a.2
  exact Finset.mem_filter.mpr ⟨Finset.mem_univ _, by omega⟩
theorem gs_sub1 (s : Fin 2) : (gs1 s).view.set ⊆ T1 s := by
  intro i hi
  have h : i ∈ ((View.whole cc0_scratch7).slice (rs1 s)).set := by
    have := View.set_reshape ((View.whole cc0_scratch7).slice (rs1 s)) (s' := S256x2048) (Shape.Squeezes.numel_eq squeezes_S1x256x2048_S256x2048)
    rw [← this]; exact hi
  rw [View.set_slice_whole] at h
  exact mem_rs1 s i h
theorem gs_load1 (s : Fin 2) : (g1M).view.setOn (rs1 s).toLoadRect.set ⊆ T1 s := by
  intro i hi
  obtain ⟨x, hx, rfl⟩ := Finset.mem_map.mp hi
  exact mem_rs1 s x hx

/-- Block `k` of expert `e`. -/
def Wc1 (c : Dev nD) (e k : Fin 4) : Vec F S1x256x2048 .f32 := fun x => (m ((c : Thread nD τ).loc main_arg2) : S4x1024x2048.Idx → Elt F .f32) ((rk1 e k).emb x)

/-- What lands in a slot is what its load reads. -/
theorem land_g1 (c : Dev nD) (e k : Fin 4) (s : Fin 2) (f : (cc0_scratch7 : Ref sig .tc).ty.Contents (Elt F)) :
    (g1M).view.readAt (Elt F) (rs1 s).toLoadRect
      ((gs1 s).view.write (Elt F) f ((hc1 e k).view.read (Elt F) (m ((c : Thread nD τ).loc main_arg2))) Finset.univ) = Wc1 m c e k := by
  have e1 := View.write_reshape_univ (v := (View.whole cc0_scratch7).slice (rs1 s)) (Val := Elt F) (s' := S256x2048) (Shape.Squeezes.numel_eq squeezes_S1x256x2048_S256x2048) f
    ((hc1 e k).view.read (Elt F) (m ((c : Thread nD τ).loc main_arg2)))
  funext x
  refine (congrFun e1 ((rs1 s).emb x)).trans ?_
  refine (wr_at (b := cc0_scratch7) (rs1 s) f _ x).trans ?_
  show (m ((c : Thread nD τ).loc main_arg2) : S4x1024x2048.Idx → Elt F .f32) ((rk1 e k).emb (Shape.reshapeEquiv _ ((Shape.reshapeEquiv _).symm x))) = _
  rw [Equiv.apply_symm_apply]; rfl

/-- A slot at rest: its elements, its semaphore at zero, its share of the array. -/
def Free1 (c : Dev nD) (s : Fin 2) : sProp 𝕄 :=
  iprop((∃ g, own c cc0_scratch7 (T1 s) g) ∗ semVal (wcell1 c s) 0 ∗ (((c : Thread nD τ).loc main_arg2) ↦[Finset.univ]{sh s} (m ((c : Thread nD τ).loc main_arg2))))
/-- The same, the slot holding block `k` of expert `e`. -/
def Have1 (c : Dev nD) (e k : Fin 4) (s : Fin 2) : sProp 𝕄 :=
  iprop((∃ g, ⌜(g1M).view.readAt (Elt F) (rs1 s).toLoadRect g = Wc1 m c e k⌝ ∗ own c cc0_scratch7 (T1 s) g)
    ∗ semVal (wcell1 c s) 0 ∗ (((c : Thread nD τ).loc main_arg2) ↦[Finset.univ]{sh s} (m ((c : Thread nD τ).loc main_arg2))))

theorem Have_Free1 (c : Dev nD) (e k : Fin 4) (s : Fin 2) : Have1 m c e k s ⊢ Free1 m c s := by
  unfold Have1 Free1
  iintro ⟨⟨%g, -, H⟩, Hv, Ha⟩
  isplitl [H]; · iexists g; iexact H
  isplitl [Hv] <;> iassumption

abbrev Nw1 (s : Fin 2) : ℕ := (gs1 s).view.dmaCredit
theorem Nw_pos1 (s : Fin 2) : 0 < Nw1 s := View.dmaCredit_pos _ (by decide)

/-- Block `k` of expert `e` on its way to slot `s`. -/
def Pend1 (c : Dev nD) (e k : Fin 4) (s : Fin 2) : sProp 𝕄 :=
  iprop(Transfers.Flight EC (c : Thread nD τ) (.dma ⟨23 + s.val, q_lt1 s⟩) () (Nw1 s)
      iprop((∃ g, ⌜(g1M).view.readAt (Elt F) (rs1 s).toLoadRect g = Wc1 m c e k⌝ ∗ own c cc0_scratch7 (T1 s) g)
        ∗ (((c : Thread nD τ).loc main_arg2) ↦[(hc1 e k).view.set]{sh s} (m ((c : Thread nD τ).loc main_arg2))))
    ∗ (((c : Thread nD τ).loc main_arg2) ↦[Finset.univ \ (hc1 e k).view.set]{sh s} (m ((c : Thread nD τ).loc main_arg2))))

/-- The start of a block's transfer. -/
theorem start1 (c : Dev nD) (e k : Fin 4) (s : Fin 2) {hsrc : (hc1 e k).view.WordExact} {hdst : (gs1 s).view.WordExact}
    {hsem : DmaTarget.Typed (nD := nD) (τ := τ) (sig := sig) (p := .tc) .hbm (.dma ⟨23 + s.val, q_lt1 s⟩) (.here (gs1 s))}
    {α : Type} {Q : α → sProp 𝕄} {k' : PUnit → Prog (TpuEff nD τ sig (Elt F) Λ₀ .tc) α} :
    Free1 m c s ⊢ iprop((Pend1 m c e k s -∗ Run c (k' ⟨⟩) Q)
      -∗ Run c (.op (.enqueueDma (hc1 e k) (.here (gs1 s)) (.dma ⟨23 + s.val, q_lt1 s⟩) hsrc hdst hsem) k') Q) := by
  unfold Free1
  iintro ⟨⟨%g, Hg⟩, Hv, Ha⟩ Hk
  ihave Ha := (pointsTo_split_subset (Finset.subset_univ (hc1 e k).view.set)).1 $$ Ha
  icases Ha with ⟨Ha, Hr⟩
  iapply (Transfers.wp_dmaLocal EC 𝒱₀ (c : Thread nD τ) none (src := hc1 e k) (dst := gs1 s) (Sd := T1 s) (fd := g) () (Nw1 s) rfl (Nw_pos1 s) (gs_sub1 s)) $$ [Ha Hg Hv]
  · isplitl [Ha]; · iexact Ha
    isplitl [Hg]; · iexact Hg
    iexact Hv
  iintro Hf
  iapply Hk
  unfold Pend1
  isplitl [Hf]
  · iapply (Transfers.Flight_mono EC (c : Thread nD τ) ?_) $$ Hf
    iintro ⟨Hd, Hs⟩
    isplitl [Hd]
    · iexists _
      isplitr
      · ipureintro; exact land_g1 m c e k s g
      · iexact Hd
    · iexact Hs
  · iexact Hr

/-- The wait for a block. -/
theorem wait1 (c : Dev nD) (e k : Fin 4) (s : Fin 2) (l : List (GSem nD τ sig × ℕ))
    {sp : Space} {s' : Shape} {e' : EltTy} {srcw : Memref sig (c : Thread nD τ).2.kind sp s' e'} {hsrc : srcw.view.WordExact} {hdst : (gs1 s).view.WordExact}
    (hl : ∀ p ∈ l, p.1.1.2 = .tc ∧ lvl (.dma ⟨23 + s.val, q_lt1 s⟩) < lvl p.1.2)
    {α : Type} {Q : α → sProp 𝕄} {k' : PUnit → Prog (TpuEff nD τ sig (Elt F) Λ₀ .tc) α} :
    iprop(Pend1 m c e k s ∗ OW c l ∗ levAts L lv) ⊢ iprop((iprop(Have1 m c e k s ∗ OW c l) -∗ Run c (k' ⟨⟩) Q)
      -∗ Run c (.op (.waitDma2 ⟨23 + s.val, q_lt1 s⟩ srcw (gs1 s) hsrc hdst) k') Q) := by
  unfold Pend1 OW
  iintro ⟨⟨Hf, Hr⟩, ⟨%W, HO⟩, #Hlev⟩ Hk
  iapply (Transfers.wp_waitLocalO EC 𝒱₀ (c : Thread nD τ) none () (N := Nw1 s) rfl) $$ [Hf HO]
  · isplitl [Hf]; · iexact Hf
    isplitl [HO]; · iexact HO
    iapply (mayWait_tl c _ l hl); iexact Hlev
  iintro ⟨⟨Hg, Ha⟩, Hv, HO⟩
  iapply Hk
  unfold Have1
  isplitr [HO]
  · isplitl [Hg]; · iexact Hg
    isplitl [Hv]; · iexact Hv
    iapply (pointsTo_split_subset (Finset.subset_univ (hc1 e k).view.set)).2
    isplitl [Ha] <;> iassumption
  · iexists _; iexact HO

/-- The load of a landed block. -/
theorem get1 (c : Dev nD) (e k : Fin 4) (s : Fin 2) {hl : (g1M).view.LoadsAt (rs1 s).toLoadRect}
    {α : Type} {Q : α → sProp 𝕄} {k' : Vec F S1x256x2048 .f32 → Prog (TpuEff nD τ sig (Elt F) Λ₀ .tc) α} :
    Have1 m c e k s ⊢ iprop((Have1 m c e k s -∗ Run c (k' (Wc1 m c e k)) Q) -∗ Run c (.op (.load g1M (rs1 s).toLoadRect hl) k') Q) := by
  unfold Have1
  iintro ⟨⟨%g, %hg, Hg⟩, Hv, Ha⟩ Hk
  iapply (wp_load 𝒱₀ (c : Thread nD τ) none Set.univ (m := g1M) (gs_load1 s)) $$ Hg
  iintro Hg
  rw [hg]
  iapply Hk
  isplitl [Hg]
  · iexists g
    isplitr; · (ipureintro; exact hg)
    iexact Hg
  isplitl [Hv] <;> iassumption

/-- The kept copy: its first `q` blocks hold the rounded weights. -/
def Acc1 (c : Dev nD) (q : ℕ) : sProp 𝕄 :=
  iprop(∃ f : S4x1024x2048.Idx → Elt F .bf16, ⌜∀ i : S4x1024x2048.Idx, 4 * (i (0 : Fin 3)).val + (i (1 : Fin 3)).val / 256 < q → f i = BF1 m c i⌝ ∗ own c cc0_scratch5 Finset.univ f)

/-- A load of the kept copy whose value is not used. -/
theorem dead1 (c : Dev nD) (q : ℕ) {r : Rect S4x1024x2048} {hl : (w1M).view.LoadsAt r.toLoadRect}
    {α : Type} {Q : α → sProp 𝕄} {k' : Vec F r.shape .bf16 → Prog (TpuEff nD τ sig (Elt F) Λ₀ .tc) α} :
    Acc1 m c q ⊢ iprop((∀ v, Acc1 m c q -∗ Run c (k' v) Q) -∗ Run c (.op (.load w1M r.toLoadRect hl) k') Q) := by
  unfold Acc1
  iintro ⟨%f, %hf, H⟩ Hk
  iapply (wp_load 𝒱₀ (c : Thread nD τ) none Set.univ (m := w1M) (Finset.subset_univ _)) $$ H
  iintro H
  iapply Hk
  iexists f
  isplitr; · (ipureintro; exact hf)
  iexact H

/-- The rounding of a block as the kernel writes it. -/
theorem cast1 (v : Vec F S1x256x2048 .f32) :
    shapeCast S1x256x2048 (truncf .bf16 (shapeCast S256x2048 v shapeCasts_S1x256x2048_S256x2048 : FVec F S256x2048 .f32) bitsLt_bf16_f32 : FVec F S256x2048 .bf16) shapeCasts_S256x2048_S1x256x2048
      = truncf .bf16 (v : FVec F S1x256x2048 .f32) bitsLt_bf16_f32 := by
  funext i
  show truncf .bf16 (shapeCast S1x256x2048 (shapeCast S256x2048 v shapeCasts_S1x256x2048_S256x2048) shapeCasts_S256x2048_S1x256x2048 : FVec F S1x256x2048 .f32) bitsLt_bf16_f32 i = _
  rw [shapeCast_shapeCast]

theorem mem_rk1 (e k : Fin 4) (i : S4x1024x2048.Idx) (h0 : (i (0 : Fin 3)).val = e.val) (h1 : (i (1 : Fin 3)).val / 256 = k.val) : i ∈ (rk1 e k).set := by
  have i2 : (i (2 : Fin 3)).val < 2048 := (i (2 : Fin 3)).isLt
  refine Rect.mem_set_unit.mpr fun a => ?_
  match a with
  | ⟨0, _⟩ => exact ⟨by show e.val ≤ (i (0 : Fin 3)).val; omega, by show (i (0 : Fin 3)).val < e.val + 1; omega⟩
  | ⟨1, _⟩ => exact ⟨by show 256 * k.val ≤ (i (1 : Fin 3)).val; omega, by show (i (1 : Fin 3)).val < 256 * k.val + 256; omega⟩
  | ⟨2, _⟩ => exact ⟨Nat.zero_le _, by show (i (2 : Fin 3)).val < 0 + 2048; omega⟩

/-- The store of a rounded block at its place in the kept copy. -/
theorem put1 (c : Dev nD) (e k : Fin 4) (q : ℕ) (hq : q = 4 * e.val + k.val) {w : Vec F S1x256x2048 .bf16} (hw : w = truncf .bf16 (Wc1 m c e k : FVec F S1x256x2048 .f32) bitsLt_bf16_f32)
    {hx : ((w1M).access (rk1 e k) : View sig .tc _ _ _).Stores Finset.univ} {hm : (Finset.univ : Finset (rk1 e k).shape.Idx) = Finset.univ ∨ ∀ a, (rk1 e k).stride a = 1}
    {α : Type} {Q : α → sProp 𝕄} {k' : PUnit → Prog (TpuEff nD τ sig (Elt F) Λ₀ .tc) α} :
    Acc1 m c q ⊢ iprop((Acc1 m c (q + 1) -∗ Run c (k' ⟨⟩) Q) -∗ Run c (.op (.store w1M (rk1 e k) w Finset.univ hx hm) k') Q) := by
  unfold Acc1
  iintro ⟨%f, %hf, H⟩ Hk
  iapply (wp_store 𝒱₀ (c : Thread nD τ) none Set.univ (m := w1M) (r := rk1 e k) (Mk := Finset.univ) (Finset.subset_univ _)) $$ H
  iintro H
  iapply Hk
  iexists _
  isplitr
  · ipureintro
    intro i hi
    by_cases hr : i ∈ (rk1 e k).set
    · have hr' : i ∈ ((View.whole cc0_scratch5).slice (rk1 e k)).set := by rw [View.set_slice_whole]; exact hr
      obtain ⟨x, -, rfl⟩ := Finset.mem_map.mp hr'
      refine (wr_at (b := cc0_scratch5) (rk1 e k) f w x).trans ?_
      rw [hw]; rfl
    · refine (wr_off (b := cc0_scratch5) (rk1 e k) f w hr).trans (hf i ?_)
      have i0 : (i (0 : Fin 3)).val < 4 := (i (0 : Fin 3)).isLt
      have i1 : (i (1 : Fin 3)).val < 1024 := (i (1 : Fin 3)).isLt
      by_contra hn
      exact hr (mem_rk1 e k i (by omega) (by omega))
  · iexact H

/-- The load of a whole expert of the kept copy. -/
theorem expert1 (c : Dev nD) (e : Fin 4) (q : ℕ) (hq : 4 * e.val + 4 ≤ q) {hl : (w1M).view.LoadsAt (re1 e).toLoadRect}
    {α : Type} {Q : α → sProp 𝕄} {k' : Vec F S1x1024x2048 .bf16 → Prog (TpuEff nD τ sig (Elt F) Λ₀ .tc) α} :
    Acc1 m c q ⊢ iprop((Acc1 m c q -∗ Run c (k' (W1e m c e)) Q) -∗ Run c (.op (.load w1M (re1 e).toLoadRect hl) k') Q) := by
  unfold Acc1
  iintro ⟨%f, %hf, H⟩ Hk
  iapply (wp_load 𝒱₀ (c : Thread nD τ) none Set.univ (m := w1M) (Finset.subset_univ _)) $$ H
  iintro H
  have hr : (w1M).view.readAt (Elt F) (re1 e).toLoadRect f = W1e m c e := by
    refine funext fun x => hf ((re1 e).emb x) ?_
    have h0 : ((re1 e).emb x (0 : Fin 3)).val = e.val + (x (0 : Fin 3)).val := emb_val (re1 e) (fun _ => rfl) x (0 : Fin 3)
    have x0 : (x (0 : Fin 3)).val < 1 := (x (0 : Fin 3)).isLt
    have i1 : ((re1 e).emb x (1 : Fin 3)).val < 1024 := ((re1 e).emb x (1 : Fin 3)).isLt
    omega
  rw [hr]
  iapply Hk
  iexists f
  isplitr; · (ipureintro; exact hf)
  iexact H

theorem slots1 : Disjoint (T1 0) (T1 1) ∧ (Finset.univ : Finset S2x256x2048.Idx) = T1 0 ∪ T1 1 := by
  refine ⟨Finset.disjoint_left.mpr fun i h h' => ?_, (Finset.eq_univ_iff_forall.mpr fun i => ?_).symm⟩
  · have a := (Finset.mem_filter.mp h).2
    have b := (Finset.mem_filter.mp h').2
    have b' : (i (0 : Fin 3)).val = 1 := b
    have a' : (i (0 : Fin 3)).val = 0 := a
    omega
  · have i0 : (i (0 : Fin 3)).val < 2 := (i (0 : Fin 3)).isLt
    rcases Nat.lt_or_ge (i (0 : Fin 3)).val 1 with h | h
    · exact Finset.mem_union_left _ (Finset.mem_filter.mpr ⟨Finset.mem_univ _, by show (i (0 : Fin 3)).val = 0; omega⟩)
    · exact Finset.mem_union_right _ (Finset.mem_filter.mpr ⟨Finset.mem_univ _, by show (i (0 : Fin 3)).val = 1; omega⟩)

/-- The staging buffer and the array, divided between the slots, and the kept copy with nothing in it. -/
theorem divide1 (c : Dev nD) :
    iprop((∃ g, own c cc0_scratch7 Finset.univ g) ∗ own c main_arg2 Finset.univ (m ((c : Thread nD τ).loc main_arg2)) ∗ semVal (wcell1 c 0) 0 ∗ semVal (wcell1 c 1) 0)
      ⊢ iprop(Free1 m c 0 ∗ Free1 m c 1) := by
  unfold Free1 own
  rw [show (Finset.univ : Finset S2x256x2048.Idx) = T1 0 ∪ T1 1 from (slots1).2]
  iintro ⟨⟨%g, Hg⟩, Ha, H0, H1⟩
  ihave Hg := (pointsTo_union (ℓ := (c : Thread nD τ).loc cc0_scratch7) (slots1).1).1 $$ Hg
  icases Hg with ⟨G0, G1⟩
  ihave Ha := (pointsTo_share (ℓ := (c : Thread nD τ).loc main_arg2) (PosShare.mem_left_op_right fullShare)).1 $$ Ha
  icases Ha with ⟨A0, A1⟩
  isplitl [G0 H0 A0]
  · isplitl [G0]; · iexists g; iexact G0
    isplitl [H0]; · iexact H0
    iexact A0
  · isplitl [G1]; · iexists g; iexact G1
    isplitl [H1]; · iexact H1
    iexact A1

/-- The converse. -/
theorem unite1 (c : Dev nD) : iprop(Free1 m c 0 ∗ Free1 m c 1) ⊢
    iprop((∃ g, own c cc0_scratch7 Finset.univ g) ∗ own c main_arg2 Finset.univ (m ((c : Thread nD τ).loc main_arg2)) ∗ semVal (wcell1 c 0) 0 ∗ semVal (wcell1 c 1) 0) := by
  unfold Free1 own
  rw [show (Finset.univ : Finset S2x256x2048.Idx) = T1 0 ∪ T1 1 from (slots1).2]
  iintro ⟨⟨⟨%g0, G0⟩, H0, A0⟩, ⟨%g1, G1⟩, H1, A1⟩
  isplitl [G0 G1]
  · iexists _
    iapply (pointsTo_join (ℓ := (c : Thread nD τ).loc cc0_scratch7) (slots1).1)
    isplitl [G0] <;> iassumption
  isplitl [A0 A1]
  · iapply (pointsTo_share (ℓ := (c : Thread nD τ).loc main_arg2) (PosShare.mem_left_op_right fullShare)).2
    isplitl [A0]; · iexact A0
    iexact A1
  isplitl [H0] <;> iassumption

end Arr1

/-! ## Weight array 2 -/

section Arr2

theorem inb_h2 (e k : Fin 4) : ∀ a, (![e.val, 512 * k.val, 0] : Fin 3 → Nat) a + S1x512x1024.size a ≤ S4x2048x1024.size a := by revert e k; decide
theorem inb_g2 (s : Fin 2) : ∀ a, (![s.val, 0, 0] : Fin 3 → Nat) a + S1x512x1024.size a ≤ S2x512x1024.size a := by revert s; decide

/-- Block `k` of expert `e`, and a slot. -/
abbrev rk2 (e k : Fin 4) : Rect S4x2048x1024 := Rect.unit (s := S4x2048x1024) ![e.val, 512 * k.val, 0] S1x512x1024.size (inb_h2 e k)
abbrev rs2 (s : Fin 2) : Rect S2x512x1024 := Rect.unit (s := S2x512x1024) ![s.val, 0, 0] S1x512x1024.size (inb_g2 s)
abbrev hc2 (e k : Fin 4) : Memref sig .tc .hbm S512x1024 .f32 := (h2M.slice (rk2 e k) (fun _ => rfl)).squeeze S512x1024 squeezes_S1x512x1024_S512x1024
abbrev gs2 (s : Fin 2) : Memref sig .tc .vmem S512x1024 .f32 := (g2M.slice (rs2 s) (fun _ => rfl)).squeeze S512x1024 squeezes_S1x512x1024_S512x1024

theorem q_lt2 (s : Fin 2) : 25 + s.val < 27 := by have := s.isLt; omega
abbrev wcell2 (c : Dev nD) (s : Fin 2) : GSem nD τ sig := ((c : Thread nD τ), .dma ⟨25 + s.val, q_lt2 s⟩)

/-- The elements of a slot. -/
def T2 (s : Fin 2) : Finset S2x512x1024.Idx := Finset.univ.filter fun i => (i (0 : Fin 3)).val = s.val

theorem mem_rs2 (s : Fin 2) (i : S2x512x1024.Idx) (h : i ∈ (rs2 s).set) : i ∈ T2 s := by
  have a := Rect.mem_set_unit.mp h (0 : Fin 3)
  have a1 : s.val ≤ (i (0 : Fin 3)).val := a.1
  have a2 : (i (0 : Fin 3)).val < s.val + 1 := a.2
  exact Finset.mem_filter.mpr ⟨Finset.mem_univ _, by omega⟩
theorem gs_sub2 (s : Fin 2) : (gs2 s).view.set ⊆ T2 s := by
  intro i hi
  have h : i ∈ ((View.whole cc0_scratch8).slice (rs2 s)).set := by
    have := View.set_reshape ((View.whole cc0_scratch8).slice (rs2 s)) (s' := S512x1024) (Shape.Squeezes.numel_eq squeezes_S1x512x1024_S512x1024)
    rw [← this]; exact hi
  rw [View.set_slice_whole] at h
  exact mem_rs2 s i h
theorem gs_load2 (s : Fin 2) : (g2M).view.setOn (rs2 s).toLoadRect.set ⊆ T2 s := by
  intro i hi
  obtain ⟨x, hx, rfl⟩ := Finset.mem_map.mp hi
  exact mem_rs2 s x hx

/-- Block `k` of expert `e`. -/
def Wc2 (c : Dev nD) (e k : Fin 4) : Vec F S1x512x1024 .f32 := fun x => (m ((c : Thread nD τ).loc main_arg3) : S4x2048x1024.Idx → Elt F .f32) ((rk2 e k).emb x)

/-- What lands in a slot is what its load reads. -/
theorem land_g2 (c : Dev nD) (e k : Fin 4) (s : Fin 2) (f : (cc0_scratch8 : Ref sig .tc).ty.Contents (Elt F)) :
    (g2M).view.readAt (Elt F) (rs2 s).toLoadRect
      ((gs2 s).view.write (Elt F) f ((hc2 e k).view.read (Elt F) (m ((c : Thread nD τ).loc main_arg3))) Finset.univ) = Wc2 m c e k := by
  have e1 := View.write_reshape_univ (v := (View.whole cc0_scratch8).slice (rs2 s)) (Val := Elt F) (s' := S512x1024) (Shape.Squeezes.numel_eq squeezes_S1x512x1024_S512x1024) f
    ((hc2 e k).view.read (Elt F) (m ((c : Thread nD τ).loc main_arg3)))
  funext x
  refine (congrFun e1 ((rs2 s).emb x)).trans ?_
  refine (wr_at (b := cc0_scratch8) (rs2 s) f _ x).trans ?_
  show (m ((c : Thread nD τ).loc main_arg3) : S4x2048x1024.Idx → Elt F .f32) ((rk2 e k).emb (Shape.reshapeEquiv _ ((Shape.reshapeEquiv _).symm x))) = _
  rw [Equiv.apply_symm_apply]; rfl

/-- A slot at rest: its elements, its semaphore at zero, its share of the array. -/
def Free2 (c : Dev nD) (s : Fin 2) : sProp 𝕄 :=
  iprop((∃ g, own c cc0_scratch8 (T2 s) g) ∗ semVal (wcell2 c s) 0 ∗ (((c : Thread nD τ).loc main_arg3) ↦[Finset.univ]{sh s} (m ((c : Thread nD τ).loc main_arg3))))
/-- The same, the slot holding block `k` of expert `e`. -/
def Have2 (c : Dev nD) (e k : Fin 4) (s : Fin 2) : sProp 𝕄 :=
  iprop((∃ g, ⌜(g2M).view.readAt (Elt F) (rs2 s).toLoadRect g = Wc2 m c e k⌝ ∗ own c cc0_scratch8 (T2 s) g)
    ∗ semVal (wcell2 c s) 0 ∗ (((c : Thread nD τ).loc main_arg3) ↦[Finset.univ]{sh s} (m ((c : Thread nD τ).loc main_arg3))))

theorem Have_Free2 (c : Dev nD) (e k : Fin 4) (s : Fin 2) : Have2 m c e k s ⊢ Free2 m c s := by
  unfold Have2 Free2
  iintro ⟨⟨%g, -, H⟩, Hv, Ha⟩
  isplitl [H]; · iexists g; iexact H
  isplitl [Hv] <;> iassumption

abbrev Nw2 (s : Fin 2) : ℕ := (gs2 s).view.dmaCredit
theorem Nw_pos2 (s : Fin 2) : 0 < Nw2 s := View.dmaCredit_pos _ (by decide)

/-- Block `k` of expert `e` on its way to slot `s`. -/
def Pend2 (c : Dev nD) (e k : Fin 4) (s : Fin 2) : sProp 𝕄 :=
  iprop(Transfers.Flight EC (c : Thread nD τ) (.dma ⟨25 + s.val, q_lt2 s⟩) () (Nw2 s)
      iprop((∃ g, ⌜(g2M).view.readAt (Elt F) (rs2 s).toLoadRect g = Wc2 m c e k⌝ ∗ own c cc0_scratch8 (T2 s) g)
        ∗ (((c : Thread nD τ).loc main_arg3) ↦[(hc2 e k).view.set]{sh s} (m ((c : Thread nD τ).loc main_arg3))))
    ∗ (((c : Thread nD τ).loc main_arg3) ↦[Finset.univ \ (hc2 e k).view.set]{sh s} (m ((c : Thread nD τ).loc main_arg3))))

/-- The start of a block's transfer. -/
theorem start2 (c : Dev nD) (e k : Fin 4) (s : Fin 2) {hsrc : (hc2 e k).view.WordExact} {hdst : (gs2 s).view.WordExact}
    {hsem : DmaTarget.Typed (nD := nD) (τ := τ) (sig := sig) (p := .tc) .hbm (.dma ⟨25 + s.val, q_lt2 s⟩) (.here (gs2 s))}
    {α : Type} {Q : α → sProp 𝕄} {k' : PUnit → Prog (TpuEff nD τ sig (Elt F) Λ₀ .tc) α} :
    Free2 m c s ⊢ iprop((Pend2 m c e k s -∗ Run c (k' ⟨⟩) Q)
      -∗ Run c (.op (.enqueueDma (hc2 e k) (.here (gs2 s)) (.dma ⟨25 + s.val, q_lt2 s⟩) hsrc hdst hsem) k') Q) := by
  unfold Free2
  iintro ⟨⟨%g, Hg⟩, Hv, Ha⟩ Hk
  ihave Ha := (pointsTo_split_subset (Finset.subset_univ (hc2 e k).view.set)).1 $$ Ha
  icases Ha with ⟨Ha, Hr⟩
  iapply (Transfers.wp_dmaLocal EC 𝒱₀ (c : Thread nD τ) none (src := hc2 e k) (dst := gs2 s) (Sd := T2 s) (fd := g) () (Nw2 s) rfl (Nw_pos2 s) (gs_sub2 s)) $$ [Ha Hg Hv]
  · isplitl [Ha]; · iexact Ha
    isplitl [Hg]; · iexact Hg
    iexact Hv
  iintro Hf
  iapply Hk
  unfold Pend2
  isplitl [Hf]
  · iapply (Transfers.Flight_mono EC (c : Thread nD τ) ?_) $$ Hf
    iintro ⟨Hd, Hs⟩
    isplitl [Hd]
    · iexists _
      isplitr
      · ipureintro; exact land_g2 m c e k s g
      · iexact Hd
    · iexact Hs
  · iexact Hr

/-- The wait for a block. -/
theorem wait2 (c : Dev nD) (e k : Fin 4) (s : Fin 2) (l : List (GSem nD τ sig × ℕ))
    {sp : Space} {s' : Shape} {e' : EltTy} {srcw : Memref sig (c : Thread nD τ).2.kind sp s' e'} {hsrc : srcw.view.WordExact} {hdst : (gs2 s).view.WordExact}
    (hl : ∀ p ∈ l, p.1.1.2 = .tc ∧ lvl (.dma ⟨25 + s.val, q_lt2 s⟩) < lvl p.1.2)
    {α : Type} {Q : α → sProp 𝕄} {k' : PUnit → Prog (TpuEff nD τ sig (Elt F) Λ₀ .tc) α} :
    iprop(Pend2 m c e k s ∗ OW c l ∗ levAts L lv) ⊢ iprop((iprop(Have2 m c e k s ∗ OW c l) -∗ Run c (k' ⟨⟩) Q)
      -∗ Run c (.op (.waitDma2 ⟨25 + s.val, q_lt2 s⟩ srcw (gs2 s) hsrc hdst) k') Q) := by
  unfold Pend2 OW
  iintro ⟨⟨Hf, Hr⟩, ⟨%W, HO⟩, #Hlev⟩ Hk
  iapply (Transfers.wp_waitLocalO EC 𝒱₀ (c : Thread nD τ) none () (N := Nw2 s) rfl) $$ [Hf HO]
  · isplitl [Hf]; · iexact Hf
    isplitl [HO]; · iexact HO
    iapply (mayWait_tl c _ l hl); iexact Hlev
  iintro ⟨⟨Hg, Ha⟩, Hv, HO⟩
  iapply Hk
  unfold Have2
  isplitr [HO]
  · isplitl [Hg]; · iexact Hg
    isplitl [Hv]; · iexact Hv
    iapply (pointsTo_split_subset (Finset.subset_univ (hc2 e k).view.set)).2
    isplitl [Ha] <;> iassumption
  · iexists _; iexact HO

/-- The load of a landed block. -/
theorem get2 (c : Dev nD) (e k : Fin 4) (s : Fin 2) {hl : (g2M).view.LoadsAt (rs2 s).toLoadRect}
    {α : Type} {Q : α → sProp 𝕄} {k' : Vec F S1x512x1024 .f32 → Prog (TpuEff nD τ sig (Elt F) Λ₀ .tc) α} :
    Have2 m c e k s ⊢ iprop((Have2 m c e k s -∗ Run c (k' (Wc2 m c e k)) Q) -∗ Run c (.op (.load g2M (rs2 s).toLoadRect hl) k') Q) := by
  unfold Have2
  iintro ⟨⟨%g, %hg, Hg⟩, Hv, Ha⟩ Hk
  iapply (wp_load 𝒱₀ (c : Thread nD τ) none Set.univ (m := g2M) (gs_load2 s)) $$ Hg
  iintro Hg
  rw [hg]
  iapply Hk
  isplitl [Hg]
  · iexists g
    isplitr; · (ipureintro; exact hg)
    iexact Hg
  isplitl [Hv] <;> iassumption

/-- The kept copy: its first `q` blocks hold the rounded weights. -/
def Acc2 (c : Dev nD) (q : ℕ) : sProp 𝕄 :=
  iprop(∃ f : S4x2048x1024.Idx → Elt F .bf16, ⌜∀ i : S4x2048x1024.Idx, 4 * (i (0 : Fin 3)).val + (i (1 : Fin 3)).val / 512 < q → f i = BF2 m c i⌝ ∗ own c cc0_scratch6 Finset.univ f)

/-- A load of the kept copy whose value is not used. -/
theorem dead2 (c : Dev nD) (q : ℕ) {r : Rect S4x2048x1024} {hl : (w2M).view.LoadsAt r.toLoadRect}
    {α : Type} {Q : α → sProp 𝕄} {k' : Vec F r.shape .bf16 → Prog (TpuEff nD τ sig (Elt F) Λ₀ .tc) α} :
    Acc2 m c q ⊢ iprop((∀ v, Acc2 m c q -∗ Run c (k' v) Q) -∗ Run c (.op (.load w2M r.toLoadRect hl) k') Q) := by
  unfold Acc2
  iintro ⟨%f, %hf, H⟩ Hk
  iapply (wp_load 𝒱₀ (c : Thread nD τ) none Set.univ (m := w2M) (Finset.subset_univ _)) $$ H
  iintro H
  iapply Hk
  iexists f
  isplitr; · (ipureintro; exact hf)
  iexact H

/-- The rounding of a block as the kernel writes it. -/
theorem cast2 (v : Vec F S1x512x1024 .f32) :
    shapeCast S1x512x1024 (truncf .bf16 (shapeCast S512x1024 v shapeCasts_S1x512x1024_S512x1024 : FVec F S512x1024 .f32) bitsLt_bf16_f32 : FVec F S512x1024 .bf16) shapeCasts_S512x1024_S1x512x1024
      = truncf .bf16 (v : FVec F S1x512x1024 .f32) bitsLt_bf16_f32 := by
  funext i
  show truncf .bf16 (shapeCast S1x512x1024 (shapeCast S512x1024 v shapeCasts_S1x512x1024_S512x1024) shapeCasts_S512x1024_S1x512x1024 : FVec F S1x512x1024 .f32) bitsLt_bf16_f32 i = _
  rw [shapeCast_shapeCast]

theorem mem_rk2 (e k : Fin 4) (i : S4x2048x1024.Idx) (h0 : (i (0 : Fin 3)).val = e.val) (h1 : (i (1 : Fin 3)).val / 512 = k.val) : i ∈ (rk2 e k).set := by
  have i2 : (i (2 : Fin 3)).val < 1024 := (i (2 : Fin 3)).isLt
  refine Rect.mem_set_unit.mpr fun a => ?_
  match a with
  | ⟨0, _⟩ => exact ⟨by show e.val ≤ (i (0 : Fin 3)).val; omega, by show (i (0 : Fin 3)).val < e.val + 1; omega⟩
  | ⟨1, _⟩ => exact ⟨by show 512 * k.val ≤ (i (1 : Fin 3)).val; omega, by show (i (1 : Fin 3)).val < 512 * k.val + 512; omega⟩
  | ⟨2, _⟩ => exact ⟨Nat.zero_le _, by show (i (2 : Fin 3)).val < 0 + 1024; omega⟩

/-- The store of a rounded block at its place in the kept copy. -/
theorem put2 (c : Dev nD) (e k : Fin 4) (q : ℕ) (hq : q = 4 * e.val + k.val) {w : Vec F S1x512x1024 .bf16} (hw : w = truncf .bf16 (Wc2 m c e k : FVec F S1x512x1024 .f32) bitsLt_bf16_f32)
    {hx : ((w2M).access (rk2 e k) : View sig .tc _ _ _).Stores Finset.univ} {hm : (Finset.univ : Finset (rk2 e k).shape.Idx) = Finset.univ ∨ ∀ a, (rk2 e k).stride a = 1}
    {α : Type} {Q : α → sProp 𝕄} {k' : PUnit → Prog (TpuEff nD τ sig (Elt F) Λ₀ .tc) α} :
    Acc2 m c q ⊢ iprop((Acc2 m c (q + 1) -∗ Run c (k' ⟨⟩) Q) -∗ Run c (.op (.store w2M (rk2 e k) w Finset.univ hx hm) k') Q) := by
  unfold Acc2
  iintro ⟨%f, %hf, H⟩ Hk
  iapply (wp_store 𝒱₀ (c : Thread nD τ) none Set.univ (m := w2M) (r := rk2 e k) (Mk := Finset.univ) (Finset.subset_univ _)) $$ H
  iintro H
  iapply Hk
  iexists _
  isplitr
  · ipureintro
    intro i hi
    by_cases hr : i ∈ (rk2 e k).set
    · have hr' : i ∈ ((View.whole cc0_scratch6).slice (rk2 e k)).set := by rw [View.set_slice_whole]; exact hr
      obtain ⟨x, -, rfl⟩ := Finset.mem_map.mp hr'
      refine (wr_at (b := cc0_scratch6) (rk2 e k) f w x).trans ?_
      rw [hw]; rfl
    · refine (wr_off (b := cc0_scratch6) (rk2 e k) f w hr).trans (hf i ?_)
      have i0 : (i (0 : Fin 3)).val < 4 := (i (0 : Fin 3)).isLt
      have i1 : (i (1 : Fin 3)).val < 2048 := (i (1 : Fin 3)).isLt
      by_contra hn
      exact hr (mem_rk2 e k i (by omega) (by omega))
  · iexact H

/-- The load of a whole expert of the kept copy. -/
theorem expert2 (c : Dev nD) (e : Fin 4) (q : ℕ) (hq : 4 * e.val + 4 ≤ q) {hl : (w2M).view.LoadsAt (re2 e).toLoadRect}
    {α : Type} {Q : α → sProp 𝕄} {k' : Vec F S1x2048x1024 .bf16 → Prog (TpuEff nD τ sig (Elt F) Λ₀ .tc) α} :
    Acc2 m c q ⊢ iprop((Acc2 m c q -∗ Run c (k' (W2e m c e)) Q) -∗ Run c (.op (.load w2M (re2 e).toLoadRect hl) k') Q) := by
  unfold Acc2
  iintro ⟨%f, %hf, H⟩ Hk
  iapply (wp_load 𝒱₀ (c : Thread nD τ) none Set.univ (m := w2M) (Finset.subset_univ _)) $$ H
  iintro H
  have hr : (w2M).view.readAt (Elt F) (re2 e).toLoadRect f = W2e m c e := by
    refine funext fun x => hf ((re2 e).emb x) ?_
    have h0 : ((re2 e).emb x (0 : Fin 3)).val = e.val + (x (0 : Fin 3)).val := emb_val (re2 e) (fun _ => rfl) x (0 : Fin 3)
    have x0 : (x (0 : Fin 3)).val < 1 := (x (0 : Fin 3)).isLt
    have i1 : ((re2 e).emb x (1 : Fin 3)).val < 2048 := ((re2 e).emb x (1 : Fin 3)).isLt
    omega
  rw [hr]
  iapply Hk
  iexists f
  isplitr; · (ipureintro; exact hf)
  iexact H

theorem slots2 : Disjoint (T2 0) (T2 1) ∧ (Finset.univ : Finset S2x512x1024.Idx) = T2 0 ∪ T2 1 := by
  refine ⟨Finset.disjoint_left.mpr fun i h h' => ?_, (Finset.eq_univ_iff_forall.mpr fun i => ?_).symm⟩
  · have a := (Finset.mem_filter.mp h).2
    have b := (Finset.mem_filter.mp h').2
    have b' : (i (0 : Fin 3)).val = 1 := b
    have a' : (i (0 : Fin 3)).val = 0 := a
    omega
  · have i0 : (i (0 : Fin 3)).val < 2 := (i (0 : Fin 3)).isLt
    rcases Nat.lt_or_ge (i (0 : Fin 3)).val 1 with h | h
    · exact Finset.mem_union_left _ (Finset.mem_filter.mpr ⟨Finset.mem_univ _, by show (i (0 : Fin 3)).val = 0; omega⟩)
    · exact Finset.mem_union_right _ (Finset.mem_filter.mpr ⟨Finset.mem_univ _, by show (i (0 : Fin 3)).val = 1; omega⟩)

/-- The staging buffer and the array, divided between the slots, and the kept copy with nothing in it. -/
theorem divide2 (c : Dev nD) :
    iprop((∃ g, own c cc0_scratch8 Finset.univ g) ∗ own c main_arg3 Finset.univ (m ((c : Thread nD τ).loc main_arg3)) ∗ semVal (wcell2 c 0) 0 ∗ semVal (wcell2 c 1) 0)
      ⊢ iprop(Free2 m c 0 ∗ Free2 m c 1) := by
  unfold Free2 own
  rw [show (Finset.univ : Finset S2x512x1024.Idx) = T2 0 ∪ T2 1 from (slots2).2]
  iintro ⟨⟨%g, Hg⟩, Ha, H0, H1⟩
  ihave Hg := (pointsTo_union (ℓ := (c : Thread nD τ).loc cc0_scratch8) (slots2).1).1 $$ Hg
  icases Hg with ⟨G0, G1⟩
  ihave Ha := (pointsTo_share (ℓ := (c : Thread nD τ).loc main_arg3) (PosShare.mem_left_op_right fullShare)).1 $$ Ha
  icases Ha with ⟨A0, A1⟩
  isplitl [G0 H0 A0]
  · isplitl [G0]; · iexists g; iexact G0
    isplitl [H0]; · iexact H0
    iexact A0
  · isplitl [G1]; · iexists g; iexact G1
    isplitl [H1]; · iexact H1
    iexact A1

/-- The converse. -/
theorem unite2 (c : Dev nD) : iprop(Free2 m c 0 ∗ Free2 m c 1) ⊢
    iprop((∃ g, own c cc0_scratch8 Finset.univ g) ∗ own c main_arg3 Finset.univ (m ((c : Thread nD τ).loc main_arg3)) ∗ semVal (wcell2 c 0) 0 ∗ semVal (wcell2 c 1) 0) := by
  unfold Free2 own
  rw [show (Finset.univ : Finset S2x512x1024.Idx) = T2 0 ∪ T2 1 from (slots2).2]
  iintro ⟨⟨⟨%g0, G0⟩, H0, A0⟩, ⟨%g1, G1⟩, H1, A1⟩
  isplitl [G0 G1]
  · iexists _
    iapply (pointsTo_join (ℓ := (c : Thread nD τ).loc cc0_scratch8) (slots2).1)
    isplitl [G0] <;> iassumption
  isplitl [A0 A1]
  · iapply (pointsTo_share (ℓ := (c : Thread nD τ).loc main_arg3) (PosShare.mem_left_op_right fullShare)).2
    isplitl [A0]; · iexact A0
    iexact A1
  isplitl [H0] <;> iassumption

end Arr2

end Cert.KernelIdealProof

end
-- ==== Proof.IRules.lean ====
/-
# The exchange's operations: signals, sends and waits over the schedule
-/
module

public import proofs.«01_k».proof.Proof.IWeights

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- Every cell of the exchange follows the schedule and stands in its first round. -/
def records (K : Dev nD × Fin 21 → ℕ) : sProp 𝕄 :=
  iprop((bigSep Finset.univ fun ck : Dev nD × Fin 21 => cellInv ER (sched m) (K ck) (kcell ck))
    ∗ bigSep Finset.univ fun ck : Dev nD × Fin 21 => reached ER (kcell ck) 0)
instance records_persistent (K : Dev nD × Fin 21 → ℕ) : BI.Persistent (records m K) := by unfold records; infer_instance

theorem inv_at (K : Dev nD × Fin 21 → ℕ) (ck : Dev nD × Fin 21) :
    (bigSep Finset.univ fun ck : Dev nD × Fin 21 => (cellInv ER (sched m) (K ck) (kcell ck) : sProp 𝕄)) ⊢ cellInv ER (sched m) (K ck) (kcell ck) :=
  bigSep_elim (Finset.mem_univ ck)
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)
theorem records_at (K : Dev nD × Fin 21 → ℕ) (ck : Dev nD × Fin 21) :
    records m K ⊢ iprop(cellInv ER (sched m) (K ck) (kcell ck) ∗ reached ER (kcell ck) 0) := by
  unfold records
  iintro ⟨#HI, #HR⟩
  isplitr
  · iapply (inv_at m K ck); iexact HI
  · iapply (reached_at ck); iexact HR

theorem kcell_bar (c : Dev nD) : kcell (c, 0) = barCell c := rfl
theorem kcell_dma (c : Dev nD) (k : ℕ) (hk : k < 27) (h : 3 ≤ k ∧ k < 23) : kcell (c, ⟨k - 2, by omega⟩) = dCell c k hk := by
  unfold kcell slot
  rw [dif_neg (show ¬ (k - 2 = 0) by omega)]
  congr 3
  show k - 2 + 2 = k
  omega

theorem rec_bar (K : Dev nD × Fin 21 → ℕ) (c : Dev nD) :
    records m K ⊢ iprop(∃ κ, cellInv ER (sched m) κ (barCell c) ∗ reached ER (barCell c) 0) := by
  iintro #H
  iexists (K (c, 0))
  iapply (records_at m K (c, 0)); iexact H
theorem rec_dma (K : Dev nD × Fin 21 → ℕ) (c : Dev nD) (k : ℕ) (hk : k < 27) (h : 3 ≤ k ∧ k < 23) :
    records m K ⊢ iprop(∃ κ, cellInv ER (sched m) κ (dCell c k hk) ∗ reached ER (dCell c k hk) 0) := by
  rw [← kcell_dma c k hk h]
  have hj : k - 2 < 21 := by omega
  iintro #H
  iexists (K (c, ⟨k - 2, hj⟩))
  iapply (records_at m K (c, ⟨k - 2, hj⟩)); iexact H

/-- A barrier signal to `n`, paying duty `d` of its barrier. -/
theorem signal (K : Dev nD × Fin 21 → ℕ) (c n n' : Dev nD) (hn : n' = n) (d : Bool) (l : List (GSem nD τ sig × ℕ))
    {α : Type} {Q : α → sProp 𝕄} {k' : PUnit → Prog (TpuEff nD τ sig (Elt F) Λ₀ .tc) α} :
    iprop(records m K ∗ OW c ((barCell n, 1) :: l) ∗ dutyTok ER (barCell n) 0 d ∗ (if d then barX (F := F) n else barY (F := F) n))
      ⊢ iprop((OW c l -∗ Run c (k' ⟨⟩) Q) -∗ Run c (.op (.semSignal (Dev.tc n') barS 1) k') Q) := by
  subst hn
  unfold OW
  iintro ⟨#Hrec, ⟨%W, HO⟩, Ht, Hp⟩ Hk
  ihave H := (rec_bar m K n') $$ Hrec
  icases H with ⟨%κ, #HI, #HR⟩
  iapply (Rounds.wp_signal 𝒱₀ ER (sched m) (c : Thread nD τ) none (dst := (n' : Thread nD τ)) (κ := κ) (r := 0) (d := d) (k' := 1)
      (by rw [duties_bar]; cases d <;> decide) rfl () (tl l) rfl) $$ [HO Ht Hp]
  · isplitr; · iexact HI
    isplitl [HO]; · iexact HO
    isplitl [Ht]; · iexact Ht
    isplitl [Hp]
    · iapply (Entails.of_eq (show (if d then barX (F := F) n' else barY (F := F) n') = (sched m).payload (barCell n') 0 d from rfl)); iexact Hp
    iexact HR
  iintro HO
  iapply Hk
  iexists W; iexact HO

/-- The wait for both barrier signals: the neighbours' landing places come with them. -/
theorem wait_bar (K : Dev nD × Fin 21 → ℕ) (c : Dev nD) (l : List (GSem nD τ sig × ℕ)) (hl : ∀ p ∈ l, p.1.1.2 = .tc ∧ lvl (.reg barS) < lvl p.1.2)
    {α : Type} {Q : α → sProp 𝕄} {k' : PUnit → Prog (TpuEff nD τ sig (Elt F) Λ₀ .tc) α} :
    iprop(records m K ∗ levAts L lv ∗ cred (tallyAt (barCell c) () 2) ∗ OW c l ∗ atPos ER (barCell c) 0 ∅ 0)
      ⊢ iprop((iprop(barX (F := F) c ∗ barY (F := F) c ∗ OW c l ∗ semVal (barCell c) 0) -∗ Run c (k' ⟨⟩) Q) -∗ Run c (.op (.semWait barS 2) k') Q) := by
  unfold OW
  iintro ⟨#Hrec, #Hlev, Hc, ⟨%W, HO⟩, Hat⟩ Hk
  ihave H := (rec_bar m K c) $$ Hrec
  icases H with ⟨%κ, #HI, #HR⟩
  iapply (Rounds.wp_wait_rest_token 𝒱₀ ER (sched m) (c : Thread nD τ) none (κ := κ)
      (wpE_semWait_eq 𝒱₀ (c : Thread nD τ) none Set.univ) (Set.mem_univ _) () (O := tl l) (W := W) (R := 0) (m := 0) (T := ∅)
      (by rw [expect_bar])) $$ [Hc HO Hat]
  · isplitr; · iexact HI
    isplitl [Hc]; · iexact Hc
    isplitl [HO]; · iexact HO
    isplitr; · iapply (mayWait_tl c _ l hl); iexact Hlev
    iexact Hat
  iintro ⟨HO, Hat, -, Hp⟩
  ihave Hp := (Entails.of_eq (rest_bar m c)) $$ Hp
  icases Hp with ⟨HX, HY⟩
  imod (Rounds.cell_close ER (sched m) (Set.mem_univ κ) (fun h => h) (R := 0 + 1) (duties_later m (barCell c))) $$ [Hat] with Hz
  · isplitr; · iexact HI
    iexact Hat
  iapply Hk
  isplitl [HX]; · iexact HX
  isplitl [HY]; · iexact HY
  isplitl [HO]; · iexists _; iexact HO
  iexact Hz

/-- The wait for a transfer of the exchange: what its cell hands over comes with it. -/
theorem wait_dma (K : Dev nD × Fin 21 → ℕ) (c : Dev nD) (k : ℕ) (hk : k < 27) (h : 3 ≤ k ∧ k < 23) (l : List (GSem nD τ sig × ℕ))
    (hl : ∀ p ∈ l, p.1.1.2 = .tc ∧ lvl (.dma (dq k hk)) < lvl p.1.2)
    {sp sp' : Space} {s s' : Shape} {e e' : EltTy} {srcw : Memref sig (c : Thread nD τ).2.kind sp' s' e'} {dstw : Memref sig .tc sp s e}
    {hsrc : srcw.view.WordExact} {hdst : dstw.view.WordExact} (hN : dstw.view.dmaCredit = amt k)
    {α : Type} {Q : α → sProp 𝕄} {k' : PUnit → Prog (TpuEff nD τ sig (Elt F) Λ₀ .tc) α} :
    iprop(records m K ∗ levAts L lv ∗ cred (tallyAt (dCell c k hk) () (amt k)) ∗ OW c l ∗ atPos ER (dCell c k hk) 0 ∅ 0)
      ⊢ iprop((iprop(pay m c k ∗ OW c l ∗ semVal (dCell c k hk) 0) -∗ Run c (k' ⟨⟩) Q) -∗ Run c (.op (.waitDma2 (dq k hk) srcw dstw hsrc hdst) k') Q) := by
  unfold OW
  iintro ⟨#Hrec, #Hlev, Hc, ⟨%W, HO⟩, Hat⟩ Hk
  ihave H := (rec_dma m K c k hk h) $$ Hrec
  icases H with ⟨%κ, #HI, #HR⟩
  iapply (Rounds.wp_wait_rest_token 𝒱₀ ER (sched m) (c : Thread nD τ) none (κ := κ)
      (wpE_waitDma2_eq 𝒱₀ (c : Thread nD τ) none Set.univ) (Set.mem_univ _) () (O := tl l) (W := W) (R := 0) (m := 0) (T := ∅)
      (by rw [Nat.zero_add, expect_dma m c k hk h, ← hN])) $$ [Hc HO Hat]
  · isplitr; · iexact HI
    isplitl [Hc]; · rw [← hN]; iexact Hc
    isplitl [HO]; · iexact HO
    isplitr; · iapply (mayWait_tl c _ l hl); iexact Hlev
    iexact Hat
  iintro ⟨HO, Hat, -, Hp⟩
  ihave Hp := (Entails.of_eq (rest_dma m c k hk h)) $$ Hp
  imod (Rounds.cell_close ER (sched m) (Set.mem_univ κ) (fun h => h) (R := 0 + 1) (duties_later m (dCell c k hk))) $$ [Hat] with Hz
  · isplitr; · iexact HI
    iexact Hat
  iapply Hk
  isplitl [Hp]; · iexact Hp
  isplitl [HO]; · iexists _; iexact HO
  iexact Hz

/-- A transfer to `n`: the source's elements come back on the sender's cell, the landing's go to the receiver's. -/
theorem send (K : Dev nD × Fin 21 → ℕ) (c n n' : Dev nD) (hn : n' = n) (ks kr : ℕ) (hks : ks < 27) (hkr : kr < 27) (hs : 3 ≤ ks ∧ ks < 23) (hr : 3 ≤ kr ∧ kr < 23)
    {sp sp' : Space} {s : Shape} {e : EltTy} {src : Memref sig (c : Thread nD τ).2.kind sp s e} {dst : Memref sig .tc sp' s e}
    {hsc : dst.view.ref.isScScratch = false} {hsrc : src.view.WordExact} {hdst : dst.view.WordExact}
    {hsem : DmaTarget.Typed sp (.dma (dq kr hkr)) (.remote (Dev.tc n' : Thread nD τ) dst (.dma (dq ks hks)) hsc)}
    (hN : dst.view.dmaCredit = amt kr) (ha : amt ks = amt kr) (l : List (GSem nD τ sig × ℕ))
    (q : PosShare TreeShare) (fs : Buf (Elt F) (src.view.loc (c : Thread nD τ))) (fd : Buf (Elt F) (dst.view.loc (n : Thread nD τ)))
    (hp₁ : (src.view.loc (c : Thread nD τ) ↦[src.view.set]{q} fs : sProp 𝕄) ⊢ pay m c ks)
    (hp₂ : (dst.view.loc (n : Thread nD τ) ↦[dst.view.set]{fullShare} (dst.view.write (Elt F) fd (src.view.read (Elt F) fs) Finset.univ) : sProp 𝕄) ⊢ pay m n kr)
    {α : Type} {Q : α → sProp 𝕄} {k' : PUnit → Prog (TpuEff nD τ sig (Elt F) Λ₀ .tc) α} :
    iprop(records m K ∗ (src.view.loc (c : Thread nD τ) ↦[src.view.set]{q} fs) ∗ (dst.view.loc (n : Thread nD τ) ↦[dst.view.set]{fullShare} fd)
        ∗ OW c ((dCell n kr hkr, amt kr) :: l) ∗ dutyTok ER (dCell c ks hks) 0 true ∗ dutyTok ER (dCell n kr hkr) 0 true)
      ⊢ iprop((iprop(cred (tallyAt (dCell c ks hks) () (amt ks)) ∗ OW c l) -∗ Run c (k' ⟨⟩) Q)
          -∗ Run c (.op (.enqueueDma src (.remote (Dev.tc n' : Thread nD τ) dst (.dma (dq ks hks)) hsc) (.dma (dq kr hkr)) hsrc hdst hsem) k') Q) := by
  subst hn
  unfold OW
  iintro ⟨#Hrec, Hs, Hd, ⟨%W, HO⟩, T1, T2⟩ Hk
  ihave H := (rec_dma m K c ks hks hs) $$ Hrec
  icases H with ⟨%κ₁, #HI1, #HR1⟩
  ihave H := (rec_dma m K n' kr hkr hr) $$ Hrec
  icases H with ⟨%κ₂, #HI2, #HR2⟩
  iapply (Rounds.wp_send_pointsTo 𝒱₀ ER (sched m) (c : Thread nD τ) none (c' := (n' : Thread nD τ)) (sS := .dma (dq ks hks)) (sem := .dma (dq kr hkr)) (κ₁ := κ₁) (κ₂ := κ₂)
    (r₁ := 0) (r₂ := 0) (d₁ := true) (d₂ := true) (fd := fd) (q := q) (fs := fs)
    (by rw [duties_dma m c ks hks hs]; exact Finset.mem_singleton_self _) (by rw [duties_dma m n' kr hkr hr]; exact Finset.mem_singleton_self _)
    () () (amt kr) (show dst.view.amount (.dma (dq kr hkr)) = amt kr from hN) ha rfl (tl l) rfl (W := W) hp₁ hp₂) $$ [Hs Hd HO T1 T2]
  · isplitr; · iexact HI1
    isplitr; · iexact HI2
    isplitl [Hs]; · iexact Hs
    isplitl [Hd]; · iexact Hd
    isplitl [HO]; · iexact HO
    isplitl [T1]; · iexact T1
    isplitr; · iexact HR1
    isplitl [T2]; · iexact T2
    iexact HR2
  iintro ⟨Hc, HO⟩
  iapply Hk
  isplitl [Hc]; · rw [ha]; iexact Hc
  iexists W; iexact HO

end Cert.KernelIdealProof

end
-- ==== Proof.IOps.lean ====
/-
# The exchange's steps, one by one
-/
module

public import proofs.«01_k».proof.Proof.IRules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- The two duties of a transfer to `n`. -/
abbrev Tk (c n : Dev nD) (ks kr : ℕ) (hks : ks < 27 := by decide) (hkr : kr < 27 := by decide) : sProp 𝕄 :=
  iprop(dutyTok ER (dCell c ks hks) 0 true ∗ dutyTok ER (dCell n kr hkr) 0 true)
/-- Where a device stands on a cell, its credit there, and the cell closed. -/
abbrev At (c : Dev nD) (k : ℕ) (hk : k < 27 := by decide) : sProp 𝕄 := atPos ER (dCell c k hk) 0 ∅ 0
abbrev Cr (c : Dev nD) (k : ℕ) (hk : k < 27 := by decide) : sProp 𝕄 := cred (tallyAt (dCell c k hk) () (amt k))
abbrev Dn (c : Dev nD) (k : ℕ) (hk : k < 27 := by decide) : sProp 𝕄 := semVal (dCell c k hk) 0

/-- What a device owes after its first `j` transfers of the second exchange and of the result's. -/
abbrev Left (c : Dev nD) (j : ℕ) : List (GSem nD τ sig × ℕ) := (oweSum c).drop j

theorem above_left (c : Dev nD) (j : ℕ) (s : SemLoc sig) (h : lvl s < 4) : ∀ p ∈ Left c j, p.1.1.2 = .tc ∧ lvl s < lvl p.1.2 :=
  fun p hp => above_sum c s h p (List.mem_of_mem_drop hp)
theorem above_left' (c : Dev nD) (j : ℕ) (s : SemLoc sig) (h : lvl s < 5) : ∀ p ∈ Left c (j + 4), p.1.1.2 = .tc ∧ lvl s < lvl p.1.2 :=
  fun p hp => above_out c s h p (List.mem_of_mem_drop (by
    have e : Left c (j + 4) = (oweOut c).drop j := rfl
    rw [← e]; exact hp))

/-- What a device's signal hands its neighbour across the rows. -/
theorem giveX (c : Dev nD) : iprop((∃ f, own c cc0_scratch0 Finset.univ f) ∗ (∃ f, own c cc0_scratch1 (xhM).view.set f) ∗ (∃ f, own c cc0_scratch4 Finset.univ f))
    ⊢ (if true then barX (F := F) (xn c) else barY (F := F) (xn c) : sProp 𝕄) := by
  refine Entails.of_eq ?_
  rw [if_pos rfl]
  unfold barX
  rw [xn_xn]

/-- What a device's signal hands its neighbour across the columns. -/
theorem giveY (c : Dev nD) : iprop((∃ f, own c cc0_stg2_0 (oC (yn c) 0).view.set f) ∗ (∃ f, own c cc0_stg2_0 (oC (yn c) 1).view.set f)
      ∗ (∃ f, own c cc0_stg2_0 (oC (yn c) 2).view.set f) ∗ (∃ f, own c cc0_stg2_0 (oC (yn c) 3).view.set f))
    ⊢ (if false then barX (F := F) (yn c) else barY (F := F) (yn c) : sProp 𝕄) := by
  refine Entails.of_eq ?_
  rw [if_neg (by decide)]
  unfold barY
  rw [yn_yn]

/-- The result's buffer, its own rows and the neighbour's apart. -/
theorem split_out (c : Dev nD) (f : (cc0_stg2_0 : Ref sig .tc).ty.Contents (Elt F)) :
    (own c cc0_stg2_0 Finset.univ f : sProp 𝕄) ⊢ iprop(((∃ f, own c cc0_stg2_0 (oC c 0).view.set f) ∗ (∃ f, own c cc0_stg2_0 (oC c 1).view.set f)
      ∗ (∃ f, own c cc0_stg2_0 (oC c 2).view.set f) ∗ (∃ f, own c cc0_stg2_0 (oC c 3).view.set f))
      ∗ ((∃ f, own c cc0_stg2_0 (oC (yn c) 0).view.set f) ∗ (∃ f, own c cc0_stg2_0 (oC (yn c) 1).view.set f)
      ∗ (∃ f, own c cc0_stg2_0 (oC (yn c) 2).view.set f) ∗ (∃ f, own c cc0_stg2_0 (oC (yn c) 3).view.set f))) := by
  rw [out_quarters c c f]
  iintro ⟨⟨H0, H1, H2, H3⟩, G0, G1, G2, G3⟩
  isplitl [H0 H1 H2 H3]
  · isplitl [H0]; · iexists f; iexact H0
    isplitl [H1]; · iexists f; iexact H1
    isplitl [H2]; · iexists f; iexact H2
    iexists f; iexact H3
  · isplitl [G0]; · iexists f; iexact G0
    isplitl [G1]; · iexists f; iexact G1
    isplitl [G2]; · iexists f; iexact G2
    iexists f; iexact G3

/-- The token buffer, its halves apart. -/
theorem split_xc (c : Dev nD) (f : (cc0_scratch1 : Ref sig .tc).ty.Contents (Elt F)) :
    (own c cc0_scratch1 Finset.univ f : sProp 𝕄) ⊢ iprop(own c cc0_scratch1 (xlM).view.set f ∗ own c cc0_scratch1 (xhM).view.set f) := by
  unfold own
  rw [show (Finset.univ : Finset S512x1024.Idx) = (xlM).view.set ∪ (xhM).view.set from lo_hi_union.symm]
  exact (pointsTo_union (ℓ := (c : Thread nD τ).loc cc0_scratch1) lo_hi_disjoint).1

/-- The token buffer, once both halves are in. -/
theorem join_xc (c : Dev nD) :
    iprop((((c : Thread nD τ).loc cc0_scratch1) ↦[(xlM).view.set]{(fullShare).left} XC m c) ∗ (((c : Thread nD τ).loc cc0_scratch1) ↦[(xlM).view.set]{(fullShare).right} XC m c)
      ∗ own c cc0_scratch1 (xhM).view.set (XC m c)) ⊢ (own c cc0_scratch1 Finset.univ (XC m c) : sProp 𝕄) := by
  iintro ⟨HL, HR, HH⟩
  unfold own
  rw [show (Finset.univ : Finset S512x1024.Idx) = (xlM).view.set ∪ (xhM).view.set from lo_hi_union.symm]
  iapply (pointsTo_union (ℓ := (c : Thread nD τ).loc cc0_scratch1) lo_hi_disjoint).2
  isplitr [HH]
  · iapply (pointsTo_share (ℓ := (c : Thread nD τ).loc cc0_scratch1) (PosShare.mem_left_op_right fullShare)).2
    isplitl [HL]; · iexact HL
    iexact HR
  · iexact HH

section Steps

/-- The store of the device's own tokens in the lower half of the token buffer. -/
theorem store_xc (c : Dev nD) (f : (cc0_scratch1 : Ref sig .tc).ty.Contents (Elt F))
    {hx : ((xcM).access rlo : View sig .tc _ _ _).Stores Finset.univ} {hm : (Finset.univ : Finset rlo.shape.Idx) = Finset.univ ∨ ∀ a, rlo.stride a = 1}
    {α : Type} {Q : α → sProp 𝕄} {k' : PUnit → Prog (TpuEff nD τ sig (Elt F) Λ₀ .tc) α} :
    (own c cc0_scratch1 (xlM).view.set f : sProp 𝕄) ⊢ iprop((iprop((((c : Thread nD τ).loc cc0_scratch1) ↦[(xlM).view.set]{(fullShare).left} XC m c)
        ∗ (((c : Thread nD τ).loc cc0_scratch1) ↦[(xlM).view.set]{(fullShare).right} XC m c)) -∗ Run c (k' ⟨⟩) Q)
      -∗ Run c (.op (.store xcM rlo (k0_pay1 ((xM).view.readAt (Elt F) (rown c).toLoadRect (xstg m c))) Finset.univ hx hm) k') Q) := by
  iintro H Hk
  iapply (wp_store 𝒱₀ (c : Thread nD τ) none Set.univ (m := xcM) (r := rlo) (Mk := Finset.univ) (S := (xlM).view.set) (Finset.Subset.refl _)) $$ H
  iintro H
  ihave H := (Entails.of_eq (pointsTo_congr (store_lo m c f))) $$ H
  ihave H := (pointsTo_share (ℓ := (c : Thread nD τ).loc cc0_scratch1) (PosShare.mem_left_op_right fullShare)).1 $$ H
  iapply Hk; iexact H

/-- A load of the lower half of the token buffer. -/
theorem load_xl (c : Dev nD) {hl : (xcM).view.LoadsAt rlo.toLoadRect} {α : Type} {Q : α → sProp 𝕄} {k' : Vec F S256x1024 .f32 → Prog (TpuEff nD τ sig (Elt F) Λ₀ .tc) α} :
    (((c : Thread nD τ).loc cc0_scratch1) ↦[(xlM).view.set]{(fullShare).right} XC m c : sProp 𝕄)
      ⊢ iprop(((((c : Thread nD τ).loc cc0_scratch1) ↦[(xlM).view.set]{(fullShare).right} XC m c) -∗ Run c (k' (xlo m c)) Q)
        -∗ Run c (.op (.load xcM rlo.toLoadRect hl) k') Q) := by
  iintro H Hk
  iapply (wp_load 𝒱₀ (c : Thread nD τ) none Set.univ (m := xcM) (S := (xlM).view.set) (show (xcM).view.setOn rlo.toLoadRect.set ⊆ (xlM).view.set from fun i hi => by
    obtain ⟨x, hx, rfl⟩ := Finset.mem_map.mp hi
    show x ∈ ((View.whole cc0_scratch1).slice rlo).set
    rw [View.set_slice_whole]; exact hx)) $$ H
  iintro H
  rw [read_lo]
  iapply Hk; iexact H

/-- A load of the upper half. -/
theorem load_xh (c : Dev nD) {hl : (xcM).view.LoadsAt rhi.toLoadRect} {α : Type} {Q : α → sProp 𝕄} {k' : Vec F S256x1024 .f32 → Prog (TpuEff nD τ sig (Elt F) Λ₀ .tc) α} :
    (own c cc0_scratch1 Finset.univ (XC m c) : sProp 𝕄)
      ⊢ iprop((own c cc0_scratch1 Finset.univ (XC m c) -∗ Run c (k' (xlo m (xn c))) Q) -∗ Run c (.op (.load xcM rhi.toLoadRect hl) k') Q) := by
  iintro H Hk
  iapply (wp_load 𝒱₀ (c : Thread nD τ) none Set.univ (m := xcM) (Finset.subset_univ _)) $$ H
  iintro H
  rw [read_hi]
  iapply Hk; iexact H

theorem zero2 : (![0, 0] : Fin 2 → Nat) = fun _ => 0 := by funext a; fin_cases a <;> rfl

/-- A load of the router columns a device holds, its own and its neighbour's. -/
theorem load_r (c : Dev nD) (f : (cc0_stg1_0 : Ref sig .tc).ty.Contents (Elt F)) {hb : ∀ a, (![0, 0] : Fin 2 → Nat) a + S1024x4.size a ≤ S1024x4.size a}
    {hl : (rM).view.LoadsAt (Rect.unit (s := S1024x4) ![0, 0] S1024x4.size hb).toLoadRect} {α : Type} {Q : α → sProp 𝕄} {k' : Vec F S1024x4 .f32 → Prog (TpuEff nD τ sig (Elt F) Λ₀ .tc) α} :
    (own c cc0_stg1_0 Finset.univ f : sProp 𝕄)
      ⊢ iprop((own c cc0_stg1_0 Finset.univ f -∗ Run c (k' f) Q) -∗ Run c (.op (.load rM (Rect.unit (s := S1024x4) ![0, 0] S1024x4.size hb).toLoadRect hl) k') Q) := by
  iintro H Hk
  iapply (wp_load 𝒱₀ (c : Thread nD τ) none Set.univ (m := rM) (Finset.subset_univ _)) $$ H
  iintro H
  rw [show (rM).view.readAt (Elt F) (Rect.unit (s := S1024x4) ![0, 0] S1024x4.size hb).toLoadRect f = f from
    Memref.readAt_unit_zero (Elt F) cc0_stg1_0 zero2 _ f]
  iapply Hk; iexact H
theorem load_rr (c : Dev nD) (f : (cc0_scratch0 : Ref sig .tc).ty.Contents (Elt F)) {hb : ∀ a, (![0, 0] : Fin 2 → Nat) a + S1024x4.size a ≤ S1024x4.size a}
    {hl : (rrM).view.LoadsAt (Rect.unit (s := S1024x4) ![0, 0] S1024x4.size hb).toLoadRect} {α : Type} {Q : α → sProp 𝕄} {k' : Vec F S1024x4 .f32 → Prog (TpuEff nD τ sig (Elt F) Λ₀ .tc) α} :
    (own c cc0_scratch0 Finset.univ f : sProp 𝕄)
      ⊢ iprop((own c cc0_scratch0 Finset.univ f -∗ Run c (k' f) Q) -∗ Run c (.op (.load rrM (Rect.unit (s := S1024x4) ![0, 0] S1024x4.size hb).toLoadRect hl) k') Q) := by
  iintro H Hk
  iapply (wp_load 𝒱₀ (c : Thread nD τ) none Set.univ (m := rrM) (Finset.subset_univ _)) $$ H
  iintro H
  rw [show (rrM).view.readAt (Elt F) (Rect.unit (s := S1024x4) ![0, 0] S1024x4.size hb).toLoadRect f = f from
    Memref.readAt_unit_zero (Elt F) cc0_scratch0 zero2 _ f]
  iapply Hk; iexact H

/-! ### The rounded tokens -/

/-- The rounded tokens' buffer: empty, with the lower half in, with both in. -/
def XB0 (c : Dev nD) : sProp 𝕄 := iprop(∃ f, own c cc0_scratch2 Finset.univ f)
def XB1 (c : Dev nD) : sProp 𝕄 := iprop(∃ f, ⌜(xbM).view.readAt (Elt F) rlo.toLoadRect f = blo m c⌝ ∗ own c cc0_scratch2 Finset.univ f)
def XB2 (c : Dev nD) : sProp 𝕄 := iprop(∃ f, ⌜(xbM).view.readAt (Elt F) rlo.toLoadRect f = blo m c ∧ (xbM).view.readAt (Elt F) rhi.toLoadRect f = bhi m c⌝ ∗ own c cc0_scratch2 Finset.univ f)

theorem store_lo1 (c : Dev nD) {hl : (xbM).view.LoadsAt rlo.toLoadRect}
    {hx : ((xbM).access rlo : View sig .tc _ _ _).Stores Finset.univ} {hm : (Finset.univ : Finset rlo.shape.Idx) = Finset.univ ∨ ∀ a, rlo.stride a = 1}
    {α : Type} {Q : α → sProp 𝕄} {k' : PUnit → Prog (TpuEff nD τ sig (Elt F) Λ₀ .tc) α} :
    (XB0 c : sProp 𝕄) ⊢ iprop((XB1 m c -∗ Run c (k' ⟨⟩) Q)
      -∗ Run c (.op (.load xbM rlo.toLoadRect hl) fun _ => .op (.store xbM rlo (k0_pay7 (xlo m c)) Finset.univ hx hm) k') Q) := by
  unfold XB0 XB1
  iintro ⟨%f, H⟩ Hk
  iapply (wp_load 𝒱₀ (c : Thread nD τ) none Set.univ (m := xbM) (Finset.subset_univ _)) $$ H
  iintro H
  iapply (wp_store 𝒱₀ (c : Thread nD τ) none Set.univ (m := xbM) (r := rlo) (Mk := Finset.univ) (Finset.subset_univ _)) $$ H
  iintro H
  iapply Hk
  iexists _
  isplitr
  · ipureintro; exact read_lo_store f _
  · iexact H
theorem store_hi1 (c : Dev nD) {hl : (xbM).view.LoadsAt rhi.toLoadRect}
    {hx : ((xbM).access rhi : View sig .tc _ _ _).Stores Finset.univ} {hm : (Finset.univ : Finset rhi.shape.Idx) = Finset.univ ∨ ∀ a, rhi.stride a = 1}
    {α : Type} {Q : α → sProp 𝕄} {k' : PUnit → Prog (TpuEff nD τ sig (Elt F) Λ₀ .tc) α} :
    (XB1 m c : sProp 𝕄) ⊢ iprop((XB2 m c -∗ Run c (k' ⟨⟩) Q)
      -∗ Run c (.op (.load xbM rhi.toLoadRect hl) fun _ => .op (.store xbM rhi (k0_pay32 (xlo m (xn c))) Finset.univ hx hm) k') Q) := by
  unfold XB1 XB2
  iintro ⟨%f, %hf, H⟩ Hk
  iapply (wp_load 𝒱₀ (c : Thread nD τ) none Set.univ (m := xbM) (Finset.subset_univ _)) $$ H
  iintro H
  iapply (wp_store 𝒱₀ (c : Thread nD τ) none Set.univ (m := xbM) (r := rhi) (Mk := Finset.univ) (Finset.subset_univ _)) $$ H
  iintro H
  iapply Hk
  iexists _
  isplitr
  · ipureintro; exact ⟨(read_lo_store_hi f _).trans hf, read_hi_store f _⟩
  · iexact H
theorem readLo1 (c : Dev nD) {hl : (xbM).view.LoadsAt rlo.toLoadRect} {α : Type} {Q : α → sProp 𝕄} {k' : Vec F S256x1024 .bf16 → Prog (TpuEff nD τ sig (Elt F) Λ₀ .tc) α} :
    (XB1 m c : sProp 𝕄) ⊢ iprop((XB1 m c -∗ Run c (k' (blo m c)) Q) -∗ Run c (.op (.load xbM rlo.toLoadRect hl) k') Q) := by
  unfold XB1
  iintro ⟨%f, %hf, H⟩ Hk
  iapply (wp_load 𝒱₀ (c : Thread nD τ) none Set.univ (m := xbM) (Finset.subset_univ _)) $$ H
  iintro H
  rw [hf]
  iapply Hk
  iexists f
  isplitr; · (ipureintro; exact hf)
  iexact H
theorem readLo2 (c : Dev nD) {hl : (xbM).view.LoadsAt rlo.toLoadRect} {α : Type} {Q : α → sProp 𝕄} {k' : Vec F S256x1024 .bf16 → Prog (TpuEff nD τ sig (Elt F) Λ₀ .tc) α} :
    (XB2 m c : sProp 𝕄) ⊢ iprop((XB2 m c -∗ Run c (k' (blo m c)) Q) -∗ Run c (.op (.load xbM rlo.toLoadRect hl) k') Q) := by
  unfold XB2
  iintro ⟨%f, %hf, H⟩ Hk
  iapply (wp_load 𝒱₀ (c : Thread nD τ) none Set.univ (m := xbM) (Finset.subset_univ _)) $$ H
  iintro H
  rw [hf.1]
  iapply Hk
  iexists f
  isplitr; · (ipureintro; exact hf)
  iexact H
theorem readHi (c : Dev nD) {hl : (xbM).view.LoadsAt rhi.toLoadRect} {α : Type} {Q : α → sProp 𝕄} {k' : Vec F S256x1024 .bf16 → Prog (TpuEff nD τ sig (Elt F) Λ₀ .tc) α} :
    (XB2 m c : sProp 𝕄) ⊢ iprop((XB2 m c -∗ Run c (k' (bhi m c)) Q) -∗ Run c (.op (.load xbM rhi.toLoadRect hl) k') Q) := by
  unfold XB2
  iintro ⟨%f, %hf, H⟩ Hk
  iapply (wp_load 𝒱₀ (c : Thread nD τ) none Set.univ (m := xbM) (Finset.subset_univ _)) $$ H
  iintro H
  rw [hf.2]
  iapply Hk
  iexists f
  isplitr; · (ipureintro; exact hf)
  iexact H

/-! ### The sends -/

variable (K : Dev nD × Fin 21 → ℕ)
/-- The router columns, to the neighbour across the rows. -/
theorem send_r (c : Dev nD) {hsc : (rrM).view.ref.isScScratch = false} {hsrc : (rM).view.WordExact} {hdst : (rrM).view.WordExact}
    {hsem : DmaTarget.Typed _ (.dma (dq 3)) (.remote (Dev.tc (⟨k0_dev3 c, k0_dev3_lt c⟩ : Dev nD) : Thread nD τ) (rrM) (.dma (dq 5)) hsc)}
    {α : Type} {Q : α → sProp 𝕄} {k' : PUnit → Prog (TpuEff nD τ sig (Elt F) Λ₀ .tc) α} :
    iprop(records m K ∗ own c cc0_stg1_0 Finset.univ (rstg m c) ∗ (∃ f, own (xn c) cc0_scratch0 Finset.univ f) ∗ OW c ((dCell (xn c) 3, Nr) :: (dCell (xn c) 4, Nx) :: oweSum c) ∗ Tk c (xn c) 5 3)
      ⊢ iprop((iprop(Cr c 5 ∗ OW c ((dCell (xn c) 4, Nx) :: oweSum c)) -∗ Run c (k' ⟨⟩) Q)
        -∗ Run c (.op (.enqueueDma (rM) (.remote (Dev.tc (⟨k0_dev3 c, k0_dev3_lt c⟩ : Dev nD) : Thread nD τ) (rrM) (.dma (dq 5)) hsc) (.dma (dq 3)) hsrc hdst hsem) k') Q) := by
  iintro ⟨#Hrec, Hs, ⟨%fd, Hd⟩, HO, T1, T2⟩ Hk
  iapply (send m K c (xn c) _ (dev3_eq c) 5 3 (of_decide_eq_true rfl) (of_decide_eq_true rfl) (of_decide_eq_true rfl) (of_decide_eq_true rfl) (src := rM) (dst := rrM) rfl rfl ((dCell (xn c) 4, Nx) :: oweSum c) fullShare /- whole -/ (rstg m c) fd ?_ ?_) $$ [Hs Hd HO T1 T2]
  rotate_left
  rotate_left
  · isplitr; · iexact Hrec
    isplitl [Hs]; · rw [View.set_whole]; iexact Hs
    isplitl [Hd]; · rw [View.set_whole]; iexact Hd
    isplitl [HO]; · iexact HO
    isplitl [T1]; · iexact T1
    iexact T2
  · iexact Hk
  · rw [View.set_whole]; exact Entails.of_eq rfl
  · rw [View.set_whole]
    refine Entails.of_eq ?_
    show _ = own (xn c) cc0_scratch0 Finset.univ (rstg m (xn (xn c)))
    rw [xn_xn]
    exact pointsTo_congr fun i _ => by
      exact congrFun (View.write_whole_univ (Val := Elt F) cc0_scratch0 fd _) i
/-- The tokens, to the neighbour across the rows. -/
theorem send_x (c : Dev nD) {hsc : (xhM).view.ref.isScScratch = false} {hsrc : (xlM).view.WordExact} {hdst : (xhM).view.WordExact}
    {hsem : DmaTarget.Typed _ (.dma (dq 4)) (.remote (Dev.tc (⟨k0_dev4 c, k0_dev4_lt c⟩ : Dev nD) : Thread nD τ) (xhM) (.dma (dq 6)) hsc)}
    {α : Type} {Q : α → sProp 𝕄} {k' : PUnit → Prog (TpuEff nD τ sig (Elt F) Λ₀ .tc) α} :
    iprop(records m K ∗ (((c : Thread nD τ).loc cc0_scratch1) ↦[(xlM).view.set]{(fullShare).left} XC m c) ∗ (∃ f, own (xn c) cc0_scratch1 (xhM).view.set f) ∗ OW c ((dCell (xn c) 4, Nx) :: oweSum c) ∗ Tk c (xn c) 6 4)
      ⊢ iprop((iprop(Cr c 6 ∗ OW c (oweSum c)) -∗ Run c (k' ⟨⟩) Q)
        -∗ Run c (.op (.enqueueDma (xlM) (.remote (Dev.tc (⟨k0_dev4 c, k0_dev4_lt c⟩ : Dev nD) : Thread nD τ) (xhM) (.dma (dq 6)) hsc) (.dma (dq 4)) hsrc hdst hsem) k') Q) := by
  iintro ⟨#Hrec, Hs, ⟨%fd, Hd⟩, HO, T1, T2⟩ Hk
  iapply (send m K c (xn c) _ (dev4_eq c) 6 4 (of_decide_eq_true rfl) (of_decide_eq_true rfl) (of_decide_eq_true rfl) (of_decide_eq_true rfl) (src := xlM) (dst := xhM) rfl rfl (oweSum c) (fullShare).left (XC m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (xn c) cc0_scratch1 (xhM).view.set (XC m (xn c))
    refine pointsTo_congr fun i hi => ?_
    have h := land_hi m (xn c) fd i hi
    rw [xn_xn] at h
    exact h
/-- Chunk 0 of the share of the neighbour's tokens. -/
theorem send_p0 (c : Dev nD) {hsc : (prC 0).view.ref.isScScratch = false} {hsrc : (psC 0).view.WordExact} {hdst : (prC 0).view.WordExact}
    {hsem : DmaTarget.Typed _ (.dma (dq 7)) (.remote (Dev.tc (⟨k0_dev5 c, k0_dev5_lt c⟩ : Dev nD) : Thread nD τ) (prC 0) (.dma (dq 11)) hsc)}
    {α : Type} {Q : α → sProp 𝕄} {k' : PUnit → Prog (TpuEff nD τ sig (Elt F) Λ₀ .tc) α} :
    iprop(records m K ∗ own c cc0_scratch3 (psC 0).view.set (accHi m c) ∗ (∃ f, own (xn c) cc0_scratch4 (prC 0).view.set f) ∗ OW c (Left c 0) ∗ Tk c (xn c) 11 7)
      ⊢ iprop((iprop(Cr c 11 ∗ OW c (Left c 1)) -∗ Run c (k' ⟨⟩) Q)
        -∗ Run c (.op (.enqueueDma (psC 0) (.remote (Dev.tc (⟨k0_dev5 c, k0_dev5_lt c⟩ : Dev nD) : Thread nD τ) (prC 0) (.dma (dq 11)) hsc) (.dma (dq 7)) hsrc hdst hsem) k') Q) := by
  iintro ⟨#Hrec, Hs, ⟨%fd, Hd⟩, HO, T1, T2⟩ Hk
  iapply (send m K c (xn c) _ (dev5_eq c) 11 7 (of_decide_eq_true rfl) (of_decide_eq_true rfl) (of_decide_eq_true rfl) (of_decide_eq_true rfl) (src := psC 0) (dst := prC 0) rfl rfl (Left c 1) fullShare (accHi m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (xn c) cc0_scratch4 (prC 0).view.set (accHi m (xn (xn c)))
    rw [xn_xn]
    exact pointsTo_congr (land_pr 0 fd (accHi m c))
/-- Chunk 1 of the share of the neighbour's tokens. -/
theorem send_p1 (c : Dev nD) {hsc : (prC 1).view.ref.isScScratch = false} {hsrc : (psC 1).view.WordExact} {hdst : (prC 1).view.WordExact}
    {hsem : DmaTarget.Typed _ (.dma (dq 8)) (.remote (Dev.tc (⟨k0_dev6 c, k0_dev6_lt c⟩ : Dev nD) : Thread nD τ) (prC 1) (.dma (dq 12)) hsc)}
    {α : Type} {Q : α → sProp 𝕄} {k' : PUnit → Prog (TpuEff nD τ sig (Elt F) Λ₀ .tc) α} :
    iprop(records m K ∗ own c cc0_scratch3 (psC 1).view.set (accHi m c) ∗ (∃ f, own (xn c) cc0_scratch4 (prC 1).view.set f) ∗ OW c (Left c 1) ∗ Tk c (xn c) 12 8)
      ⊢ iprop((iprop(Cr c 12 ∗ OW c (Left c 2)) -∗ Run c (k' ⟨⟩) Q)
        -∗ Run c (.op (.enqueueDma (psC 1) (.remote (Dev.tc (⟨k0_dev6 c, k0_dev6_lt c⟩ : Dev nD) : Thread nD τ) (prC 1) (.dma (dq 12)) hsc) (.dma (dq 8)) hsrc hdst hsem) k') Q) := by
  iintro ⟨#Hrec, Hs, ⟨%fd, Hd⟩, HO, T1, T2⟩ Hk
  iapply (send m K c (xn c) _ (dev6_eq c) 12 8 (of_decide_eq_true rfl) (of_decide_eq_true rfl) (of_decide_eq_true rfl) (of_decide_eq_true rfl) (src := psC 1) (dst := prC 1) rfl rfl (Left c 2) fullShare (accHi m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (xn c) cc0_scratch4 (prC 1).view.set (accHi m (xn (xn c)))
    rw [xn_xn]
    exact pointsTo_congr (land_pr 1 fd (accHi m c))
/-- Chunk 2 of the share of the neighbour's tokens. -/
theorem send_p2 (c : Dev nD) {hsc : (prC 2).view.ref.isScScratch = false} {hsrc : (psC 2).view.WordExact} {hdst : (prC 2).view.WordExact}
    {hsem : DmaTarget.Typed _ (.dma (dq 9)) (.remote (Dev.tc (⟨k0_dev7 c, k0_dev7_lt c⟩ : Dev nD) : Thread nD τ) (prC 2) (.dma (dq 13)) hsc)}
    {α : Type} {Q : α → sProp 𝕄} {k' : PUnit → Prog (TpuEff nD τ sig (Elt F) Λ₀ .tc) α} :
    iprop(records m K ∗ own c cc0_scratch3 (psC 2).view.set (accHi m c) ∗ (∃ f, own (xn c) cc0_scratch4 (prC 2).view.set f) ∗ OW c (Left c 2) ∗ Tk c (xn c) 13 9)
      ⊢ iprop((iprop(Cr c 13 ∗ OW c (Left c 3)) -∗ Run c (k' ⟨⟩) Q)
        -∗ Run c (.op (.enqueueDma (psC 2) (.remote (Dev.tc (⟨k0_dev7 c, k0_dev7_lt c⟩ : Dev nD) : Thread nD τ) (prC 2) (.dma (dq 13)) hsc) (.dma (dq 9)) hsrc hdst hsem) k') Q) := by
  iintro ⟨#Hrec, Hs, ⟨%fd, Hd⟩, HO, T1, T2⟩ Hk
  iapply (send m K c (xn c) _ (dev7_eq c) 13 9 (of_decide_eq_true rfl) (of_decide_eq_true rfl) (of_decide_eq_true rfl) (of_decide_eq_true rfl) (src := psC 2) (dst := prC 2) rfl rfl (Left c 3) fullShare (accHi m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (xn c) cc0_scratch4 (prC 2).view.set (accHi m (xn (xn c)))
    rw [xn_xn]
    exact pointsTo_congr (land_pr 2 fd (accHi m c))
/-- Chunk 3 of the share of the neighbour's tokens. -/
theorem send_p3 (c : Dev nD) {hsc : (prC 3).view.ref.isScScratch = false} {hsrc : (psC 3).view.WordExact} {hdst : (prC 3).view.WordExact}
    {hsem : DmaTarget.Typed _ (.dma (dq 10)) (.remote (Dev.tc (⟨k0_dev8 c, k0_dev8_lt c⟩ : Dev nD) : Thread nD τ) (prC 3) (.dma (dq 14)) hsc)}
    {α : Type} {Q : α → sProp 𝕄} {k' : PUnit → Prog (TpuEff nD τ sig (Elt F) Λ₀ .tc) α} :
    iprop(records m K ∗ own c cc0_scratch3 (psC 3).view.set (accHi m c) ∗ (∃ f, own (xn c) cc0_scratch4 (prC 3).view.set f) ∗ OW c (Left c 3) ∗ Tk c (xn c) 14 10)
      ⊢ iprop((iprop(Cr c 14 ∗ OW c (Left c 4)) -∗ Run c (k' ⟨⟩) Q)
        -∗ Run c (.op (.enqueueDma (psC 3) (.remote (Dev.tc (⟨k0_dev8 c, k0_dev8_lt c⟩ : Dev nD) : Thread nD τ) (prC 3) (.dma (dq 14)) hsc) (.dma (dq 10)) hsrc hdst hsem) k') Q) := by
  iintro ⟨#Hrec, Hs, ⟨%fd, Hd⟩, HO, T1, T2⟩ Hk
  iapply (send m K c (xn c) _ (dev8_eq c) 14 10 (of_decide_eq_true rfl) (of_decide_eq_true rfl) (of_decide_eq_true rfl) (of_decide_eq_true rfl) (src := psC 3) (dst := prC 3) rfl rfl (Left c 4) fullShare (accHi m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (xn c) cc0_scratch4 (prC 3).view.set (accHi m (xn (xn c)))
    rw [xn_xn]
    exact pointsTo_congr (land_pr 3 fd (accHi m c))
/-- Chunk 0 of the result, to the neighbour across the columns. -/
theorem send_o0 (c : Dev nD) {hsc : (oC c 0).view.ref.isScScratch = false} {hsrc : (oC c 0).view.WordExact} {hdst : (oC c 0).view.WordExact}
    {hsem : DmaTarget.Typed _ (.dma (dq 15)) (.remote (Dev.tc (⟨k0_dev9 c, k0_dev9_lt c⟩ : Dev nD) : Thread nD τ) (oC c 0) (.dma (dq 19)) hsc)}
    {α : Type} {Q : α → sProp 𝕄} {k' : PUnit → Prog (TpuEff nD τ sig (Elt F) Λ₀ .tc) α} :
    iprop(records m K ∗ own c cc0_stg2_0 (oC c 0).view.set (OUT m c) ∗ (∃ f, own (yn c) cc0_stg2_0 (oC c 0).view.set f) ∗ OW c (Left c 4) ∗ Tk c (yn c) 19 15)
      ⊢ iprop((iprop(Cr c 19 ∗ OW c (Left c 5)) -∗ Run c (k' ⟨⟩) Q)
        -∗ Run c (.op (.enqueueDma (oC c 0) (.remote (Dev.tc (⟨k0_dev9 c, k0_dev9_lt c⟩ : Dev nD) : Thread nD τ) (oC c 0) (.dma (dq 19)) hsc) (.dma (dq 15)) hsrc hdst hsem) k') Q) := by
  iintro ⟨#Hrec, Hs, ⟨%fd, Hd⟩, HO, T1, T2⟩ Hk
  iapply (send m K c (yn c) _ (dev9_eq c) 19 15 (of_decide_eq_true rfl) (of_decide_eq_true rfl) (of_decide_eq_true rfl) (of_decide_eq_true rfl) (src := oC c 0) (dst := oC c 0) rfl rfl (Left c 5) fullShare (OUT m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (yn c) cc0_stg2_0 (oC (yn (yn c)) 0).view.set (OUT m (yn c))
    rw [yn_yn]
    exact pointsTo_congr (land_out m c 0 fd)
/-- Chunk 1 of the result, to the neighbour across the columns. -/
theorem send_o1 (c : Dev nD) {hsc : (oC c 1).view.ref.isScScratch = false} {hsrc : (oC c 1).view.WordExact} {hdst : (oC c 1).view.WordExact}
    {hsem : DmaTarget.Typed _ (.dma (dq 16)) (.remote (Dev.tc (⟨k0_dev10 c, k0_dev10_lt c⟩ : Dev nD) : Thread nD τ) (oC c 1) (.dma (dq 20)) hsc)}
    {α : Type} {Q : α → sProp 𝕄} {k' : PUnit → Prog (TpuEff nD τ sig (Elt F) Λ₀ .tc) α} :
    iprop(records m K ∗ own c cc0_stg2_0 (oC c 1).view.set (OUT m c) ∗ (∃ f, own (yn c) cc0_stg2_0 (oC c 1).view.set f) ∗ OW c (Left c 5) ∗ Tk c (yn c) 20 16)
      ⊢ iprop((iprop(Cr c 20 ∗ OW c (Left c 6)) -∗ Run c (k' ⟨⟩) Q)
        -∗ Run c (.op (.enqueueDma (oC c 1) (.remote (Dev.tc (⟨k0_dev10 c, k0_dev10_lt c⟩ : Dev nD) : Thread nD τ) (oC c 1) (.dma (dq 20)) hsc) (.dma (dq 16)) hsrc hdst hsem) k') Q) := by
  iintro ⟨#Hrec, Hs, ⟨%fd, Hd⟩, HO, T1, T2⟩ Hk
  iapply (send m K c (yn c) _ (dev10_eq c) 20 16 (of_decide_eq_true rfl) (of_decide_eq_true rfl) (of_decide_eq_true rfl) (of_decide_eq_true rfl) (src := oC c 1) (dst := oC c 1) rfl rfl (Left c 6) fullShare (OUT m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (yn c) cc0_stg2_0 (oC (yn (yn c)) 1).view.set (OUT m (yn c))
    rw [yn_yn]
    exact pointsTo_congr (land_out m c 1 fd)
/-- Chunk 2 of the result, to the neighbour across the columns. -/
theorem send_o2 (c : Dev nD) {hsc : (oC c 2).view.ref.isScScratch = false} {hsrc : (oC c 2).view.WordExact} {hdst : (oC c 2).view.WordExact}
    {hsem : DmaTarget.Typed _ (.dma (dq 17)) (.remote (Dev.tc (⟨k0_dev11 c, k0_dev11_lt c⟩ : Dev nD) : Thread nD τ) (oC c 2) (.dma (dq 21)) hsc)}
    {α : Type} {Q : α → sProp 𝕄} {k' : PUnit → Prog (TpuEff nD τ sig (Elt F) Λ₀ .tc) α} :
    iprop(records m K ∗ own c cc0_stg2_0 (oC c 2).view.set (OUT m c) ∗ (∃ f, own (yn c) cc0_stg2_0 (oC c 2).view.set f) ∗ OW c (Left c 6) ∗ Tk c (yn c) 21 17)
      ⊢ iprop((iprop(Cr c 21 ∗ OW c (Left c 7)) -∗ Run c (k' ⟨⟩) Q)
        -∗ Run c (.op (.enqueueDma (oC c 2) (.remote (Dev.tc (⟨k0_dev11 c, k0_dev11_lt c⟩ : Dev nD) : Thread nD τ) (oC c 2) (.dma (dq 21)) hsc) (.dma (dq 17)) hsrc hdst hsem) k') Q) := by
  iintro ⟨#Hrec, Hs, ⟨%fd, Hd⟩, HO, T1, T2⟩ Hk
  iapply (send m K c (yn c) _ (dev11_eq c) 21 17 (of_decide_eq_true rfl) (of_decide_eq_true rfl) (of_decide_eq_true rfl) (of_decide_eq_true rfl) (src := oC c 2) (dst := oC c 2) rfl rfl (Left c 7) fullShare (OUT m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (yn c) cc0_stg2_0 (oC (yn (yn c)) 2).view.set (OUT m (yn c))
    rw [yn_yn]
    exact pointsTo_congr (land_out m c 2 fd)
/-- Chunk 3 of the result, to the neighbour across the columns. -/
theorem send_o3 (c : Dev nD) {hsc : (oC c 3).view.ref.isScScratch = false} {hsrc : (oC c 3).view.WordExact} {hdst : (oC c 3).view.WordExact}
    {hsem : DmaTarget.Typed _ (.dma (dq 18)) (.remote (Dev.tc (⟨k0_dev12 c, k0_dev12_lt c⟩ : Dev nD) : Thread nD τ) (oC c 3) (.dma (dq 22)) hsc)}
    {α : Type} {Q : α → sProp 𝕄} {k' : PUnit → Prog (TpuEff nD τ sig (Elt F) Λ₀ .tc) α} :
    iprop(records m K ∗ own c cc0_stg2_0 (oC c 3).view.set (OUT m c) ∗ (∃ f, own (yn c) cc0_stg2_0 (oC c 3).view.set f) ∗ OW c (Left c 7) ∗ Tk c (yn c) 22 18)
      ⊢ iprop((iprop(Cr c 22 ∗ OW c (Left c 8)) -∗ Run c (k' ⟨⟩) Q)
        -∗ Run c (.op (.enqueueDma (oC c 3) (.remote (Dev.tc (⟨k0_dev12 c, k0_dev12_lt c⟩ : Dev nD) : Thread nD τ) (oC c 3) (.dma (dq 22)) hsc) (.dma (dq 18)) hsrc hdst hsem) k') Q) := by
  iintro ⟨#Hrec, Hs, ⟨%fd, Hd⟩, HO, T1, T2⟩ Hk
  iapply (send m K c (yn c) _ (dev12_eq c) 22 18 (of_decide_eq_true rfl) (of_decide_eq_true rfl) (of_decide_eq_true rfl) (of_decide_eq_true rfl) (src := oC c 3) (dst := oC c 3) rfl rfl (Left c 8) fullShare (OUT m c) fd ?_ ?_) $$ [Hs Hd HO T1 T2]
  rotate_left
  rotate_left
  · isplitr; · iexact Hrec
    isplitl [Hs]; · iexact Hs
    isplitl [Hd]; · iexact Hd
    isplitl [HO]; · iexact HO
    isplitl [T1]; · iexact T1
    iexact T2
  · iexact Hk
  · exact Entails.of_eq rfl
  · refine Entails.of_eq ?_
    show _ = own (yn c) cc0_stg2_0 (oC (yn (yn c)) 3).view.set (OUT m (yn c))
    rw [yn_yn]
    exact pointsTo_congr (land_out m c 3 fd)

/-! ### The result's chunks -/

/-- A slice of a chunk's rows. -/
theorem slice_chunk (r : Fin 4) (v : FVec F S256x1024 .f32) (h : S256x1024.Slices ![64 * r.val, 0] S64x1024) (x : S64x1024.Idx) :
    extractStridedSlice S64x1024 ![64 * r.val, 0] v h x = v ((rch r).emb x) := by
  unfold extractStridedSlice
  refine congrArg v (funext fun a => Fin.ext ?_)
  refine Eq.trans ?_ (emb_val (rch r) (fun _ => rfl) x a).symm
  rfl

/-- A chunk of the sum: the strided slice of the device's own share, and the neighbour's as it was read. -/
theorem sum_chunk (c : Dev nD) (r : Fin 4) (h : S256x1024.Slices ![64 * r.val, 0] S64x1024) (x : S64x1024.Idx) :
    addf (extractStridedSlice S64x1024 ![64 * r.val, 0] (accLo m c) h : FVec F S64x1024 .f32)
      ((prM).view.readAt (Elt F) (rch r).toLoadRect (accHi m (xn c))) x = sums m c ((rch r).emb x) := by
  unfold sums addf
  rw [slice_chunk]
  rfl

/-- Chunk 0 of the result: the neighbour's share read and added, the sum stored. -/
theorem sum_0 (c : Dev nD) {hl : (prM).view.LoadsAt (rch 0).toLoadRect} {hl' : (oM).view.LoadsAt (ro' c 0).toLoadRect}
    {hx : ((oM).access (ro' c 0) : View sig .tc _ _ _).Stores Finset.univ} {hm : (Finset.univ : Finset (ro' c 0).shape.Idx) = Finset.univ ∨ ∀ a, (ro' c 0).stride a = 1}
    {α : Type} {Q : α → sProp 𝕄} {k' : PUnit → Prog (TpuEff nD τ sig (Elt F) Λ₀ .tc) α} :
    iprop(own c cc0_scratch4 (prC 0).view.set (accHi m (xn c)) ∗ (∃ f, own c cc0_stg2_0 (oC c 0).view.set f))
      ⊢ iprop((iprop(own c cc0_scratch4 (prC 0).view.set (accHi m (xn c)) ∗ own c cc0_stg2_0 (oC c 0).view.set (OUT m c)) -∗ Run c (k' ⟨⟩) Q)
        -∗ Run c (.op (.load prM (rch 0).toLoadRect hl) fun v => .op (.load oM (ro' c 0).toLoadRect hl') fun _ =>
          .op (.store oM (ro' c 0) (k0_pay58 (wlo m c) (acc2 m c) (k0_pay55 (blo m c) (W1e m c 3)) k0_pay56 (W2e m c 3) v) Finset.univ hx hm) k') Q) := by
  iintro ⟨HP, ⟨%f, H⟩⟩ Hk
  iapply (wp_load 𝒱₀ (c : Thread nD τ) none Set.univ (m := prM) (S := (prC 0).view.set) (show (prM).view.setOn (rch 0).toLoadRect.set ⊆ (prC 0).view.set from fun i hi => by
    obtain ⟨x, hx, rfl⟩ := Finset.mem_map.mp hi
    show x ∈ ((View.whole cc0_scratch4).slice (rch 0)).set
    rw [View.set_slice_whole]; exact hx)) $$ HP
  iintro HP
  have hw : ∀ x : S64x1024.Idx, (k0_pay58 (wlo m c) (acc2 m c) (k0_pay55 (blo m c) (W1e m c 3)) k0_pay56 (W2e m c 3) ((prM).view.readAt (Elt F) (rch 0).toLoadRect (accHi m (xn c)))) x = sums m c ((rch 0).emb x) := fun x => sum_chunk m c 0 slices_S256x1024_o0_0_S64x1024 x
  iapply (wp_load 𝒱₀ (c : Thread nD τ) none Set.univ (m := oM) (load_out_set c 0)) $$ H
  iintro H
  iapply (wp_store 𝒱₀ (c : Thread nD τ) none Set.univ (m := oM) (r := ro' c 0) (Mk := Finset.univ) (store_out_set c 0)) $$ H
  iintro H
  iapply Hk
  isplitl [HP]; · iexact HP
  iapply (Entails.of_eq (pointsTo_congr (store_out m c 0 f _ hw))) $$ H
/-- Chunk 1 of the result: the neighbour's share read and added, the sum stored. -/
theorem sum_1 (c : Dev nD) {hl : (prM).view.LoadsAt (rch 1).toLoadRect} {hl' : (oM).view.LoadsAt (ro' c 1).toLoadRect}
    {hx : ((oM).access (ro' c 1) : View sig .tc _ _ _).Stores Finset.univ} {hm : (Finset.univ : Finset (ro' c 1).shape.Idx) = Finset.univ ∨ ∀ a, (ro' c 1).stride a = 1}
    {α : Type} {Q : α → sProp 𝕄} {k' : PUnit → Prog (TpuEff nD τ sig (Elt F) Λ₀ .tc) α} :
    iprop(own c cc0_scratch4 (prC 1).view.set (accHi m (xn c)) ∗ (∃ f, own c cc0_stg2_0 (oC c 1).view.set f))
      ⊢ iprop((iprop(own c cc0_scratch4 (prC 1).view.set (accHi m (xn c)) ∗ own c cc0_stg2_0 (oC c 1).view.set (OUT m c)) -∗ Run c (k' ⟨⟩) Q)
        -∗ Run c (.op (.load prM (rch 1).toLoadRect hl) fun v => .op (.load oM (ro' c 1).toLoadRect hl') fun _ =>
          .op (.store oM (ro' c 1) (k0_pay59 (accLo m c) v) Finset.univ hx hm) k') Q) := by
  iintro ⟨HP, ⟨%f, H⟩⟩ Hk
  iapply (wp_load 𝒱₀ (c : Thread nD τ) none Set.univ (m := prM) (S := (prC 1).view.set) (show (prM).view.setOn (rch 1).toLoadRect.set ⊆ (prC 1).view.set from fun i hi => by
    obtain ⟨x, hx, rfl⟩ := Finset.mem_map.mp hi
    show x ∈ ((View.whole cc0_scratch4).slice (rch 1)).set
    rw [View.set_slice_whole]; exact hx)) $$ HP
  iintro HP
  have hw : ∀ x : S64x1024.Idx, (k0_pay59 (accLo m c) ((prM).view.readAt (Elt F) (rch 1).toLoadRect (accHi m (xn c)))) x = sums m c ((rch 1).emb x) := fun x => sum_chunk m c 1 slices_S256x1024_o64_0_S64x1024 x
  iapply (wp_load 𝒱₀ (c : Thread nD τ) none Set.univ (m := oM) (load_out_set c 1)) $$ H
  iintro H
  iapply (wp_store 𝒱₀ (c : Thread nD τ) none Set.univ (m := oM) (r := ro' c 1) (Mk := Finset.univ) (store_out_set c 1)) $$ H
  iintro H
  iapply Hk
  isplitl [HP]; · iexact HP
  iapply (Entails.of_eq (pointsTo_congr (store_out m c 1 f _ hw))) $$ H
/-- Chunk 2 of the result: the neighbour's share read and added, the sum stored. -/
theorem sum_2 (c : Dev nD) {hl : (prM).view.LoadsAt (rch 2).toLoadRect} {hl' : (oM).view.LoadsAt (ro' c 2).toLoadRect}
    {hx : ((oM).access (ro' c 2) : View sig .tc _ _ _).Stores Finset.univ} {hm : (Finset.univ : Finset (ro' c 2).shape.Idx) = Finset.univ ∨ ∀ a, (ro' c 2).stride a = 1}
    {α : Type} {Q : α → sProp 𝕄} {k' : PUnit → Prog (TpuEff nD τ sig (Elt F) Λ₀ .tc) α} :
    iprop(own c cc0_scratch4 (prC 2).view.set (accHi m (xn c)) ∗ (∃ f, own c cc0_stg2_0 (oC c 2).view.set f))
      ⊢ iprop((iprop(own c cc0_scratch4 (prC 2).view.set (accHi m (xn c)) ∗ own c cc0_stg2_0 (oC c 2).view.set (OUT m c)) -∗ Run c (k' ⟨⟩) Q)
        -∗ Run c (.op (.load prM (rch 2).toLoadRect hl) fun v => .op (.load oM (ro' c 2).toLoadRect hl') fun _ =>
          .op (.store oM (ro' c 2) (k0_pay60 (accLo m c) v) Finset.univ hx hm) k') Q) := by
  iintro ⟨HP, ⟨%f, H⟩⟩ Hk
  iapply (wp_load 𝒱₀ (c : Thread nD τ) none Set.univ (m := prM) (S := (prC 2).view.set) (show (prM).view.setOn (rch 2).toLoadRect.set ⊆ (prC 2).view.set from fun i hi => by
    obtain ⟨x, hx, rfl⟩ := Finset.mem_map.mp hi
    show x ∈ ((View.whole cc0_scratch4).slice (rch 2)).set
    rw [View.set_slice_whole]; exact hx)) $$ HP
  iintro HP
  have hw : ∀ x : S64x1024.Idx, (k0_pay60 (accLo m c) ((prM).view.readAt (Elt F) (rch 2).toLoadRect (accHi m (xn c)))) x = sums m c ((rch 2).emb x) := fun x => sum_chunk m c 2 slices_S256x1024_o128_0_S64x1024 x
  iapply (wp_load 𝒱₀ (c : Thread nD τ) none Set.univ (m := oM) (load_out_set c 2)) $$ H
  iintro H
  iapply (wp_store 𝒱₀ (c : Thread nD τ) none Set.univ (m := oM) (r := ro' c 2) (Mk := Finset.univ) (store_out_set c 2)) $$ H
  iintro H
  iapply Hk
  isplitl [HP]; · iexact HP
  iapply (Entails.of_eq (pointsTo_congr (store_out m c 2 f _ hw))) $$ H
/-- Chunk 3 of the result: the neighbour's share read and added, the sum stored. -/
theorem sum_3 (c : Dev nD) {hl : (prM).view.LoadsAt (rch 3).toLoadRect} {hl' : (oM).view.LoadsAt (ro' c 3).toLoadRect}
    {hx : ((oM).access (ro' c 3) : View sig .tc _ _ _).Stores Finset.univ} {hm : (Finset.univ : Finset (ro' c 3).shape.Idx) = Finset.univ ∨ ∀ a, (ro' c 3).stride a = 1}
    {α : Type} {Q : α → sProp 𝕄} {k' : PUnit → Prog (TpuEff nD τ sig (Elt F) Λ₀ .tc) α} :
    iprop(own c cc0_scratch4 (prC 3).view.set (accHi m (xn c)) ∗ (∃ f, own c cc0_stg2_0 (oC c 3).view.set f))
      ⊢ iprop((iprop(own c cc0_scratch4 (prC 3).view.set (accHi m (xn c)) ∗ own c cc0_stg2_0 (oC c 3).view.set (OUT m c)) -∗ Run c (k' ⟨⟩) Q)
        -∗ Run c (.op (.load prM (rch 3).toLoadRect hl) fun v => .op (.load oM (ro' c 3).toLoadRect hl') fun _ =>
          .op (.store oM (ro' c 3) (k0_pay61 (accLo m c) v) Finset.univ hx hm) k') Q) := by
  iintro ⟨HP, ⟨%f, H⟩⟩ Hk
  iapply (wp_load 𝒱₀ (c : Thread nD τ) none Set.univ (m := prM) (S := (prC 3).view.set) (show (prM).view.setOn (rch 3).toLoadRect.set ⊆ (prC 3).view.set from fun i hi => by
    obtain ⟨x, hx, rfl⟩ := Finset.mem_map.mp hi
    show x ∈ ((View.whole cc0_scratch4).slice (rch 3)).set
    rw [View.set_slice_whole]; exact hx)) $$ HP
  iintro HP
  have hw : ∀ x : S64x1024.Idx, (k0_pay61 (accLo m c) ((prM).view.readAt (Elt F) (rch 3).toLoadRect (accHi m (xn c)))) x = sums m c ((rch 3).emb x) := fun x => sum_chunk m c 3 slices_S256x1024_o192_0_S64x1024 x
  iapply (wp_load 𝒱₀ (c : Thread nD τ) none Set.univ (m := oM) (load_out_set c 3)) $$ H
  iintro H
  iapply (wp_store 𝒱₀ (c : Thread nD τ) none Set.univ (m := oM) (r := ro' c 3) (Mk := Finset.univ) (store_out_set c 3)) $$ H
  iintro H
  iapply Hk
  isplitl [HP]; · iexact HP
  iapply (Entails.of_eq (pointsTo_congr (store_out m c 3 f _ hw))) $$ H
end Steps

end Cert.KernelIdealProof

end
-- ==== Proof.IRun.lean ====
/-
# The body, in stretches
-/
module

public import proofs.«01_k».proof.Proof.IOps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- The sum stored, and its chunks apart. -/
theorem stored_ps (c : Dev nD) (f : (cc0_scratch3 : Ref sig .tc).ty.Contents (Elt F)) (w : Vec F S256x1024 .f32) (hw : w = accHi m c) {hb : ∀ a, (![0, 0] : Fin 2 → Nat) a + S256x1024.size a ≤ S256x1024.size a} :
    (own c cc0_scratch3 Finset.univ (((psM).access (Rect.unit (s := S256x1024) ![0, 0] S256x1024.size hb) : View sig .tc _ _ _).write (Elt F) f w Finset.univ) : sProp 𝕄)
      ⊢ iprop(own c cc0_scratch3 (psC 0).view.set (accHi m c) ∗ own c cc0_scratch3 (psC 1).view.set (accHi m c) ∗ own c cc0_scratch3 (psC 2).view.set (accHi m c) ∗ own c cc0_scratch3 (psC 3).view.set (accHi m c)) := by
  subst hw
  rw [show ((psM).access (Rect.unit (s := S256x1024) ![0, 0] S256x1024.size hb) : View sig .tc _ _ _).write (Elt F) f (accHi m c) Finset.univ = accHi m c from
    Memref.write_access_unit_zero_univ (Elt F) cc0_scratch3 zero2 _ f (accHi m c)]
  exact Entails.of_eq (ps_quarters c _)

/-- The landing place of the sum, its chunks apart. -/
theorem split_pr (c : Dev nD) : iprop(∃ f, own c cc0_scratch4 Finset.univ f)
    ⊢ (iprop((∃ f, own c cc0_scratch4 (prC 0).view.set f) ∗ (∃ f, own c cc0_scratch4 (prC 1).view.set f) ∗ (∃ f, own c cc0_scratch4 (prC 2).view.set f) ∗ (∃ f, own c cc0_scratch4 (prC 3).view.set f)) : sProp 𝕄) := by
  iintro ⟨%f, H⟩
  ihave H := (Entails.of_eq (pr_quarters c f)) $$ H
  icases H with ⟨H0, H1, H2, H3⟩
  isplitl [H0]; · iexists f; iexact H0
  isplitl [H1]; · iexists f; iexact H1
  isplitl [H2]; · iexists f; iexact H2
  iexists f; iexact H3

/-- The first three blocks on their way. -/
theorem run_1 (c : Dev nD) {α : Type} {Q : α → sProp 𝕄} {k' : (Σ' (d0 : Dev nD) (v2 : BitVec 32) (v5 : BitVec 32) (v6 : BitVec 32), BitVec 32) → Prog (TpuEff nD τ sig (Elt F) Λ₀ .tc) α} :
    iprop(Free1 m c 0 ∗ Free1 m c 1 ∗ Free2 m c 0 ∗ OW c (oweAll c)) ⊢ iprop((∀ v2 v5 v6 v7, iprop(Pend1 m c 0 0 0 ∗ Pend1 m c 0 1 1 ∗ Pend2 m c 0 0 0 ∗ OW c (oweAll c)) -∗ Run c (k' ⟨c, v2, v5, v6, v7⟩) Q)
      -∗ Run c (k0_part1 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= k') Q) := by
  simp only [k0_part1_eq_skeleton]
  unfold k0_part1_skel
  simp only [semSignalWord, semWaitWord, Prog.lift, Prog.bind_op, Prog.bind_ret, Prog.pure_eq_ret]
  iintro ⟨A0, A1, B0, HO⟩ Hk
  iapply (Entails.of_eq (wp_deviceId 𝒱₀ (c : Thread nD τ) none Set.univ).symm)
  iapply (start1 m c 0 0 0) $$ A0
  iintro A0
  iapply (start2 m c 0 0 0) $$ B0
  iintro B0
  iapply (start1 m c 0 1 1) $$ A1
  iintro A1
  iapply Hk
  isplitl [A0]; · iexact A0
  isplitl [A1]; · iexact A1
  isplitl [B0]; · iexact B0
  iexact HO

/-- The first exchange: the barrier, the router columns there and back, the tokens on their way, and the weights of the device's own tokens. -/
theorem run_2 (K : Dev nD × Fin 21 → ℕ) (c : Dev nD) (v2 v5 v6 v7 : BitVec 32) {α : Type} {Q : α → sProp 𝕄} {k' : FVec F S256x4 .f32 → Prog (TpuEff nD τ sig (Elt F) Λ₀ .tc) α} :
    iprop(levAts L lv ∗ records m K ∗ Free2 m c 1 ∗ OW c (oweAll c) ∗ own c cc0_stg0_0 Finset.univ (xstg m c) ∗ own c cc0_stg1_0 Finset.univ (rstg m c) ∗ (∃ f, own c cc0_scratch0 Finset.univ f) ∗ (∃ f, own c cc0_scratch1 Finset.univ f) ∗ (∃ f, own c cc0_scratch4 Finset.univ f) ∗ (∃ f, own c cc0_stg2_0 Finset.univ f) ∗ XB0 c ∗ dutyTok ER (barCell (xn c)) 0 true ∗ dutyTok ER (barCell (yn c)) 0 false ∗ cred (tallyAt (barCell c) () 2) ∗ atPos ER (barCell c) 0 ∅ 0 ∗ Tk c (xn c) 5 3 ∗ Tk c (xn c) 6 4 ∗ At c 5 ∗ At c 3 ∗ Cr c 3) ⊢ iprop((iprop(Pend2 m c 0 1 1 ∗ OW c (oweSum c) ∗ own c cc0_stg0_0 Finset.univ (xstg m c) ∗ own c cc0_stg1_0 Finset.univ (rstg m c) ∗ own c cc0_scratch0 Finset.univ (rstg m (xn c)) ∗ (((c : Thread nD τ).loc cc0_scratch1) ↦[(xlM).view.set]{(fullShare).right} XC m c) ∗ XB1 m c ∗ Cr c 6 ∗ Dn c 5 ∗ Dn c 3 ∗ semVal (barCell c) 0 ∗ (∃ f, own (xn c) cc0_scratch4 Finset.univ f) ∗ barY c ∗ (∃ f, own c cc0_stg2_0 (oC c 0).view.set f) ∗ (∃ f, own c cc0_stg2_0 (oC c 1).view.set f) ∗ (∃ f, own c cc0_stg2_0 (oC c 2).view.set f) ∗ (∃ f, own c cc0_stg2_0 (oC c 3).view.set f)) -∗ Run c (k' (wlo m c)) Q)
      -∗ Run c (k0_part2 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v2 v5 v6 v7 >>= fun _ => (k0_part3 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v5 v6 >>= fun x => match x with | ⟨v77, v79, v84, v86⟩ => (k0_part4 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 v77 v79 v84 v86 >>= k'))) Q) := by
  simp only [k0_part2_eq_skeleton, k0_part3_eq_skeleton, k0_part4_eq_skeleton]
  unfold k0_part2_skel k0_part3_skel k0_part4_skel
  simp only [semSignalWord, semWaitWord, Prog.lift, Prog.bind_op, Prog.bind_ret, Prog.pure_eq_ret]
  iintro ⟨#Hlev, #Hrec, B1, HO, XIN, RIN, S0, S1, S4, O, XB, Tx, Ty, CB, AB, T5, T6, A5_, A3_, C3⟩ Hk
  iapply (start2 m c 0 1 1) $$ B1
  iintro B1
  iapply (wp_load 𝒱₀ (c : Thread nD τ) none Set.univ (m := xM) (Finset.subset_univ _)) $$ XIN
  iintro XIN
  icases S1 with ⟨%f1, S1⟩
  iapply (wp_load 𝒱₀ (c : Thread nD τ) none Set.univ (m := xcM) (Finset.subset_univ _)) $$ S1
  iintro S1
  ihave S1 := (split_xc c f1) $$ S1
  icases S1 with ⟨S1, SH⟩
  iapply (store_xc m c f1) $$ S1
  iintro ⟨XS, XL⟩
  icases O with ⟨%fo, O⟩
  ihave O := (split_out c fo) $$ O
  icases O with ⟨⟨M0, M1, M2, M3⟩, OY⟩
  ihave GX := (giveX c) $$ [S0 SH S4]
  · isplitl [S0]; · iexact S0
    isplitl [SH]; · iexists f1; iexact SH
    iexact S4
  ihave GY := (giveY c) $$ OY
  iapply (signal m K c (xn c) _ (dev1_eq c) true ((barCell (yn c), 1) :: (dCell (xn c) 3, Nr) :: (dCell (xn c) 4, Nx) :: oweSum c)) $$ [HO Tx GX]
  · isplitr; · iexact Hrec
    isplitl [HO]; · iexact HO
    isplitl [Tx]; · iexact Tx
    iexact GX
  iintro HO
  iapply (signal m K c (yn c) _ (dev2_eq c) false ((dCell (xn c) 3, Nr) :: (dCell (xn c) 4, Nx) :: oweSum c)) $$ [HO Ty GY]
  · isplitr; · iexact Hrec
    isplitl [HO]; · iexact HO
    isplitl [Ty]; · iexact Ty
    iexact GY
  iintro HO
  iapply (wait_bar m K c ((dCell (xn c) 3, Nr) :: (dCell (xn c) 4, Nx) :: oweSum c) (fun p hp => above_bar c _ (of_decide_eq_true rfl) p hp)) $$ [CB HO AB]
  · isplitr; · iexact Hrec
    isplitr; · iexact Hlev
    isplitl [CB]; · iexact CB
    isplitl [HO]; · iexact HO
    iexact AB
  iintro ⟨BX, BY, HO, DB⟩
  unfold barX
  icases BX with ⟨P0, P1, P4⟩
  iapply (send_r m K c) $$ [RIN P0 HO T5]
  · isplitr; · iexact Hrec
    isplitl [RIN]; · iexact RIN
    isplitl [P0]; · iexact P0
    isplitl [HO]; · iexact HO
    iexact T5
  iintro ⟨C5, HO⟩
  iapply (send_x m K c) $$ [XS P1 HO T6]
  · isplitr; · iexact Hrec
    isplitl [XS]; · iexact XS
    isplitl [P1]; · iexact P1
    isplitl [HO]; · iexact HO
    iexact T6
  iintro ⟨C6, HO⟩
  iapply (wait_dma m K c 5 (of_decide_eq_true rfl) (of_decide_eq_true rfl) (oweSum c) (above_sum c _ (of_decide_eq_true rfl)) (dstw := rM) rfl) $$ [C5 HO A5_]
  · isplitr; · iexact Hrec
    isplitr; · iexact Hlev
    isplitl [C5]; · iexact C5
    isplitl [HO]; · iexact HO
    iexact A5_
  iintro ⟨RIN, HO, D5⟩
  iapply (wait_dma m K c 3 (of_decide_eq_true rfl) (of_decide_eq_true rfl) (oweSum c) (above_sum c _ (of_decide_eq_true rfl)) (dstw := rrM) rfl) $$ [C3 HO A3_]
  · isplitr; · iexact Hrec
    isplitr; · iexact Hlev
    isplitl [C3]; · iexact C3
    isplitl [HO]; · iexact HO
    iexact A3_
  iintro ⟨RR, HO, D3⟩
  ihave RIN := (Entails.of_eq (show pay m c 5 = own c cc0_stg1_0 Finset.univ (rstg m c) from rfl)) $$ RIN
  ihave RR := (Entails.of_eq (show pay m c 3 = own c cc0_scratch0 Finset.univ (rstg m (xn c)) from rfl)) $$ RR
  iapply (load_xl m c) $$ XL
  iintro XL
  iapply (load_r c _) $$ RIN
  iintro RIN
  iapply (load_rr c _) $$ RR
  iintro RR
  iapply (load_xl m c) $$ XL
  iintro XL
  iapply (store_lo1 m c) $$ XB
  iintro XB
  iapply Hk
  isplitl [B1]; · iexact B1
  isplitl [HO]; · iexact HO
  isplitl [XIN]; · iexact XIN
  isplitl [RIN]; · iexact RIN
  isplitl [RR]; · iexact RR
  isplitl [XL]; · iexact XL
  isplitl [XB]; · iexact XB
  isplitl [C6]; · iexact C6
  isplitl [D5]; · iexact D5
  isplitl [D3]; · iexact D3
  isplitl [DB]; · iexact DB
  isplitl [P4]; · iexact P4
  isplitl [BY]; · iexact BY
  isplitl [M0]; · iexact M0
  isplitl [M1]; · iexact M1
  isplitl [M2]; · iexact M2
  iexact M3

/-- Blocks 0 to 2 rounded and kept. -/
theorem run_3 (c : Dev nD) {α : Type} {Q : α → sProp 𝕄} {k' : PUnit → Prog (TpuEff nD τ sig (Elt F) Λ₀ .tc) α} :
    iprop(levAts L lv ∗ Pend1 m c 0 0 0 ∗ Pend1 m c 0 1 1 ∗ Pend2 m c 0 0 0 ∗ Pend2 m c 0 1 1 ∗ Acc1 m c 0 ∗ Acc2 m c 0 ∗ OW c (oweSum c)) ⊢ iprop((iprop(Pend1 m c 1 0 0 ∗ Pend1 m c 0 3 1 ∗ Pend2 m c 1 0 0 ∗ Pend2 m c 0 3 1 ∗ Acc1 m c 3 ∗ Acc2 m c 3 ∗ OW c (oweSum c)) -∗ Run c (k' ⟨⟩) Q)
      -∗ Run c (k0_part5 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part6 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun v179 => (k0_part7 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 v179 >>= fun _ => (k0_part8 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= k')))) Q) := by
  simp only [k0_part5_eq_skeleton, k0_part6_eq_skeleton, k0_part7_eq_skeleton, k0_part8_eq_skeleton]
  unfold k0_part5_skel k0_part6_skel k0_part7_skel k0_part8_skel
  simp only [semSignalWord, semWaitWord, Prog.lift, Prog.bind_op, Prog.bind_ret, Prog.pure_eq_ret]
  iintro ⟨#Hlev, A0, A1, B0, B1, C1, C2, HO⟩ Hk
  iapply (wait1 m c 0 0 0 (oweSum c) (above_sum c _ (by decide))) $$ [A0 HO]
  · isplitl [A0]; · iexact A0
    isplitl [HO]; · iexact HO
    iexact Hlev
  iintro ⟨A0, HO⟩
  iapply (wait2 m c 0 0 0 (oweSum c) (above_sum c _ (by decide))) $$ [B0 HO]
  · isplitl [B0]; · iexact B0
    isplitl [HO]; · iexact HO
    iexact Hlev
  iintro ⟨B0, HO⟩
  iapply (get1 m c 0 0 0) $$ A0
  iintro A0
  iapply (dead1 m c 0) $$ C1
  iintro %v1 C1
  iapply (put1 m c 0 0 0 rfl (cast1 _)) $$ C1
  iintro C1
  iapply (get2 m c 0 0 0) $$ B0
  iintro B0
  iapply (dead2 m c 0) $$ C2
  iintro %v2 C2
  iapply (put2 m c 0 0 0 rfl (cast2 _)) $$ C2
  iintro C2
  ihave A0 := (Have_Free1 m c 0 0 0) $$ A0
  iapply (start1 m c 0 2 0) $$ A0
  iintro A0
  ihave B0 := (Have_Free2 m c 0 0 0) $$ B0
  iapply (start2 m c 0 2 0) $$ B0
  iintro B0
  iapply (wait1 m c 0 1 1 (oweSum c) (above_sum c _ (by decide))) $$ [A1 HO]
  · isplitl [A1]; · iexact A1
    isplitl [HO]; · iexact HO
    iexact Hlev
  iintro ⟨A1, HO⟩
  iapply (wait2 m c 0 1 1 (oweSum c) (above_sum c _ (by decide))) $$ [B1 HO]
  · isplitl [B1]; · iexact B1
    isplitl [HO]; · iexact HO
    iexact Hlev
  iintro ⟨B1, HO⟩
  iapply (get1 m c 0 1 1) $$ A1
  iintro A1
  iapply (dead1 m c 1) $$ C1
  iintro %v3 C1
  iapply (put1 m c 0 1 1 rfl (cast1 _)) $$ C1
  iintro C1
  iapply (get2 m c 0 1 1) $$ B1
  iintro B1
  iapply (dead2 m c 1) $$ C2
  iintro %v4 C2
  iapply (put2 m c 0 1 1 rfl (cast2 _)) $$ C2
  iintro C2
  ihave A1 := (Have_Free1 m c 0 1 1) $$ A1
  iapply (start1 m c 0 3 1) $$ A1
  iintro A1
  ihave B1 := (Have_Free2 m c 0 1 1) $$ B1
  iapply (start2 m c 0 3 1) $$ B1
  iintro B1
  iapply (wait1 m c 0 2 0 (oweSum c) (above_sum c _ (by decide))) $$ [A0 HO]
  · isplitl [A0]; · iexact A0
    isplitl [HO]; · iexact HO
    iexact Hlev
  iintro ⟨A0, HO⟩
  iapply (wait2 m c 0 2 0 (oweSum c) (above_sum c _ (by decide))) $$ [B0 HO]
  · isplitl [B0]; · iexact B0
    isplitl [HO]; · iexact HO
    iexact Hlev
  iintro ⟨B0, HO⟩
  iapply (get1 m c 0 2 0) $$ A0
  iintro A0
  iapply (dead1 m c 2) $$ C1
  iintro %v5 C1
  iapply (put1 m c 0 2 2 rfl (cast1 _)) $$ C1
  iintro C1
  iapply (get2 m c 0 2 0) $$ B0
  iintro B0
  iapply (dead2 m c 2) $$ C2
  iintro %v6 C2
  iapply (put2 m c 0 2 2 rfl (cast2 _)) $$ C2
  iintro C2
  ihave A0 := (Have_Free1 m c 0 2 0) $$ A0
  iapply (start1 m c 1 0 0) $$ A0
  iintro A0
  ihave B0 := (Have_Free2 m c 0 2 0) $$ B0
  iapply (start2 m c 1 0 0) $$ B0
  iintro B0
  iapply Hk
  isplitl [A0]; · iexact A0
  isplitl [A1]; · iexact A1
  isplitl [B0]; · iexact B0
  isplitl [B1]; · iexact B1
  isplitl [C1]; · iexact C1
  isplitl [C2]; · iexact C2
  iexact HO

/-- Block 3, and the first expert on the device's own tokens. -/
theorem run_4 (c : Dev nD) {α : Type} {Q : α → sProp 𝕄} {k' : FVec F S256x1024 .f32 → Prog (TpuEff nD τ sig (Elt F) Λ₀ .tc) α} :
    iprop(levAts L lv ∗ Pend1 m c 1 0 0 ∗ Pend1 m c 0 3 1 ∗ Pend2 m c 1 0 0 ∗ Pend2 m c 0 3 1 ∗ Acc1 m c 3 ∗ Acc2 m c 3 ∗ OW c (oweSum c) ∗ XB1 m c) ⊢ iprop((iprop(Have1 m c 1 0 0 ∗ Pend1 m c 1 1 1 ∗ Pend2 m c 1 0 0 ∗ Pend2 m c 1 1 1 ∗ Acc1 m c 4 ∗ Acc2 m c 4 ∗ OW c (oweSum c) ∗ XB1 m c) -∗ Run c (k' (acc0 m c)) Q)
      -∗ Run c (k0_part9 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part10 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 (wlo m c) >>= k')) Q) := by
  simp only [k0_part9_eq_skeleton, k0_part10_eq_skeleton]
  unfold k0_part9_skel k0_part10_skel
  simp only [semSignalWord, semWaitWord, Prog.lift, Prog.bind_op, Prog.bind_ret, Prog.pure_eq_ret]
  iintro ⟨#Hlev, A0, A1, B0, B1, C1, C2, HO, XB⟩ Hk
  iapply (wait1 m c 0 3 1 (oweSum c) (above_sum c _ (by decide))) $$ [A1 HO]
  · isplitl [A1]; · iexact A1
    isplitl [HO]; · iexact HO
    iexact Hlev
  iintro ⟨A1, HO⟩
  iapply (wait2 m c 0 3 1 (oweSum c) (above_sum c _ (by decide))) $$ [B1 HO]
  · isplitl [B1]; · iexact B1
    isplitl [HO]; · iexact HO
    iexact Hlev
  iintro ⟨B1, HO⟩
  iapply (get1 m c 0 3 1) $$ A1
  iintro A1
  iapply (dead1 m c 3) $$ C1
  iintro %v7 C1
  iapply (put1 m c 0 3 3 rfl (cast1 _)) $$ C1
  iintro C1
  iapply (get2 m c 0 3 1) $$ B1
  iintro B1
  iapply (dead2 m c 3) $$ C2
  iintro %v8 C2
  iapply (put2 m c 0 3 3 rfl (cast2 _)) $$ C2
  iintro C2
  ihave A1 := (Have_Free1 m c 0 3 1) $$ A1
  iapply (start1 m c 1 1 1) $$ A1
  iintro A1
  ihave B1 := (Have_Free2 m c 0 3 1) $$ B1
  iapply (start2 m c 1 1 1) $$ B1
  iintro B1
  iapply (readLo1 m c) $$ XB
  iintro XB
  iapply (expert1 m c 0 4 (by decide)) $$ C1
  iintro C1
  iapply (expert2 m c 0 4 (by decide)) $$ C2
  iintro C2
  iapply (wait1 m c 1 0 0 (oweSum c) (above_sum c _ (by decide))) $$ [A0 HO]
  · isplitl [A0]; · iexact A0
    isplitl [HO]; · iexact HO
    iexact Hlev
  iintro ⟨A0, HO⟩
  iapply Hk
  isplitl [A0]; · iexact A0
  isplitl [A1]; · iexact A1
  isplitl [B0]; · iexact B0
  isplitl [B1]; · iexact B1
  isplitl [C1]; · iexact C1
  isplitl [C2]; · iexact C2
  isplitl [HO]; · iexact HO
  iexact XB

/-- Blocks 4 to 6. -/
theorem run_5 (c : Dev nD) {α : Type} {Q : α → sProp 𝕄} {k' : PUnit → Prog (TpuEff nD τ sig (Elt F) Λ₀ .tc) α} :
    iprop(levAts L lv ∗ Have1 m c 1 0 0 ∗ Pend1 m c 1 1 1 ∗ Pend2 m c 1 0 0 ∗ Pend2 m c 1 1 1 ∗ Acc1 m c 4 ∗ Acc2 m c 4 ∗ OW c (oweSum c)) ⊢ iprop((iprop(Pend1 m c 2 0 0 ∗ Pend1 m c 1 3 1 ∗ Pend2 m c 2 0 0 ∗ Pend2 m c 1 3 1 ∗ Acc1 m c 7 ∗ Acc2 m c 7 ∗ OW c (oweSum c)) -∗ Run c (k' ⟨⟩) Q)
      -∗ Run c (k0_part11 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part12 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part13 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun v366 => (k0_part14 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 v366 >>= k')))) Q) := by
  simp only [k0_part11_eq_skeleton, k0_part12_eq_skeleton, k0_part13_eq_skeleton, k0_part14_eq_skeleton]
  unfold k0_part11_skel k0_part12_skel k0_part13_skel k0_part14_skel
  simp only [semSignalWord, semWaitWord, Prog.lift, Prog.bind_op, Prog.bind_ret, Prog.pure_eq_ret]
  iintro ⟨#Hlev, A0, A1, B0, B1, C1, C2, HO⟩ Hk
  iapply (wait2 m c 1 0 0 (oweSum c) (above_sum c _ (by decide))) $$ [B0 HO]
  · isplitl [B0]; · iexact B0
    isplitl [HO]; · iexact HO
    iexact Hlev
  iintro ⟨B0, HO⟩
  iapply (get1 m c 1 0 0) $$ A0
  iintro A0
  iapply (dead1 m c 4) $$ C1
  iintro %v9 C1
  iapply (put1 m c 1 0 4 rfl (cast1 _)) $$ C1
  iintro C1
  iapply (get2 m c 1 0 0) $$ B0
  iintro B0
  iapply (dead2 m c 4) $$ C2
  iintro %v10 C2
  iapply (put2 m c 1 0 4 rfl (cast2 _)) $$ C2
  iintro C2
  ihave A0 := (Have_Free1 m c 1 0 0) $$ A0
  iapply (start1 m c 1 2 0) $$ A0
  iintro A0
  ihave B0 := (Have_Free2 m c 1 0 0) $$ B0
  iapply (start2 m c 1 2 0) $$ B0
  iintro B0
  iapply (wait1 m c 1 1 1 (oweSum c) (above_sum c _ (by decide))) $$ [A1 HO]
  · isplitl [A1]; · iexact A1
    isplitl [HO]; · iexact HO
    iexact Hlev
  iintro ⟨A1, HO⟩
  iapply (wait2 m c 1 1 1 (oweSum c) (above_sum c _ (by decide))) $$ [B1 HO]
  · isplitl [B1]; · iexact B1
    isplitl [HO]; · iexact HO
    iexact Hlev
  iintro ⟨B1, HO⟩
  iapply (get1 m c 1 1 1) $$ A1
  iintro A1
  iapply (dead1 m c 5) $$ C1
  iintro %v11 C1
  iapply (put1 m c 1 1 5 rfl (cast1 _)) $$ C1
  iintro C1
  iapply (get2 m c 1 1 1) $$ B1
  iintro B1
  iapply (dead2 m c 5) $$ C2
  iintro %v12 C2
  iapply (put2 m c 1 1 5 rfl (cast2 _)) $$ C2
  iintro C2
  ihave A1 := (Have_Free1 m c 1 1 1) $$ A1
  iapply (start1 m c 1 3 1) $$ A1
  iintro A1
  ihave B1 := (Have_Free2 m c 1 1 1) $$ B1
  iapply (start2 m c 1 3 1) $$ B1
  iintro B1
  iapply (wait1 m c 1 2 0 (oweSum c) (above_sum c _ (by decide))) $$ [A0 HO]
  · isplitl [A0]; · iexact A0
    isplitl [HO]; · iexact HO
    iexact Hlev
  iintro ⟨A0, HO⟩
  iapply (wait2 m c 1 2 0 (oweSum c) (above_sum c _ (by decide))) $$ [B0 HO]
  · isplitl [B0]; · iexact B0
    isplitl [HO]; · iexact HO
    iexact Hlev
  iintro ⟨B0, HO⟩
  iapply (get1 m c 1 2 0) $$ A0
  iintro A0
  iapply (dead1 m c 6) $$ C1
  iintro %v13 C1
  iapply (put1 m c 1 2 6 rfl (cast1 _)) $$ C1
  iintro C1
  iapply (get2 m c 1 2 0) $$ B0
  iintro B0
  iapply (dead2 m c 6) $$ C2
  iintro %v14 C2
  iapply (put2 m c 1 2 6 rfl (cast2 _)) $$ C2
  iintro C2
  ihave A0 := (Have_Free1 m c 1 2 0) $$ A0
  iapply (start1 m c 2 0 0) $$ A0
  iintro A0
  ihave B0 := (Have_Free2 m c 1 2 0) $$ B0
  iapply (start2 m c 2 0 0) $$ B0
  iintro B0
  iapply Hk
  isplitl [A0]; · iexact A0
  isplitl [A1]; · iexact A1
  isplitl [B0]; · iexact B0
  isplitl [B1]; · iexact B1
  isplitl [C1]; · iexact C1
  isplitl [C2]; · iexact C2
  iexact HO

/-- Block 7; the neighbour's tokens in, and their weights. -/
theorem run_6 (K : Dev nD × Fin 21 → ℕ) (c : Dev nD) (v5 v6 : BitVec 32) {α : Type} {Q : α → sProp 𝕄} {k' : (Σ' (v479 : FVec F S256x4 .f32) (v485 : Vec F S256x1024 .bf16), Vec F S1x1024x2048 .bf16) → Prog (TpuEff nD τ sig (Elt F) Λ₀ .tc) α} :
    iprop(levAts L lv ∗ records m K ∗ Pend1 m c 2 0 0 ∗ Pend1 m c 1 3 1 ∗ Pend2 m c 2 0 0 ∗ Pend2 m c 1 3 1 ∗ Acc1 m c 7 ∗ Acc2 m c 7 ∗ OW c (oweSum c) ∗ own c cc0_stg1_0 Finset.univ (rstg m c) ∗ own c cc0_scratch0 Finset.univ (rstg m (xn c)) ∗ (((c : Thread nD τ).loc cc0_scratch1) ↦[(xlM).view.set]{(fullShare).right} XC m c) ∗ XB1 m c ∗ Cr c 6 ∗ At c 6 ∗ Cr c 4 ∗ At c 4) ⊢ iprop((iprop(Pend1 m c 2 0 0 ∗ Pend1 m c 2 1 1 ∗ Pend2 m c 2 0 0 ∗ Pend2 m c 2 1 1 ∗ Acc1 m c 8 ∗ Acc2 m c 8 ∗ OW c (oweSum c) ∗ own c cc0_stg1_0 Finset.univ (rstg m c) ∗ own c cc0_scratch0 Finset.univ (rstg m (xn c)) ∗ own c cc0_scratch1 Finset.univ (XC m c) ∗ XB2 m c ∗ Dn c 6 ∗ Dn c 4) -∗ Run c (k' ⟨whi m c, bhi m c, W1e m c 0⟩) Q)
      -∗ Run c (k0_part15 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part16 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 v5 v6 >>= fun x => match x with | ⟨v439, v441, v443, v445⟩ => (k0_part17 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 v439 v441 v443 v445 >>= k'))) Q) := by
  simp only [k0_part15_eq_skeleton, k0_part16_eq_skeleton, k0_part17_eq_skeleton]
  unfold k0_part15_skel k0_part16_skel k0_part17_skel
  simp only [semSignalWord, semWaitWord, Prog.lift, Prog.bind_op, Prog.bind_ret, Prog.pure_eq_ret]
  iintro ⟨#Hlev, #Hrec, A0, A1, B0, B1, C1, C2, HO, RIN, RR, XL, XB, C6, A6_, C4, A4_⟩ Hk
  iapply (wait1 m c 1 3 1 (oweSum c) (above_sum c _ (by decide))) $$ [A1 HO]
  · isplitl [A1]; · iexact A1
    isplitl [HO]; · iexact HO
    iexact Hlev
  iintro ⟨A1, HO⟩
  iapply (wait2 m c 1 3 1 (oweSum c) (above_sum c _ (by decide))) $$ [B1 HO]
  · isplitl [B1]; · iexact B1
    isplitl [HO]; · iexact HO
    iexact Hlev
  iintro ⟨B1, HO⟩
  iapply (get1 m c 1 3 1) $$ A1
  iintro A1
  iapply (dead1 m c 7) $$ C1
  iintro %v15 C1
  iapply (put1 m c 1 3 7 rfl (cast1 _)) $$ C1
  iintro C1
  iapply (get2 m c 1 3 1) $$ B1
  iintro B1
  iapply (dead2 m c 7) $$ C2
  iintro %v16 C2
  iapply (put2 m c 1 3 7 rfl (cast2 _)) $$ C2
  iintro C2
  ihave A1 := (Have_Free1 m c 1 3 1) $$ A1
  iapply (start1 m c 2 1 1) $$ A1
  iintro A1
  ihave B1 := (Have_Free2 m c 1 3 1) $$ B1
  iapply (start2 m c 2 1 1) $$ B1
  iintro B1
  iapply (wait_dma m K c 6 (of_decide_eq_true rfl) (of_decide_eq_true rfl) (oweSum c) (above_sum c _ (of_decide_eq_true rfl)) (dstw := xlM) rfl) $$ [C6 HO A6_]
  · isplitr; · iexact Hrec
    isplitr; · iexact Hlev
    isplitl [C6]; · iexact C6
    isplitl [HO]; · iexact HO
    iexact A6_
  iintro ⟨XA, HO, D6⟩
  iapply (wait_dma m K c 4 (of_decide_eq_true rfl) (of_decide_eq_true rfl) (oweSum c) (above_sum c _ (of_decide_eq_true rfl)) (dstw := xhM) rfl) $$ [C4 HO A4_]
  · isplitr; · iexact Hrec
    isplitr; · iexact Hlev
    isplitl [C4]; · iexact C4
    isplitl [HO]; · iexact HO
    iexact A4_
  iintro ⟨XH, HO, D4⟩
  ihave XA := (Entails.of_eq (show pay m c 6 = (((c : Thread nD τ).loc cc0_scratch1) ↦[(xlM).view.set]{(fullShare).left} XC m c) from rfl)) $$ XA
  ihave XH := (Entails.of_eq (show pay m c 4 = own c cc0_scratch1 (xhM).view.set (XC m c) from rfl)) $$ XH
  ihave XC := (join_xc m c) $$ [XA XL XH]
  · isplitl [XA]; · iexact XA
    isplitl [XL]; · iexact XL
    iexact XH
  iapply (load_xh m c) $$ XC
  iintro XC
  iapply (load_r c _) $$ RIN
  iintro RIN
  iapply (load_rr c _) $$ RR
  iintro RR
  iapply (load_xh m c) $$ XC
  iintro XC
  iapply (store_hi1 m c) $$ XB
  iintro XB
  iapply (readHi m c) $$ XB
  iintro XB
  iapply (expert1 m c 0 8 (by decide)) $$ C1
  iintro C1
  iapply Hk
  isplitl [A0]; · iexact A0
  isplitl [A1]; · iexact A1
  isplitl [B0]; · iexact B0
  isplitl [B1]; · iexact B1
  isplitl [C1]; · iexact C1
  isplitl [C2]; · iexact C2
  isplitl [HO]; · iexact HO
  isplitl [RIN]; · iexact RIN
  isplitl [RR]; · iexact RR
  isplitl [XC]; · iexact XC
  isplitl [XB]; · iexact XB
  isplitl [D6]; · iexact D6
  iexact D4

/-- The first two experts on the neighbour's tokens. -/
theorem run_7 (c : Dev nD) {α : Type} {Q : α → sProp 𝕄} {k' : FVec F S256x1024 .f32 → Prog (TpuEff nD τ sig (Elt F) Λ₀ .tc) α} :
    iprop(levAts L lv ∗ Pend1 m c 2 0 0 ∗ Pend1 m c 2 1 1 ∗ Pend2 m c 2 0 0 ∗ Pend2 m c 2 1 1 ∗ Acc1 m c 8 ∗ Acc2 m c 8 ∗ OW c (oweSum c) ∗ XB2 m c) ⊢ iprop((iprop(Have1 m c 2 0 0 ∗ Pend1 m c 2 1 1 ∗ Pend2 m c 2 0 0 ∗ Pend2 m c 2 1 1 ∗ Acc1 m c 8 ∗ Acc2 m c 8 ∗ OW c (oweSum c) ∗ XB2 m c) -∗ Run c (k' (k0_pay33 (whi m c) (bhi m c) (W1e m c 0) (W2e m c 0) (bhi m c) (W1e m c 1) (W2e m c 1))) Q)
      -∗ Run c (k0_part18 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 (whi m c) (bhi m c) (W1e m c 0) >>= k') Q) := by
  simp only [k0_part18_eq_skeleton]
  unfold k0_part18_skel
  simp only [semSignalWord, semWaitWord, Prog.lift, Prog.bind_op, Prog.bind_ret, Prog.pure_eq_ret]
  iintro ⟨#Hlev, A0, A1, B0, B1, C1, C2, HO, XB⟩ Hk
  iapply (expert2 m c 0 8 (by decide)) $$ C2
  iintro C2
  iapply (readHi m c) $$ XB
  iintro XB
  iapply (expert1 m c 1 8 (by decide)) $$ C1
  iintro C1
  iapply (expert2 m c 1 8 (by decide)) $$ C2
  iintro C2
  iapply (wait1 m c 2 0 0 (oweSum c) (above_sum c _ (by decide))) $$ [A0 HO]
  · isplitl [A0]; · iexact A0
    isplitl [HO]; · iexact HO
    iexact Hlev
  iintro ⟨A0, HO⟩
  iapply Hk
  isplitl [A0]; · iexact A0
  isplitl [A1]; · iexact A1
  isplitl [B0]; · iexact B0
  isplitl [B1]; · iexact B1
  isplitl [C1]; · iexact C1
  isplitl [C2]; · iexact C2
  isplitl [HO]; · iexact HO
  iexact XB

/-- Blocks 8 and 9. -/
theorem run_8 (c : Dev nD) {α : Type} {Q : α → sProp 𝕄} {k' : PUnit → Prog (TpuEff nD τ sig (Elt F) Λ₀ .tc) α} :
    iprop(levAts L lv ∗ Have1 m c 2 0 0 ∗ Pend1 m c 2 1 1 ∗ Pend2 m c 2 0 0 ∗ Pend2 m c 2 1 1 ∗ Acc1 m c 8 ∗ Acc2 m c 8 ∗ OW c (oweSum c)) ⊢ iprop((iprop(Pend1 m c 2 2 0 ∗ Have1 m c 2 1 1 ∗ Pend2 m c 2 2 0 ∗ Have2 m c 2 1 1 ∗ Acc1 m c 10 ∗ Acc2 m c 10 ∗ OW c (oweSum c)) -∗ Run c (k' ⟨⟩) Q)
      -∗ Run c (k0_part19 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part20 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= k')) Q) := by
  simp only [k0_part19_eq_skeleton, k0_part20_eq_skeleton]
  unfold k0_part19_skel k0_part20_skel
  simp only [semSignalWord, semWaitWord, Prog.lift, Prog.bind_op, Prog.bind_ret, Prog.pure_eq_ret]
  iintro ⟨#Hlev, A0, A1, B0, B1, C1, C2, HO⟩ Hk
  iapply (wait2 m c 2 0 0 (oweSum c) (above_sum c _ (by decide))) $$ [B0 HO]
  · isplitl [B0]; · iexact B0
    isplitl [HO]; · iexact HO
    iexact Hlev
  iintro ⟨B0, HO⟩
  iapply (get1 m c 2 0 0) $$ A0
  iintro A0
  iapply (dead1 m c 8) $$ C1
  iintro %v17 C1
  iapply (put1 m c 2 0 8 rfl (cast1 _)) $$ C1
  iintro C1
  iapply (get2 m c 2 0 0) $$ B0
  iintro B0
  iapply (dead2 m c 8) $$ C2
  iintro %v18 C2
  iapply (put2 m c 2 0 8 rfl (cast2 _)) $$ C2
  iintro C2
  ihave A0 := (Have_Free1 m c 2 0 0) $$ A0
  iapply (start1 m c 2 2 0) $$ A0
  iintro A0
  ihave B0 := (Have_Free2 m c 2 0 0) $$ B0
  iapply (start2 m c 2 2 0) $$ B0
  iintro B0
  iapply (wait1 m c 2 1 1 (oweSum c) (above_sum c _ (by decide))) $$ [A1 HO]
  · isplitl [A1]; · iexact A1
    isplitl [HO]; · iexact HO
    iexact Hlev
  iintro ⟨A1, HO⟩
  iapply (wait2 m c 2 1 1 (oweSum c) (above_sum c _ (by decide))) $$ [B1 HO]
  · isplitl [B1]; · iexact B1
    isplitl [HO]; · iexact HO
    iexact Hlev
  iintro ⟨B1, HO⟩
  iapply (get1 m c 2 1 1) $$ A1
  iintro A1
  iapply (dead1 m c 9) $$ C1
  iintro %v19 C1
  iapply (put1 m c 2 1 9 rfl (cast1 _)) $$ C1
  iintro C1
  iapply (get2 m c 2 1 1) $$ B1
  iintro B1
  iapply (dead2 m c 9) $$ C2
  iintro %v20 C2
  iapply (put2 m c 2 1 9 rfl (cast2 _)) $$ C2
  iintro C2
  iapply Hk
  isplitl [A0]; · iexact A0
  isplitl [A1]; · iexact A1
  isplitl [B0]; · iexact B0
  isplitl [B1]; · iexact B1
  isplitl [C1]; · iexact C1
  isplitl [C2]; · iexact C2
  iexact HO

/-- Blocks 10 and 11. -/
theorem run_9 (c : Dev nD) {α : Type} {Q : α → sProp 𝕄} {k' : PUnit → Prog (TpuEff nD τ sig (Elt F) Λ₀ .tc) α} :
    iprop(levAts L lv ∗ Pend1 m c 2 2 0 ∗ Have1 m c 2 1 1 ∗ Pend2 m c 2 2 0 ∗ Have2 m c 2 1 1 ∗ Acc1 m c 10 ∗ Acc2 m c 10 ∗ OW c (oweSum c)) ⊢ iprop((iprop(Pend1 m c 3 0 0 ∗ Pend1 m c 3 1 1 ∗ Pend2 m c 3 0 0 ∗ Have2 m c 2 3 1 ∗ Acc1 m c 12 ∗ Acc2 m c 12 ∗ OW c (oweSum c)) -∗ Run c (k' ⟨⟩) Q)
      -∗ Run c (k0_part21 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun v598 => (k0_part22 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 v598 >>= fun _ => (k0_part23 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= k'))) Q) := by
  simp only [k0_part21_eq_skeleton, k0_part22_eq_skeleton, k0_part23_eq_skeleton]
  unfold k0_part21_skel k0_part22_skel k0_part23_skel
  simp only [semSignalWord, semWaitWord, Prog.lift, Prog.bind_op, Prog.bind_ret, Prog.pure_eq_ret]
  iintro ⟨#Hlev, A0, A1, B0, B1, C1, C2, HO⟩ Hk
  ihave A1 := (Have_Free1 m c 2 1 1) $$ A1
  iapply (start1 m c 2 3 1) $$ A1
  iintro A1
  ihave B1 := (Have_Free2 m c 2 1 1) $$ B1
  iapply (start2 m c 2 3 1) $$ B1
  iintro B1
  iapply (wait1 m c 2 2 0 (oweSum c) (above_sum c _ (by decide))) $$ [A0 HO]
  · isplitl [A0]; · iexact A0
    isplitl [HO]; · iexact HO
    iexact Hlev
  iintro ⟨A0, HO⟩
  iapply (wait2 m c 2 2 0 (oweSum c) (above_sum c _ (by decide))) $$ [B0 HO]
  · isplitl [B0]; · iexact B0
    isplitl [HO]; · iexact HO
    iexact Hlev
  iintro ⟨B0, HO⟩
  iapply (get1 m c 2 2 0) $$ A0
  iintro A0
  iapply (dead1 m c 10) $$ C1
  iintro %v21 C1
  iapply (put1 m c 2 2 10 rfl (cast1 _)) $$ C1
  iintro C1
  iapply (get2 m c 2 2 0) $$ B0
  iintro B0
  iapply (dead2 m c 10) $$ C2
  iintro %v22 C2
  iapply (put2 m c 2 2 10 rfl (cast2 _)) $$ C2
  iintro C2
  ihave A0 := (Have_Free1 m c 2 2 0) $$ A0
  iapply (start1 m c 3 0 0) $$ A0
  iintro A0
  ihave B0 := (Have_Free2 m c 2 2 0) $$ B0
  iapply (start2 m c 3 0 0) $$ B0
  iintro B0
  iapply (wait1 m c 2 3 1 (oweSum c) (above_sum c _ (by decide))) $$ [A1 HO]
  · isplitl [A1]; · iexact A1
    isplitl [HO]; · iexact HO
    iexact Hlev
  iintro ⟨A1, HO⟩
  iapply (wait2 m c 2 3 1 (oweSum c) (above_sum c _ (by decide))) $$ [B1 HO]
  · isplitl [B1]; · iexact B1
    isplitl [HO]; · iexact HO
    iexact Hlev
  iintro ⟨B1, HO⟩
  iapply (get1 m c 2 3 1) $$ A1
  iintro A1
  iapply (dead1 m c 11) $$ C1
  iintro %v23 C1
  iapply (put1 m c 2 3 11 rfl (cast1 _)) $$ C1
  iintro C1
  iapply (get2 m c 2 3 1) $$ B1
  iintro B1
  iapply (dead2 m c 11) $$ C2
  iintro %v24 C2
  iapply (put2 m c 2 3 11 rfl (cast2 _)) $$ C2
  iintro C2
  ihave A1 := (Have_Free1 m c 2 3 1) $$ A1
  iapply (start1 m c 3 1 1) $$ A1
  iintro A1
  iapply Hk
  isplitl [A0]; · iexact A0
  isplitl [A1]; · iexact A1
  isplitl [B0]; · iexact B0
  isplitl [B1]; · iexact B1
  isplitl [C1]; · iexact C1
  isplitl [C2]; · iexact C2
  iexact HO

/-- The third expert on the neighbour's tokens. -/
theorem run_10 (c : Dev nD) {α : Type} {Q : α → sProp 𝕄} {k' : FVec F S256x1024 .f32 → Prog (TpuEff nD τ sig (Elt F) Λ₀ .tc) α} :
    iprop(levAts L lv ∗ Pend1 m c 3 0 0 ∗ Pend1 m c 3 1 1 ∗ Pend2 m c 3 0 0 ∗ Have2 m c 2 3 1 ∗ Acc1 m c 12 ∗ Acc2 m c 12 ∗ OW c (oweSum c) ∗ XB2 m c) ⊢ iprop((iprop(Have1 m c 3 0 0 ∗ Pend1 m c 3 1 1 ∗ Pend2 m c 3 0 0 ∗ Pend2 m c 3 1 1 ∗ Acc1 m c 12 ∗ Acc2 m c 12 ∗ OW c (oweSum c) ∗ XB2 m c) -∗ Run c (k' (k0_pay43 (whi m c) (k0_pay33 (whi m c) (bhi m c) (W1e m c 0) (W2e m c 0) (bhi m c) (W1e m c 1) (W2e m c 1)) (bhi m c) (W1e m c 2) (W2e m c 2))) Q)
      -∗ Run c (k0_part24 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 (whi m c) (k0_pay33 (whi m c) (bhi m c) (W1e m c 0) (W2e m c 0) (bhi m c) (W1e m c 1) (W2e m c 1)) >>= k') Q) := by
  simp only [k0_part24_eq_skeleton]
  unfold k0_part24_skel
  simp only [semSignalWord, semWaitWord, Prog.lift, Prog.bind_op, Prog.bind_ret, Prog.pure_eq_ret]
  iintro ⟨#Hlev, A0, A1, B0, B1, C1, C2, HO, XB⟩ Hk
  ihave B1 := (Have_Free2 m c 2 3 1) $$ B1
  iapply (start2 m c 3 1 1) $$ B1
  iintro B1
  iapply (readHi m c) $$ XB
  iintro XB
  iapply (expert1 m c 2 12 (by decide)) $$ C1
  iintro C1
  iapply (expert2 m c 2 12 (by decide)) $$ C2
  iintro C2
  iapply (wait1 m c 3 0 0 (oweSum c) (above_sum c _ (by decide))) $$ [A0 HO]
  · isplitl [A0]; · iexact A0
    isplitl [HO]; · iexact HO
    iexact Hlev
  iintro ⟨A0, HO⟩
  iapply Hk
  isplitl [A0]; · iexact A0
  isplitl [A1]; · iexact A1
  isplitl [B0]; · iexact B0
  isplitl [B1]; · iexact B1
  isplitl [C1]; · iexact C1
  isplitl [C2]; · iexact C2
  isplitl [HO]; · iexact HO
  iexact XB

/-- Blocks 12 and 13. -/
theorem run_11 (c : Dev nD) {α : Type} {Q : α → sProp 𝕄} {k' : PUnit → Prog (TpuEff nD τ sig (Elt F) Λ₀ .tc) α} :
    iprop(levAts L lv ∗ Have1 m c 3 0 0 ∗ Pend1 m c 3 1 1 ∗ Pend2 m c 3 0 0 ∗ Pend2 m c 3 1 1 ∗ Acc1 m c 12 ∗ Acc2 m c 12 ∗ OW c (oweSum c)) ⊢ iprop((iprop(Pend1 m c 3 2 0 ∗ Have1 m c 3 1 1 ∗ Pend2 m c 3 2 0 ∗ Have2 m c 3 1 1 ∗ Acc1 m c 14 ∗ Acc2 m c 14 ∗ OW c (oweSum c)) -∗ Run c (k' ⟨⟩) Q)
      -∗ Run c (k0_part25 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part26 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= k')) Q) := by
  simp only [k0_part25_eq_skeleton, k0_part26_eq_skeleton]
  unfold k0_part25_skel k0_part26_skel
  simp only [semSignalWord, semWaitWord, Prog.lift, Prog.bind_op, Prog.bind_ret, Prog.pure_eq_ret]
  iintro ⟨#Hlev, A0, A1, B0, B1, C1, C2, HO⟩ Hk
  iapply (wait2 m c 3 0 0 (oweSum c) (above_sum c _ (by decide))) $$ [B0 HO]
  · isplitl [B0]; · iexact B0
    isplitl [HO]; · iexact HO
    iexact Hlev
  iintro ⟨B0, HO⟩
  iapply (get1 m c 3 0 0) $$ A0
  iintro A0
  iapply (dead1 m c 12) $$ C1
  iintro %v25 C1
  iapply (put1 m c 3 0 12 rfl (cast1 _)) $$ C1
  iintro C1
  iapply (get2 m c 3 0 0) $$ B0
  iintro B0
  iapply (dead2 m c 12) $$ C2
  iintro %v26 C2
  iapply (put2 m c 3 0 12 rfl (cast2 _)) $$ C2
  iintro C2
  ihave A0 := (Have_Free1 m c 3 0 0) $$ A0
  iapply (start1 m c 3 2 0) $$ A0
  iintro A0
  ihave B0 := (Have_Free2 m c 3 0 0) $$ B0
  iapply (start2 m c 3 2 0) $$ B0
  iintro B0
  iapply (wait1 m c 3 1 1 (oweSum c) (above_sum c _ (by decide))) $$ [A1 HO]
  · isplitl [A1]; · iexact A1
    isplitl [HO]; · iexact HO
    iexact Hlev
  iintro ⟨A1, HO⟩
  iapply (wait2 m c 3 1 1 (oweSum c) (above_sum c _ (by decide))) $$ [B1 HO]
  · isplitl [B1]; · iexact B1
    isplitl [HO]; · iexact HO
    iexact Hlev
  iintro ⟨B1, HO⟩
  iapply (get1 m c 3 1 1) $$ A1
  iintro A1
  iapply (dead1 m c 13) $$ C1
  iintro %v27 C1
  iapply (put1 m c 3 1 13 rfl (cast1 _)) $$ C1
  iintro C1
  iapply (get2 m c 3 1 1) $$ B1
  iintro B1
  iapply (dead2 m c 13) $$ C2
  iintro %v28 C2
  iapply (put2 m c 3 1 13 rfl (cast2 _)) $$ C2
  iintro C2
  iapply Hk
  isplitl [A0]; · iexact A0
  isplitl [A1]; · iexact A1
  isplitl [B0]; · iexact B0
  isplitl [B1]; · iexact B1
  isplitl [C1]; · iexact C1
  isplitl [C2]; · iexact C2
  iexact HO

/-- Blocks 14 and 15; the last expert on the neighbour's tokens, and the first chunk of the sum on its way. -/
theorem run_12 (K : Dev nD × Fin 21 → ℕ) (c : Dev nD) (v5 v6 : BitVec 32) {α : Type} {Q : α → sProp 𝕄} {k' : PUnit → Prog (TpuEff nD τ sig (Elt F) Λ₀ .tc) α} :
    iprop(levAts L lv ∗ records m K ∗ Pend1 m c 3 2 0 ∗ Have1 m c 3 1 1 ∗ Pend2 m c 3 2 0 ∗ Have2 m c 3 1 1 ∗ Acc1 m c 14 ∗ Acc2 m c 14 ∗ OW c (oweSum c) ∗ XB2 m c ∗ (∃ f, own c cc0_scratch3 Finset.univ f) ∗ (∃ f, own (xn c) cc0_scratch4 Finset.univ f) ∗ Tk c (xn c) 11 7) ⊢ iprop((iprop(Have1 m c 3 2 0 ∗ Have1 m c 3 3 1 ∗ Have2 m c 3 2 0 ∗ Have2 m c 3 3 1 ∗ Acc1 m c 16 ∗ Acc2 m c 16 ∗ OW c (Left c 1) ∗ XB2 m c ∗ Cr c 11 ∗ own c cc0_scratch3 (psC 1).view.set (accHi m c) ∗ own c cc0_scratch3 (psC 2).view.set (accHi m c) ∗ own c cc0_scratch3 (psC 3).view.set (accHi m c) ∗ (∃ f, own (xn c) cc0_scratch4 (prC 1).view.set f) ∗ (∃ f, own (xn c) cc0_scratch4 (prC 2).view.set f) ∗ (∃ f, own (xn c) cc0_scratch4 (prC 3).view.set f)) -∗ Run c (k' ⟨⟩) Q)
      -∗ Run c (k0_part27 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun _ => (k0_part28 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 >>= fun v786 => (k0_part29 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v5 v6 (whi m c) (k0_pay43 (whi m c) (k0_pay33 (whi m c) (bhi m c) (W1e m c 0) (W2e m c 0) (bhi m c) (W1e m c 1) (W2e m c 1)) (bhi m c) (W1e m c 2) (W2e m c 2)) v786 >>= k'))) Q) := by
  simp only [k0_part27_eq_skeleton, k0_part28_eq_skeleton, k0_part29_eq_skeleton]
  unfold k0_part27_skel k0_part28_skel k0_part29_skel
  simp only [semSignalWord, semWaitWord, Prog.lift, Prog.bind_op, Prog.bind_ret, Prog.pure_eq_ret]
  iintro ⟨#Hlev, #Hrec, A0, A1, B0, B1, C1, C2, HO, XB, P3, P4, T11⟩ Hk
  ihave A1 := (Have_Free1 m c 3 1 1) $$ A1
  iapply (start1 m c 3 3 1) $$ A1
  iintro A1
  ihave B1 := (Have_Free2 m c 3 1 1) $$ B1
  iapply (start2 m c 3 3 1) $$ B1
  iintro B1
  iapply (wait1 m c 3 2 0 (oweSum c) (above_sum c _ (by decide))) $$ [A0 HO]
  · isplitl [A0]; · iexact A0
    isplitl [HO]; · iexact HO
    iexact Hlev
  iintro ⟨A0, HO⟩
  iapply (wait2 m c 3 2 0 (oweSum c) (above_sum c _ (by decide))) $$ [B0 HO]
  · isplitl [B0]; · iexact B0
    isplitl [HO]; · iexact HO
    iexact Hlev
  iintro ⟨B0, HO⟩
  iapply (get1 m c 3 2 0) $$ A0
  iintro A0
  iapply (dead1 m c 14) $$ C1
  iintro %v29 C1
  iapply (put1 m c 3 2 14 rfl (cast1 _)) $$ C1
  iintro C1
  iapply (get2 m c 3 2 0) $$ B0
  iintro B0
  iapply (dead2 m c 14) $$ C2
  iintro %v30 C2
  iapply (put2 m c 3 2 14 rfl (cast2 _)) $$ C2
  iintro C2
  iapply (wait1 m c 3 3 1 (oweSum c) (above_sum c _ (by decide))) $$ [A1 HO]
  · isplitl [A1]; · iexact A1
    isplitl [HO]; · iexact HO
    iexact Hlev
  iintro ⟨A1, HO⟩
  iapply (wait2 m c 3 3 1 (oweSum c) (above_sum c _ (by decide))) $$ [B1 HO]
  · isplitl [B1]; · iexact B1
    isplitl [HO]; · iexact HO
    iexact Hlev
  iintro ⟨B1, HO⟩
  iapply (get1 m c 3 3 1) $$ A1
  iintro A1
  iapply (dead1 m c 15) $$ C1
  iintro %v31 C1
  iapply (put1 m c 3 3 15 rfl (cast1 _)) $$ C1
  iintro C1
  iapply (get2 m c 3 3 1) $$ B1
  iintro B1
  iapply (dead2 m c 15) $$ C2
  iintro %v32 C2
  iapply (put2 m c 3 3 15 rfl (cast2 _)) $$ C2
  iintro C2
  iapply (readHi m c) $$ XB
  iintro XB
  iapply (expert1 m c 3 16 (by decide)) $$ C1
  iintro C1
  iapply (expert2 m c 3 16 (by decide)) $$ C2
  iintro C2
  icases P3 with ⟨%f3, P3⟩
  iapply (wp_load 𝒱₀ (c : Thread nD τ) none Set.univ (m := psM) (Finset.subset_univ _)) $$ P3
  iintro P3
  iapply (wp_store 𝒱₀ (c : Thread nD τ) none Set.univ (m := psM) (r := Rect.unit (s := S256x1024) ![0, 0] S256x1024.size inb_S256x1024_S256x1024_0_0) (Mk := Finset.univ) (Finset.subset_univ _)) $$ P3
  iintro P3
  ihave P3 := (stored_ps m c f3 (k0_pay53 (whi m c) (k0_pay43 (whi m c) (k0_pay33 (whi m c) (bhi m c) (W1e m c 0) (W2e m c 0) (bhi m c) (W1e m c 1) (W2e m c 1)) (bhi m c) (W1e m c 2) (W2e m c 2)) (bhi m c) (W1e m c 3) (W2e m c 3)) rfl) $$ P3
  icases P3 with ⟨PS0, PS1, PS2, PS3⟩
  ihave P4 := (split_pr (xn c)) $$ P4
  icases P4 with ⟨Q0, Q1, Q2, Q3⟩
  iapply (send_p0 m K c) $$ [PS0 Q0 HO T11]
  · isplitr; · iexact Hrec
    isplitl [PS0]; · iexact PS0
    isplitl [Q0]; · iexact Q0
    isplitl [HO]; · iexact HO
    iexact T11
  iintro ⟨C11, HO⟩
  iapply Hk
  isplitl [A0]; · iexact A0
  isplitl [A1]; · iexact A1
  isplitl [B0]; · iexact B0
  isplitl [B1]; · iexact B1
  isplitl [C1]; · iexact C1
  isplitl [C2]; · iexact C2
  isplitl [HO]; · iexact HO
  isplitl [XB]; · iexact XB
  isplitl [C11]; · iexact C11
  isplitl [PS1]; · iexact PS1
  isplitl [PS2]; · iexact PS2
  isplitl [PS3]; · iexact PS3
  isplitl [Q1]; · iexact Q1
  isplitl [Q2]; · iexact Q2
  iexact Q3

/-- The other chunks of the sum on their way. -/
theorem run_13 (K : Dev nD × Fin 21 → ℕ) (c : Dev nD) (v5 v6 : BitVec 32) {α : Type} {Q : α → sProp 𝕄} {k' : PUnit → Prog (TpuEff nD τ sig (Elt F) Λ₀ .tc) α} :
    iprop(records m K ∗ OW c (Left c 1) ∗ own c cc0_scratch3 (psC 1).view.set (accHi m c) ∗ own c cc0_scratch3 (psC 2).view.set (accHi m c) ∗ own c cc0_scratch3 (psC 3).view.set (accHi m c) ∗ (∃ f, own (xn c) cc0_scratch4 (prC 1).view.set f) ∗ (∃ f, own (xn c) cc0_scratch4 (prC 2).view.set f) ∗ (∃ f, own (xn c) cc0_scratch4 (prC 3).view.set f) ∗ Tk c (xn c) 12 8 ∗ Tk c (xn c) 13 9 ∗ Tk c (xn c) 14 10) ⊢ iprop((iprop(OW c (Left c 4) ∗ Cr c 12 ∗ Cr c 13 ∗ Cr c 14) -∗ Run c (k' ⟨⟩) Q)
      -∗ Run c (k0_part30 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v5 v6 >>= k') Q) := by
  simp only [k0_part30_eq_skeleton]
  unfold k0_part30_skel
  simp only [semSignalWord, semWaitWord, Prog.lift, Prog.bind_op, Prog.bind_ret, Prog.pure_eq_ret]
  iintro ⟨#Hrec, HO, PS1, PS2, PS3, Q1, Q2, Q3, T12, T13, T14⟩ Hk
  iapply (send_p1 m K c) $$ [PS1 Q1 HO T12]
  · isplitr; · iexact Hrec
    isplitl [PS1]; · iexact PS1
    isplitl [Q1]; · iexact Q1
    isplitl [HO]; · iexact HO
    iexact T12
  iintro ⟨C12, HO⟩
  iapply (send_p2 m K c) $$ [PS2 Q2 HO T13]
  · isplitr; · iexact Hrec
    isplitl [PS2]; · iexact PS2
    isplitl [Q2]; · iexact Q2
    isplitl [HO]; · iexact HO
    iexact T13
  iintro ⟨C13, HO⟩
  iapply (send_p3 m K c) $$ [PS3 Q3 HO T14]
  · isplitr; · iexact Hrec
    isplitl [PS3]; · iexact PS3
    isplitl [Q3]; · iexact Q3
    isplitl [HO]; · iexact HO
    iexact T14
  iintro ⟨C14, HO⟩
  iapply Hk
  isplitl [HO]; · iexact HO
  isplitl [C12]; · iexact C12
  isplitl [C13]; · iexact C13
  iexact C14

/-- The other experts on the device's own tokens, and the first chunk of the result. -/
theorem run_14 (K : Dev nD × Fin 21 → ℕ) (c : Dev nD) (v2 v5 v6 v7 : BitVec 32) {α : Type} {Q : α → sProp 𝕄} {k' : FVec F S256x1024 .f32 → Prog (TpuEff nD τ sig (Elt F) Λ₀ .tc) α} :
    iprop(levAts L lv ∗ records m K ∗ Acc1 m c 16 ∗ Acc2 m c 16 ∗ OW c (Left c 4) ∗ XB2 m c ∗ Cr c 7 ∗ At c 7 ∗ (∃ f, own c cc0_stg2_0 (oC c 0).view.set f)) ⊢ iprop((iprop(Acc1 m c 16 ∗ Acc2 m c 16 ∗ OW c (Left c 4) ∗ XB2 m c ∗ Dn c 7 ∗ own c cc0_scratch4 (prC 0).view.set (accHi m (xn c)) ∗ own c cc0_stg2_0 (oC c 0).view.set (OUT m c)) -∗ Run c (k' (accLo m c)) Q)
      -∗ Run c (k0_part31 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 (wlo m c) (acc0 m c) >>= fun x => match x with | ⟨v874, v878, v879⟩ => (k0_part32 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v2 v5 v6 v7 (wlo m c) v874 v878 v879 >>= k')) Q) := by
  simp only [k0_part31_eq_skeleton, k0_part32_eq_skeleton]
  unfold k0_part31_skel k0_part32_skel
  simp only [semSignalWord, semWaitWord, Prog.lift, Prog.bind_op, Prog.bind_ret, Prog.pure_eq_ret]
  iintro ⟨#Hlev, #Hrec, C1, C2, HO, XB, C7, A7_, M0⟩ Hk
  iapply (readLo2 m c) $$ XB
  iintro XB
  iapply (expert1 m c 1 16 (by decide)) $$ C1
  iintro C1
  iapply (expert2 m c 1 16 (by decide)) $$ C2
  iintro C2
  iapply (readLo2 m c) $$ XB
  iintro XB
  iapply (expert1 m c 2 16 (by decide)) $$ C1
  iintro C1
  iapply (expert2 m c 2 16 (by decide)) $$ C2
  iintro C2
  iapply (readLo2 m c) $$ XB
  iintro XB
  iapply (expert1 m c 3 16 (by decide)) $$ C1
  iintro C1
  iapply (expert2 m c 3 16 (by decide)) $$ C2
  iintro C2
  iapply (wait_dma m K c 7 (of_decide_eq_true rfl) (of_decide_eq_true rfl) (Left c 4) (above_left' c 0 _ (of_decide_eq_true rfl)) (dstw := prC 0) rfl) $$ [C7 HO A7_]
  · isplitr; · iexact Hrec
    isplitr; · iexact Hlev
    isplitl [C7]; · iexact C7
    isplitl [HO]; · iexact HO
    iexact A7_
  iintro ⟨PR0, HO, D7⟩
  ihave PR0 := (Entails.of_eq (show pay m c 7 = own c cc0_scratch4 (prC 0).view.set (accHi m (xn c)) from rfl)) $$ PR0
  iapply (sum_0 m c) $$ [PR0 M0]
  · isplitl [PR0]; · iexact PR0
    iexact M0
  iintro ⟨PR0, M0⟩
  iapply Hk
  isplitl [C1]; · iexact C1
  isplitl [C2]; · iexact C2
  isplitl [HO]; · iexact HO
  isplitl [XB]; · iexact XB
  isplitl [D7]; · iexact D7
  isplitl [PR0]; · iexact PR0
  iexact M0

/-- The chunks of the result, each summed and sent to the neighbour across the columns. -/
theorem run_15 (K : Dev nD × Fin 21 → ℕ) (c : Dev nD) (v2 v5 v6 v7 : BitVec 32) {α : Type} {Q : α → sProp 𝕄} {k' : PUnit → Prog (TpuEff nD τ sig (Elt F) Λ₀ .tc) α} :
    iprop(levAts L lv ∗ records m K ∗ OW c (Left c 4) ∗ own c cc0_stg2_0 (oC c 0).view.set (OUT m c) ∗ (∃ f, own c cc0_stg2_0 (oC c 1).view.set f) ∗ (∃ f, own c cc0_stg2_0 (oC c 2).view.set f) ∗ (∃ f, own c cc0_stg2_0 (oC c 3).view.set f) ∗ barY c ∗ Tk c (yn c) 19 15 ∗ Tk c (yn c) 20 16 ∗ Tk c (yn c) 21 17 ∗ Tk c (yn c) 22 18 ∗ Cr c 8 ∗ At c 8 ∗ Cr c 9 ∗ At c 9 ∗ Cr c 10 ∗ At c 10 ∗ Cr c 11 ∗ At c 11 ∗ At c 19) ⊢ iprop((iprop(OW c [] ∗ own c cc0_scratch4 (prC 1).view.set (accHi m (xn c)) ∗ own c cc0_scratch4 (prC 2).view.set (accHi m (xn c)) ∗ own c cc0_scratch4 (prC 3).view.set (accHi m (xn c)) ∗ Dn c 8 ∗ Dn c 9 ∗ Dn c 10 ∗ Dn c 11 ∗ Dn c 19 ∗ pay m c 11 ∗ pay m c 19 ∗ Cr c 20 ∗ Cr c 21 ∗ Cr c 22) -∗ Run c (k' ⟨⟩) Q)
      -∗ Run c (k0_part33 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v2 v5 v6 v7 (accLo m c) >>= fun _ => (k0_part34 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v2 v5 v6 v7 (accLo m c) >>= fun v972 => (k0_part35 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v2 v7 (accLo m c) v972 >>= k'))) Q) := by
  simp only [k0_part33_eq_skeleton, k0_part34_eq_skeleton, k0_part35_eq_skeleton]
  unfold k0_part33_skel k0_part34_skel k0_part35_skel
  simp only [semSignalWord, semWaitWord, Prog.lift, Prog.bind_op, Prog.bind_ret, Prog.pure_eq_ret]
  iintro ⟨#Hlev, #Hrec, HO, M0, M1, M2, M3, BY, T19, T20, T21, T22, C8, A8_, C9, A9_, C10, A10_, C11, A11_, A19_⟩ Hk
  unfold barY
  icases BY with ⟨Y0, Y1, Y2, Y3⟩
  iapply (send_o0 m K c) $$ [M0 Y0 HO T19]
  · isplitr; · iexact Hrec
    isplitl [M0]; · iexact M0
    isplitl [Y0]; · iexact Y0
    isplitl [HO]; · iexact HO
    iexact T19
  iintro ⟨C19, HO⟩
  iapply (wait_dma m K c 8 (of_decide_eq_true rfl) (of_decide_eq_true rfl) (Left c 5) (above_left' c 1 _ (of_decide_eq_true rfl)) (dstw := prC 1) rfl) $$ [C8 HO A8_]
  · isplitr; · iexact Hrec
    isplitr; · iexact Hlev
    isplitl [C8]; · iexact C8
    isplitl [HO]; · iexact HO
    iexact A8_
  iintro ⟨PR1, HO, D8⟩
  ihave PR1 := (Entails.of_eq (show pay m c 8 = own c cc0_scratch4 (prC 1).view.set (accHi m (xn c)) from rfl)) $$ PR1
  iapply (sum_1 m c) $$ [PR1 M1]
  · isplitl [PR1]; · iexact PR1
    iexact M1
  iintro ⟨PR1, M1⟩
  iapply (send_o1 m K c) $$ [M1 Y1 HO T20]
  · isplitr; · iexact Hrec
    isplitl [M1]; · iexact M1
    isplitl [Y1]; · iexact Y1
    isplitl [HO]; · iexact HO
    iexact T20
  iintro ⟨C20, HO⟩
  iapply (wait_dma m K c 9 (of_decide_eq_true rfl) (of_decide_eq_true rfl) (Left c 6) (above_left' c 2 _ (of_decide_eq_true rfl)) (dstw := prC 2) rfl) $$ [C9 HO A9_]
  · isplitr; · iexact Hrec
    isplitr; · iexact Hlev
    isplitl [C9]; · iexact C9
    isplitl [HO]; · iexact HO
    iexact A9_
  iintro ⟨PR2, HO, D9⟩
  ihave PR2 := (Entails.of_eq (show pay m c 9 = own c cc0_scratch4 (prC 2).view.set (accHi m (xn c)) from rfl)) $$ PR2
  iapply (sum_2 m c) $$ [PR2 M2]
  · isplitl [PR2]; · iexact PR2
    iexact M2
  iintro ⟨PR2, M2⟩
  iapply (send_o2 m K c) $$ [M2 Y2 HO T21]
  · isplitr; · iexact Hrec
    isplitl [M2]; · iexact M2
    isplitl [Y2]; · iexact Y2
    isplitl [HO]; · iexact HO
    iexact T21
  iintro ⟨C21, HO⟩
  iapply (wait_dma m K c 10 (of_decide_eq_true rfl) (of_decide_eq_true rfl) (Left c 7) (above_left' c 3 _ (of_decide_eq_true rfl)) (dstw := prC 3) rfl) $$ [C10 HO A10_]
  · isplitr; · iexact Hrec
    isplitr; · iexact Hlev
    isplitl [C10]; · iexact C10
    isplitl [HO]; · iexact HO
    iexact A10_
  iintro ⟨PR3, HO, D10⟩
  ihave PR3 := (Entails.of_eq (show pay m c 10 = own c cc0_scratch4 (prC 3).view.set (accHi m (xn c)) from rfl)) $$ PR3
  iapply (sum_3 m c) $$ [PR3 M3]
  · isplitl [PR3]; · iexact PR3
    iexact M3
  iintro ⟨PR3, M3⟩
  iapply (send_o3 m K c) $$ [M3 Y3 HO T22]
  · isplitr; · iexact Hrec
    isplitl [M3]; · iexact M3
    isplitl [Y3]; · iexact Y3
    isplitl [HO]; · iexact HO
    iexact T22
  iintro ⟨C22, HO⟩
  iapply (wait_dma m K c 11 (of_decide_eq_true rfl) (of_decide_eq_true rfl) ([]) ((fun p hp => absurd hp (List.not_mem_nil))) (dstw := psC 0) rfl) $$ [C11 HO A11_]
  · isplitr; · iexact Hrec
    isplitr; · iexact Hlev
    isplitl [C11]; · iexact C11
    isplitl [HO]; · iexact HO
    iexact A11_
  iintro ⟨S11, HO, D11⟩
  iapply (wait_dma m K c 19 (of_decide_eq_true rfl) (of_decide_eq_true rfl) ([]) ((fun p hp => absurd hp (List.not_mem_nil))) (dstw := oC c 0) rfl) $$ [C19 HO A19_]
  · isplitr; · iexact Hrec
    isplitr; · iexact Hlev
    isplitl [C19]; · iexact C19
    isplitl [HO]; · iexact HO
    iexact A19_
  iintro ⟨S19, HO, D19⟩
  iapply Hk
  isplitl [HO]; · iexact HO
  isplitl [PR1]; · iexact PR1
  isplitl [PR2]; · iexact PR2
  isplitl [PR3]; · iexact PR3
  isplitl [D8]; · iexact D8
  isplitl [D9]; · iexact D9
  isplitl [D10]; · iexact D10
  isplitl [D11]; · iexact D11
  isplitl [D19]; · iexact D19
  isplitl [S11]; · iexact S11
  isplitl [S19]; · iexact S19
  isplitl [C20]; · iexact C20
  isplitl [C21]; · iexact C21
  iexact C22

/-- The last waits. -/
theorem run_16 (K : Dev nD × Fin 21 → ℕ) (c : Dev nD) (v2 v5 v6 v7 : BitVec 32) {α : Type} {Q : α → sProp 𝕄} {k' : PUnit → Prog (TpuEff nD τ sig (Elt F) Λ₀ .tc) α} :
    iprop(levAts L lv ∗ records m K ∗ OW c [] ∗ Cr c 15 ∗ At c 15 ∗ Cr c 12 ∗ At c 12 ∗ Cr c 20 ∗ At c 20 ∗ Cr c 16 ∗ At c 16 ∗ Cr c 13 ∗ At c 13 ∗ Cr c 21 ∗ At c 21 ∗ Cr c 17 ∗ At c 17 ∗ Cr c 14 ∗ At c 14 ∗ Cr c 22 ∗ At c 22) ⊢ iprop((iprop(OW c [] ∗ pay m c 15 ∗ Dn c 15 ∗ pay m c 12 ∗ Dn c 12 ∗ pay m c 20 ∗ Dn c 20 ∗ pay m c 16 ∗ Dn c 16 ∗ pay m c 13 ∗ Dn c 13 ∗ pay m c 21 ∗ Dn c 21 ∗ pay m c 17 ∗ Dn c 17 ∗ pay m c 14 ∗ Dn c 14 ∗ pay m c 22 ∗ Dn c 22) -∗ Run c (k' ⟨⟩) Q)
      -∗ Run c (k0_part36 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v2 v7 >>= fun _ => (k0_part37 xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16 c v2 v7 >>= k')) Q) := by
  simp only [k0_part36_eq_skeleton, k0_part37_eq_skeleton]
  unfold k0_part36_skel k0_part37_skel
  simp only [semSignalWord, semWaitWord, Prog.lift, Prog.bind_op, Prog.bind_ret, Prog.pure_eq_ret]
  iintro ⟨#Hlev, #Hrec, HO, C15, A15_, C12, A12_, C20, A20_, C16, A16_, C13, A13_, C21, A21_, C17, A17_, C14, A14_, C22, A22_⟩ Hk
  iapply (wait_dma m K c 15 (of_decide_eq_true rfl) (of_decide_eq_true rfl) ([]) ((fun p hp => absurd hp (List.not_mem_nil))) (dstw := oC c 0) rfl) $$ [C15 HO A15_]
  · isplitr; · iexact Hrec
    isplitr; · iexact Hlev
    isplitl [C15]; · iexact C15
    isplitl [HO]; · iexact HO
    iexact A15_
  iintro ⟨S15, HO, D15⟩
  iapply (wait_dma m K c 12 (of_decide_eq_true rfl) (of_decide_eq_true rfl) ([]) ((fun p hp => absurd hp (List.not_mem_nil))) (dstw := psC 1) rfl) $$ [C12 HO A12_]
  · isplitr; · iexact Hrec
    isplitr; · iexact Hlev
    isplitl [C12]; · iexact C12
    isplitl [HO]; · iexact HO
    iexact A12_
  iintro ⟨S12, HO, D12⟩
  iapply (wait_dma m K c 20 (of_decide_eq_true rfl) (of_decide_eq_true rfl) ([]) ((fun p hp => absurd hp (List.not_mem_nil))) (dstw := oC c 1) rfl) $$ [C20 HO A20_]
  · isplitr; · iexact Hrec
    isplitr; · iexact Hlev
    isplitl [C20]; · iexact C20
    isplitl [HO]; · iexact HO
    iexact A20_
  iintro ⟨S20, HO, D20⟩
  iapply (wait_dma m K c 16 (of_decide_eq_true rfl) (of_decide_eq_true rfl) ([]) ((fun p hp => absurd hp (List.not_mem_nil))) (dstw := oC c 1) rfl) $$ [C16 HO A16_]
  · isplitr; · iexact Hrec
    isplitr; · iexact Hlev
    isplitl [C16]; · iexact C16
    isplitl [HO]; · iexact HO
    iexact A16_
  iintro ⟨S16, HO, D16⟩
  iapply (wait_dma m K c 13 (of_decide_eq_true rfl) (of_decide_eq_true rfl) ([]) ((fun p hp => absurd hp (List.not_mem_nil))) (dstw := psC 2) rfl) $$ [C13 HO A13_]
  · isplitr; · iexact Hrec
    isplitr; · iexact Hlev
    isplitl [C13]; · iexact C13
    isplitl [HO]; · iexact HO
    iexact A13_
  iintro ⟨S13, HO, D13⟩
  iapply (wait_dma m K c 21 (of_decide_eq_true rfl) (of_decide_eq_true rfl) ([]) ((fun p hp => absurd hp (List.not_mem_nil))) (dstw := oC c 2) rfl) $$ [C21 HO A21_]
  · isplitr; · iexact Hrec
    isplitr; · iexact Hlev
    isplitl [C21]; · iexact C21
    isplitl [HO]; · iexact HO
    iexact A21_
  iintro ⟨S21, HO, D21⟩
  iapply (wait_dma m K c 17 (of_decide_eq_true rfl) (of_decide_eq_true rfl) ([]) ((fun p hp => absurd hp (List.not_mem_nil))) (dstw := oC c 2) rfl) $$ [C17 HO A17_]
  · isplitr; · iexact Hrec
    isplitr; · iexact Hlev
    isplitl [C17]; · iexact C17
    isplitl [HO]; · iexact HO
    iexact A17_
  iintro ⟨S17, HO, D17⟩
  iapply (wait_dma m K c 14 (of_decide_eq_true rfl) (of_decide_eq_true rfl) ([]) ((fun p hp => absurd hp (List.not_mem_nil))) (dstw := psC 3) rfl) $$ [C14 HO A14_]
  · isplitr; · iexact Hrec
    isplitr; · iexact Hlev
    isplitl [C14]; · iexact C14
    isplitl [HO]; · iexact HO
    iexact A14_
  iintro ⟨S14, HO, D14⟩
  iapply (wait_dma m K c 22 (of_decide_eq_true rfl) (of_decide_eq_true rfl) ([]) ((fun p hp => absurd hp (List.not_mem_nil))) (dstw := oC c 3) rfl) $$ [C22 HO A22_]
  · isplitr; · iexact Hrec
    isplitr; · iexact Hlev
    isplitl [C22]; · iexact C22
    isplitl [HO]; · iexact HO
    iexact A22_
  iintro ⟨S22, HO, D22⟩
  iapply Hk
  isplitl [HO]; · iexact HO
  isplitl [S15]; · iexact S15
  isplitl [D15]; · iexact D15
  isplitl [S12]; · iexact S12
  isplitl [D12]; · iexact D12
  isplitl [S20]; · iexact S20
  isplitl [D20]; · iexact D20
  isplitl [S16]; · iexact S16
  isplitl [D16]; · iexact D16
  isplitl [S13]; · iexact S13
  isplitl [D13]; · iexact D13
  isplitl [S21]; · iexact S21
  isplitl [D21]; · iexact D21
  isplitl [S17]; · iexact S17
  isplitl [D17]; · iexact D17
  isplitl [S14]; · iexact S14
  isplitl [D14]; · iexact D14
  isplitl [S22]; · iexact S22
  iexact D22

end Cert.KernelIdealProof

end
-- ==== Proof.IBody.lean ====
/-
# The body as a whole
-/
module

public import proofs.«01_k».proof.Proof.IRun

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- What the body starts from: the duties it pays, where it stands, its credits. -/
def Duties (c : Dev nD) : sProp 𝕄 := iprop(dutyTok ER (barCell (xn c)) 0 true ∗ dutyTok ER (barCell (yn c)) 0 false ∗ Tk c (xn c) 5 3 ∗ Tk c (xn c) 6 4 ∗ Tk c (xn c) 11 7 ∗ Tk c (xn c) 12 8 ∗ Tk c (xn c) 13 9 ∗ Tk c (xn c) 14 10 ∗ Tk c (yn c) 19 15 ∗ Tk c (yn c) 20 16 ∗ Tk c (yn c) 21 17 ∗ Tk c (yn c) 22 18)
def Stands (c : Dev nD) : sProp 𝕄 := iprop(atPos ER (barCell c) 0 ∅ 0 ∗ At c 3 ∗ At c 4 ∗ At c 5 ∗ At c 6 ∗ At c 7 ∗ At c 8 ∗ At c 9 ∗ At c 10 ∗ At c 11 ∗ At c 12 ∗ At c 13 ∗ At c 14 ∗ At c 15 ∗ At c 16 ∗ At c 17 ∗ At c 18 ∗ At c 19 ∗ At c 20 ∗ At c 21 ∗ At c 22)
def Credits (c : Dev nD) : sProp 𝕄 := iprop(cred (tallyAt (barCell c) () 2) ∗ Cr c 3 ∗ Cr c 4 ∗ Cr c 7 ∗ Cr c 8 ∗ Cr c 9 ∗ Cr c 10 ∗ Cr c 15 ∗ Cr c 16 ∗ Cr c 17 ∗ Cr c 18)
/-- The exchange's cells closed. -/
def Closed (c : Dev nD) : sProp 𝕄 := iprop(semVal (barCell c) 0 ∗ Dn c 3 ∗ Dn c 4 ∗ Dn c 5 ∗ Dn c 6 ∗ Dn c 7 ∗ Dn c 8 ∗ Dn c 9 ∗ Dn c 10 ∗ Dn c 11 ∗ Dn c 12 ∗ Dn c 13 ∗ Dn c 14 ∗ Dn c 15 ∗ Dn c 16 ∗ Dn c 17 ∗ Dn c 18 ∗ Dn c 19 ∗ Dn c 20 ∗ Dn c 21 ∗ Dn c 22)
/-- The weight semaphores at rest. -/
def WRest (c : Dev nD) : sProp 𝕄 := iprop(semVal (wcell1 c 0) 0 ∗ semVal (wcell1 c 1) 0 ∗ semVal (wcell2 c 0) 0 ∗ semVal (wcell2 c 1) 0)
/-- The scratch buffers, whatever they hold. -/
def Scr (c : Dev nD) : sProp 𝕄 := iprop((∃ f, own c cc0_scratch0 Finset.univ f) ∗ (∃ f, own c cc0_scratch1 Finset.univ f) ∗ (∃ f, own c cc0_scratch2 Finset.univ f) ∗ (∃ f, own c cc0_scratch3 Finset.univ f) ∗ (∃ f, own c cc0_scratch4 Finset.univ f) ∗ (∃ f, own c cc0_scratch5 Finset.univ f) ∗ (∃ f, own c cc0_scratch6 Finset.univ f) ∗ (∃ f, own c cc0_scratch7 Finset.univ f) ∗ (∃ f, own c cc0_scratch8 Finset.univ f))
/-- The two weight arrays. -/
def Wts (c : Dev nD) : sProp 𝕄 := iprop(own c main_arg2 Finset.univ (m ((c : Thread nD τ).loc main_arg2)) ∗ own c main_arg3 Finset.univ (m ((c : Thread nD τ).loc main_arg3)))

/-- What the body starts from. -/
def bodyPre (K : Dev nD × Fin 21 → ℕ) (c : Dev nD) : sProp 𝕄 :=
  iprop(levAts L lv ∗ records m K ∗ OW c (oweAll c) ∗ own c cc0_stg0_0 Finset.univ (xstg m c) ∗ own c cc0_stg1_0 Finset.univ (rstg m c) ∗ (∃ f, own c cc0_stg2_0 Finset.univ f)
    ∗ Scr c ∗ Wts m c ∗ WRest c ∗ Duties c ∗ Stands c ∗ Credits c)
/-- What it leaves. -/
def bodyPost (c : Dev nD) : sProp 𝕄 :=
  iprop(OW c [] ∗ own c cc0_stg0_0 Finset.univ (xstg m c) ∗ own c cc0_stg1_0 Finset.univ (rstg m c) ∗ own c cc0_stg2_0 Finset.univ (OUT m c)
    ∗ Scr c ∗ Wts m c ∗ WRest c ∗ Closed c)

theorem acc_start1 (c : Dev nD) : iprop(∃ f, own c cc0_scratch5 Finset.univ f) ⊢ Acc1 m c 0 := by
  unfold Acc1
  iintro ⟨%f, H⟩
  iexists f
  isplitr; · (ipureintro; exact fun i h => absurd h (Nat.not_lt_zero _))
  iexact H
theorem acc_start2 (c : Dev nD) : iprop(∃ f, own c cc0_scratch6 Finset.univ f) ⊢ Acc2 m c 0 := by
  unfold Acc2
  iintro ⟨%f, H⟩
  iexists f
  isplitr; · (ipureintro; exact fun i h => absurd h (Nat.not_lt_zero _))
  iexact H
theorem acc_end1 (c : Dev nD) (q : ℕ) : Acc1 m c q ⊢ iprop(∃ f, own c cc0_scratch5 Finset.univ f) := by
  unfold Acc1
  iintro ⟨%f, -, H⟩
  iexists f; iexact H
theorem acc_end2 (c : Dev nD) (q : ℕ) : Acc2 m c q ⊢ iprop(∃ f, own c cc0_scratch6 Finset.univ f) := by
  unfold Acc2
  iintro ⟨%f, -, H⟩
  iexists f; iexact H
theorem xb_end (c : Dev nD) : XB2 m c ⊢ iprop(∃ f, own c cc0_scratch2 Finset.univ f) := by
  unfold XB2
  iintro ⟨%f, -, H⟩
  iexists f; iexact H

/-- The sum's buffer back from its four sends. -/
theorem ps_end (c : Dev nD) : iprop(pay m c 11 ∗ pay m c 12 ∗ pay m c 13 ∗ pay m c 14) ⊢ (iprop(∃ f, own c cc0_scratch3 Finset.univ f) : sProp 𝕄) := by
  refine BIBase.Entails.trans (Entails.of_eq (ps_quarters c (accHi m c)).symm) ?_
  iintro H
  iexists (accHi m c); iexact H
/-- The landing place of the neighbour's sum, whole again. -/
theorem pr_end (c : Dev nD) : iprop(own c cc0_scratch4 (prC 0).view.set (accHi m (xn c)) ∗ own c cc0_scratch4 (prC 1).view.set (accHi m (xn c)) ∗ own c cc0_scratch4 (prC 2).view.set (accHi m (xn c)) ∗ own c cc0_scratch4 (prC 3).view.set (accHi m (xn c)))
    ⊢ (iprop(∃ f, own c cc0_scratch4 Finset.univ f) : sProp 𝕄) := by
  refine BIBase.Entails.trans (Entails.of_eq (pr_quarters c (accHi m (xn c))).symm) ?_
  iintro H
  iexists (accHi m (xn c)); iexact H
/-- The result's buffer, its own rows and the neighbour's. -/
theorem out_end (c : Dev nD) : iprop((pay m c 19 ∗ pay m c 20 ∗ pay m c 21 ∗ pay m c 22) ∗ (pay m c 15 ∗ pay m c 16 ∗ pay m c 17 ∗ pay m c 18)) ⊢ (own c cc0_stg2_0 Finset.univ (OUT m c) : sProp 𝕄) :=
  Entails.of_eq (out_quarters c c (OUT m c)).symm

/-- At its end the body hands over what was asked. -/
theorem run_ret (c : Dev nD) {Q : PUnit → sProp 𝕄} : Q ⟨⟩ ⊢ Run c (Prog.ret PUnit.unit) Q := by
  show Q ⟨⟩ ⊢ wp _ _ _ (Prog.ret PUnit.unit) Q
  rw [wp_ret]; exact fupd_intro

set_option maxHeartbeats 1600000 in
/-- The whole body. -/
theorem body_run (K : Dev nD × Fin 21 → ℕ) (c : Dev nD) {Q : PUnit → sProp 𝕄} :
    bodyPre m K c ⊢ iprop((bodyPost m c -∗ Q ⟨⟩) -∗ Run c (cc0_body xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16) Q) := by
  rw [cc0_body_eq_skeleton]
  unfold cc0_body_skel bodyPre Scr Wts WRest Duties Stands Credits
  iintro ⟨#Hlev, #Hrec, HO, XIN, RIN, O, ⟨S0, S1, X2, P3, S4, S5, S6, S7, S8⟩, ⟨H2, H3⟩, ⟨V0, V1, V2, V3⟩, ⟨Tx, Ty, T5, T6, T11, T12, T13, T14, T19, T20, T21, T22⟩, ⟨AB, A3_, A4_, A5_, A6_, A7_, A8_, A9_, A10_, A11_, A12_, A13_, A14_, A15_, A16_, A17_, A18_, A19_, A20_, A21_, A22_⟩, ⟨CB, C3, C4, C7, C8, C9, C10, C15, C16, C17, C18⟩⟩ Hk
  ihave HA := (divide1 m c) $$ [S7 H2 V0 V1]
  · isplitl [S7]; · iexact S7
    isplitl [H2]; · iexact H2
    isplitl [V0]; · iexact V0
    iexact V1
  icases HA with ⟨A0, A1⟩
  ihave HB := (divide2 m c) $$ [S8 H3 V2 V3]
  · isplitl [S8]; · iexact S8
    isplitl [H3]; · iexact H3
    isplitl [V2]; · iexact V2
    iexact V3
  icases HB with ⟨B0, B1⟩
  ihave C1 := (acc_start1 m c) $$ S5
  ihave C2 := (acc_start2 m c) $$ S6
  ihave XB := (Entails.of_eq (show (iprop(∃ f, own c cc0_scratch2 Finset.univ f) : sProp 𝕄) = XB0 c from rfl)) $$ X2
  iapply (run_1 m c ) $$ [A0 A1 B0 HO]
  · isplitl [A0]; · iexact A0
    isplitl [A1]; · iexact A1
    isplitl [B0]; · iexact B0
    iexact HO
  iintro %v2 %v5 %v6 %v7 ⟨A0, A1, B0, HO⟩
  iapply (run_2 m K c v2 v5 v6 v7) $$ [B1 HO XIN RIN S0 S1 S4 O XB Tx Ty CB AB T5 T6 A5_ A3_ C3]
  · isplitr; · iexact Hlev
    isplitr; · iexact Hrec
    isplitl [B1]; · iexact B1
    isplitl [HO]; · iexact HO
    isplitl [XIN]; · iexact XIN
    isplitl [RIN]; · iexact RIN
    isplitl [S0]; · iexact S0
    isplitl [S1]; · iexact S1
    isplitl [S4]; · iexact S4
    isplitl [O]; · iexact O
    isplitl [XB]; · iexact XB
    isplitl [Tx]; · iexact Tx
    isplitl [Ty]; · iexact Ty
    isplitl [CB]; · iexact CB
    isplitl [AB]; · iexact AB
    isplitl [T5]; · iexact T5
    isplitl [T6]; · iexact T6
    isplitl [A5_]; · iexact A5_
    isplitl [A3_]; · iexact A3_
    iexact C3
  iintro ⟨B1, HO, XIN, RIN, RR, XL, XB, C6, D5, D3, DB, P4, BY, M0, M1, M2, M3⟩
  iapply (run_3 m c ) $$ [A0 A1 B0 B1 C1 C2 HO]
  · isplitr; · iexact Hlev
    isplitl [A0]; · iexact A0
    isplitl [A1]; · iexact A1
    isplitl [B0]; · iexact B0
    isplitl [B1]; · iexact B1
    isplitl [C1]; · iexact C1
    isplitl [C2]; · iexact C2
    iexact HO
  iintro ⟨A0, A1, B0, B1, C1, C2, HO⟩
  iapply (run_4 m c ) $$ [A0 A1 B0 B1 C1 C2 HO XB]
  · isplitr; · iexact Hlev
    isplitl [A0]; · iexact A0
    isplitl [A1]; · iexact A1
    isplitl [B0]; · iexact B0
    isplitl [B1]; · iexact B1
    isplitl [C1]; · iexact C1
    isplitl [C2]; · iexact C2
    isplitl [HO]; · iexact HO
    iexact XB
  iintro ⟨A0, A1, B0, B1, C1, C2, HO, XB⟩
  iapply (run_5 m c ) $$ [A0 A1 B0 B1 C1 C2 HO]
  · isplitr; · iexact Hlev
    isplitl [A0]; · iexact A0
    isplitl [A1]; · iexact A1
    isplitl [B0]; · iexact B0
    isplitl [B1]; · iexact B1
    isplitl [C1]; · iexact C1
    isplitl [C2]; · iexact C2
    iexact HO
  iintro ⟨A0, A1, B0, B1, C1, C2, HO⟩
  iapply (run_6 m K c v5 v6) $$ [A0 A1 B0 B1 C1 C2 HO RIN RR XL XB C6 A6_ C4 A4_]
  · isplitr; · iexact Hlev
    isplitr; · iexact Hrec
    isplitl [A0]; · iexact A0
    isplitl [A1]; · iexact A1
    isplitl [B0]; · iexact B0
    isplitl [B1]; · iexact B1
    isplitl [C1]; · iexact C1
    isplitl [C2]; · iexact C2
    isplitl [HO]; · iexact HO
    isplitl [RIN]; · iexact RIN
    isplitl [RR]; · iexact RR
    isplitl [XL]; · iexact XL
    isplitl [XB]; · iexact XB
    isplitl [C6]; · iexact C6
    isplitl [A6_]; · iexact A6_
    isplitl [C4]; · iexact C4
    iexact A4_
  iintro ⟨A0, A1, B0, B1, C1, C2, HO, RIN, RR, XC, XB, D6, D4⟩
  iapply (run_7 m c ) $$ [A0 A1 B0 B1 C1 C2 HO XB]
  · isplitr; · iexact Hlev
    isplitl [A0]; · iexact A0
    isplitl [A1]; · iexact A1
    isplitl [B0]; · iexact B0
    isplitl [B1]; · iexact B1
    isplitl [C1]; · iexact C1
    isplitl [C2]; · iexact C2
    isplitl [HO]; · iexact HO
    iexact XB
  iintro ⟨A0, A1, B0, B1, C1, C2, HO, XB⟩
  iapply (run_8 m c ) $$ [A0 A1 B0 B1 C1 C2 HO]
  · isplitr; · iexact Hlev
    isplitl [A0]; · iexact A0
    isplitl [A1]; · iexact A1
    isplitl [B0]; · iexact B0
    isplitl [B1]; · iexact B1
    isplitl [C1]; · iexact C1
    isplitl [C2]; · iexact C2
    iexact HO
  iintro ⟨A0, A1, B0, B1, C1, C2, HO⟩
  iapply (run_9 m c ) $$ [A0 A1 B0 B1 C1 C2 HO]
  · isplitr; · iexact Hlev
    isplitl [A0]; · iexact A0
    isplitl [A1]; · iexact A1
    isplitl [B0]; · iexact B0
    isplitl [B1]; · iexact B1
    isplitl [C1]; · iexact C1
    isplitl [C2]; · iexact C2
    iexact HO
  iintro ⟨A0, A1, B0, B1, C1, C2, HO⟩
  iapply (run_10 m c ) $$ [A0 A1 B0 B1 C1 C2 HO XB]
  · isplitr; · iexact Hlev
    isplitl [A0]; · iexact A0
    isplitl [A1]; · iexact A1
    isplitl [B0]; · iexact B0
    isplitl [B1]; · iexact B1
    isplitl [C1]; · iexact C1
    isplitl [C2]; · iexact C2
    isplitl [HO]; · iexact HO
    iexact XB
  iintro ⟨A0, A1, B0, B1, C1, C2, HO, XB⟩
  iapply (run_11 m c ) $$ [A0 A1 B0 B1 C1 C2 HO]
  · isplitr; · iexact Hlev
    isplitl [A0]; · iexact A0
    isplitl [A1]; · iexact A1
    isplitl [B0]; · iexact B0
    isplitl [B1]; · iexact B1
    isplitl [C1]; · iexact C1
    isplitl [C2]; · iexact C2
    iexact HO
  iintro ⟨A0, A1, B0, B1, C1, C2, HO⟩
  iapply (run_12 m K c v5 v6) $$ [A0 A1 B0 B1 C1 C2 HO XB P3 P4 T11]
  · isplitr; · iexact Hlev
    isplitr; · iexact Hrec
    isplitl [A0]; · iexact A0
    isplitl [A1]; · iexact A1
    isplitl [B0]; · iexact B0
    isplitl [B1]; · iexact B1
    isplitl [C1]; · iexact C1
    isplitl [C2]; · iexact C2
    isplitl [HO]; · iexact HO
    isplitl [XB]; · iexact XB
    isplitl [P3]; · iexact P3
    isplitl [P4]; · iexact P4
    iexact T11
  iintro ⟨A0, A1, B0, B1, C1, C2, HO, XB, C11, PS1, PS2, PS3, Q1, Q2, Q3⟩
  iapply (run_13 m K c v5 v6) $$ [HO PS1 PS2 PS3 Q1 Q2 Q3 T12 T13 T14]
  · isplitr; · iexact Hrec
    isplitl [HO]; · iexact HO
    isplitl [PS1]; · iexact PS1
    isplitl [PS2]; · iexact PS2
    isplitl [PS3]; · iexact PS3
    isplitl [Q1]; · iexact Q1
    isplitl [Q2]; · iexact Q2
    isplitl [Q3]; · iexact Q3
    isplitl [T12]; · iexact T12
    isplitl [T13]; · iexact T13
    iexact T14
  iintro ⟨HO, C12, C13, C14⟩
  iapply (run_14 m K c v2 v5 v6 v7) $$ [C1 C2 HO XB C7 A7_ M0]
  · isplitr; · iexact Hlev
    isplitr; · iexact Hrec
    isplitl [C1]; · iexact C1
    isplitl [C2]; · iexact C2
    isplitl [HO]; · iexact HO
    isplitl [XB]; · iexact XB
    isplitl [C7]; · iexact C7
    isplitl [A7_]; · iexact A7_
    iexact M0
  iintro ⟨C1, C2, HO, XB, D7, PR0, M0⟩
  iapply (run_15 m K c v2 v5 v6 v7) $$ [HO M0 M1 M2 M3 BY T19 T20 T21 T22 C8 A8_ C9 A9_ C10 A10_ C11 A11_ A19_]
  · isplitr; · iexact Hlev
    isplitr; · iexact Hrec
    isplitl [HO]; · iexact HO
    isplitl [M0]; · iexact M0
    isplitl [M1]; · iexact M1
    isplitl [M2]; · iexact M2
    isplitl [M3]; · iexact M3
    isplitl [BY]; · iexact BY
    isplitl [T19]; · iexact T19
    isplitl [T20]; · iexact T20
    isplitl [T21]; · iexact T21
    isplitl [T22]; · iexact T22
    isplitl [C8]; · iexact C8
    isplitl [A8_]; · iexact A8_
    isplitl [C9]; · iexact C9
    isplitl [A9_]; · iexact A9_
    isplitl [C10]; · iexact C10
    isplitl [A10_]; · iexact A10_
    isplitl [C11]; · iexact C11
    isplitl [A11_]; · iexact A11_
    iexact A19_
  iintro ⟨HO, PR1, PR2, PR3, D8, D9, D10, D11, D19, S11, S19, C20, C21, C22⟩
  iapply (run_16 m K c v2 v5 v6 v7) $$ [HO C15 A15_ C12 A12_ C20 A20_ C16 A16_ C13 A13_ C21 A21_ C17 A17_ C14 A14_ C22 A22_]
  · isplitr; · iexact Hlev
    isplitr; · iexact Hrec
    isplitl [HO]; · iexact HO
    isplitl [C15]; · iexact C15
    isplitl [A15_]; · iexact A15_
    isplitl [C12]; · iexact C12
    isplitl [A12_]; · iexact A12_
    isplitl [C20]; · iexact C20
    isplitl [A20_]; · iexact A20_
    isplitl [C16]; · iexact C16
    isplitl [A16_]; · iexact A16_
    isplitl [C13]; · iexact C13
    isplitl [A13_]; · iexact A13_
    isplitl [C21]; · iexact C21
    isplitl [A21_]; · iexact A21_
    isplitl [C17]; · iexact C17
    isplitl [A17_]; · iexact A17_
    isplitl [C14]; · iexact C14
    isplitl [A14_]; · iexact A14_
    isplitl [C22]; · iexact C22
    iexact A22_
  iintro ⟨HO, S15, D15, S12, D12, S20, D20, S16, D16, S13, D13, S21, D21, S17, D17, S14, D14, S22, D22⟩
  simp only [Prog.lift, Prog.bind_op, Prog.bind_ret, Prog.pure_eq_ret]
  iapply (wait_dma m K c 18 (of_decide_eq_true rfl) (of_decide_eq_true rfl) ([]) ((fun p hp => absurd hp (List.not_mem_nil))) (dstw := oC c 3) rfl) $$ [C18 HO A18_]
  · isplitr; · iexact Hrec
    isplitr; · iexact Hlev
    isplitl [C18]; · iexact C18
    isplitl [HO]; · iexact HO
    iexact A18_
  iintro ⟨S18, HO, D18⟩
  iapply (run_ret c)
  iapply Hk
  unfold bodyPost Scr Wts WRest Closed
  ihave A0 := (Have_Free1 m c 3 2 0) $$ A0
  ihave A1 := (Have_Free1 m c 3 3 1) $$ A1
  ihave B0 := (Have_Free2 m c 3 2 0) $$ B0
  ihave B1 := (Have_Free2 m c 3 3 1) $$ B1
  ihave HA := (unite1 m c) $$ [A0 A1]
  · isplitl [A0]; · iexact A0
    iexact A1
  icases HA with ⟨S7, H2, V0, V1⟩
  ihave HB := (unite2 m c) $$ [B0 B1]
  · isplitl [B0]; · iexact B0
    iexact B1
  icases HB with ⟨S8, H3, V2, V3⟩
  ihave S5 := (acc_end1 m c 16) $$ C1
  ihave S6 := (acc_end2 m c 16) $$ C2
  ihave X2 := (xb_end m c) $$ XB
  ihave P3 := (ps_end m c) $$ [S11 S12 S13 S14]
  · isplitl [S11]; · iexact S11
    isplitl [S12]; · iexact S12
    isplitl [S13]; · iexact S13
    iexact S14
  ihave S4 := (pr_end m c) $$ [PR0 PR1 PR2 PR3]
  · isplitl [PR0]; · iexact PR0
    isplitl [PR1]; · iexact PR1
    isplitl [PR2]; · iexact PR2
    iexact PR3
  ihave O := (out_end m c) $$ [S15 S16 S17 S18 S19 S20 S21 S22]
  · isplitl [S19 S20 S21 S22]
    · isplitl [S19]; · iexact S19
      isplitl [S20]; · iexact S20
      isplitl [S21]; · iexact S21
      iexact S22
    · isplitl [S15]; · iexact S15
      isplitl [S16]; · iexact S16
      isplitl [S17]; · iexact S17
      iexact S18
  isplitl [HO]; · iexact HO
  isplitl [XIN]; · iexact XIN
  isplitl [RIN]; · iexact RIN
  isplitl [O]; · iexact O
  isplitl [RR XC X2 P3 S4 S5 S6 S7 S8]
  · isplitl [RR]; · iexists _; iexact RR
    isplitl [XC]; · iexists _; iexact XC
    isplitl [X2]; · iexact X2
    isplitl [P3]; · iexact P3
    isplitl [S4]; · iexact S4
    isplitl [S5]; · iexact S5
    isplitl [S6]; · iexact S6
    isplitl [S7]; · iexact S7
    iexact S8
  isplitl [H2 H3]
  · isplitl [H2]; · iexact H2
    iexact H3
  isplitl [V0 V1 V2 V3]
  · isplitl [V0]; · iexact V0
    isplitl [V1]; · iexact V1
    isplitl [V2]; · iexact V2
    iexact V3
  isplitl [DB]; · iexact DB
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  isplitl [D21]; · iexact D21
  iexact D22

end Cert.KernelIdealProof

end
-- ==== Proof.ILaunch.lean ====
/-
# The launch: what each device starts from, and the run of the program
-/
module

public import proofs.«01_k».proof.Proof.IBody
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's data -/

/-- What the launch leaves a device with besides its buffers. -/
def start (c : Dev nD) : sProp 𝕄 :=
  iprop(levAts L lv ∗ (∃ K, records m K) ∗ Wts m c ∗ WRest c ∗ Duties c ∗ Stands c ∗ Credits c)
def Φ₀ (c : Dev nD) : sProp 𝕄 := iprop(start m c ∗ Scr c)
def Φ₁ (c : Dev nD) : sProp 𝕄 := iprop(Scr c ∗ Wts m c ∗ WRest c ∗ Closed c)

/-- The only point's data: the two operands stay, the result is `OUT`. -/
def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => rstg m c
    | ⟨2, _⟩ => OUT m c
  Φ t := match t with
    | ⟨0, _⟩ => Φ₀ m c
    | ⟨_ + 1, _⟩ => Φ₁ m c
  q _ := fullShare
  owed t := match t with
    | ⟨0, _⟩ => tl (oweAll c)
    | ⟨_ + 1, _⟩ => 0

theorem owns_whole_own (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole, at contents equal to the given ones. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pointPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def pointPost (c : Dev nD) : sProp 𝕄 :=
  iprop(Φ₁ m c ∗ (dats m ρ 0 c).owesAt () t0_0.succ ∗ stg c cc0_stg0_0 (xstg m c) ∗ stg c cc0_stg1_0 (rstg m c) ∗ stg c cc0_stg2_0 (OUT m c))

theorem point_run (c : Dev nD) :
    pointPre m ρ c ⊢ Run c (cc0_body xM (Memref.isWhole_whole _) rM (Memref.isWhole_whole _) h1M (Memref.isWhole_whole _) h2M (Memref.isWhole_whole _) oM (Memref.isWhole_whole _) rrM (Memref.isWhole_whole _) xcM (Memref.isWhole_whole _) xbM (Memref.isWhole_whole _) psM (Memref.isWhole_whole _) prM (Memref.isWhole_whole _) w1M (Memref.isWhole_whole _) w2M (Memref.isWhole_whole _) g1M (Memref.isWhole_whole _) g2M (Memref.isWhole_whole _) cc0_scratch9 cc0_scratch10 cc0_scratch11 cc0_scratch12 cc0_scratch13 cc0_scratch14 cc0_scratch15 cc0_scratch16) (fun _ => pointPost m ρ c) := by
  unfold pointPre Φ₀ start
  iintro ⟨⟨⟨#Hlev, ⟨%K, #Hrec⟩, Hw, Hr, Hd, Hs, Hc⟩, Hscr⟩, Ho, ⟨%d0, %g0, %hg0, H0⟩, ⟨%d1, %g1, %hg1, H1⟩, ⟨%d2, %g2, %hg2, H2⟩⟩
  have e0 : g0 = xstg m c := by rw [hg0]; unfold Dat.before; rw [if_pos (fetch0_0 t0_0)]; rfl
  have e1 : g1 = rstg m c := by rw [hg1]; unfold Dat.before; rw [if_pos (fetch0_1 t0_0)]; rfl
  subst e0; subst e1
  unfold Dat.owesAt Pipeline.owesWithin
  icases Ho with ⟨%W, %hW, HO⟩
  rw [show (dats m ρ 0 c).owed t0_0.castSucc = tl (oweAll c) from rfl]
  iapply (body_run m K c) $$ [HO H0 H1 H2 Hscr Hw Hr Hd Hs Hc]
  · unfold bodyPre OW
    isplitr; · iexact Hlev
    isplitr; · iexact Hrec
    isplitl [HO]; · iexists W; iexact HO
    isplitl [H0]; · iexact H0
    isplitl [H1]; · iexact H1
    isplitl [H2]; · iexists g2; iexact H2
    isplitl [Hscr]; · iexact Hscr
    isplitl [Hw]; · iexact Hw
    isplitl [Hr]; · iexact Hr
    isplitl [Hd]; · iexact Hd
    isplitl [Hs]; · iexact Hs
    iexact Hc
  unfold bodyPost OW pointPost Φ₁ Dat.owesAt Pipeline.owesWithin
  rw [show (dats m ρ 0 c).owed t0_0.succ = 0 from rfl]
  iintro ⟨⟨%W', HO⟩, H0, H1, H2, Hscr, Hw, Hr, Hc⟩
  isplitl [Hscr Hw Hr Hc]
  · isplitl [Hscr]; · iexact Hscr
    isplitl [Hw]; · iexact Hw
    isplitl [Hr]; · iexact Hr
    iexact Hc
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 20000 in
/-- The body does at its point what the pipeline asks. -/
theorem body_obligation (c : Dev nD) : BodyObligation (dats (F := F) m ρ 0 c) (defs₀ (F := F)) 𝒱₀ () Set.univ := fun t => by
  rw [fin_N0 t]
  rw [bigSep_W0, bigSep_W0]
  simp only [owns_whole_own]
  exact point_run m ρ c

/-! ## The launch -/

/-- The semaphores of the kernel's own: the exchange's and the weights'. -/
def osem : Fin 24 → SemLoc sig := fun k => .dma ⟨k.val + 3, by have := k.isLt; show _ < 27; omega⟩

set_option maxRecDepth 4000 in
theorem ownSemFacts : Pipeline.OwnSemFacts cfg0.spec osem := by decide
theorem share_eq (c : Dev nD) (w : Fin cfg0.W) : (dats m ρ 0 c).share w = fullShare := by unfold Dat.share; split <;> rfl

theorem slot_injective : Function.Injective slot := by decide
theorem kcell_injective : Function.Injective (kcell : Dev nD × Fin 21 → GSem nD τ sig) := by
  rintro ⟨c, k⟩ ⟨c', k'⟩ h
  have h1 : c = c' := by have := congrArg (fun g : GSem nD τ sig => g.1.1) h; exact this
  have h2 : k = k' := slot_injective (congrArg Prod.snd h)
  subst h1; subst h2; rfl
def exCells : Finset (GSem nD τ sig) := Finset.univ.map ⟨kcell, kcell_injective⟩

/-- The duties of one device's cells: one on each, and a second on the barrier's. -/
def duty (ck : Dev nD × Fin 22) : GSem nD τ sig × ℕ × Bool :=
  if h : ck.2.val < 21 then (kcell (ck.1, ⟨ck.2.val, h⟩), 0, true) else (barCell ck.1, 0, false)
theorem duty_injective : Function.Injective duty := by
  rintro ⟨c, k⟩ ⟨c', k'⟩ h
  unfold duty at h
  by_cases hk : k.val < 21 <;> by_cases hk' : k'.val < 21
  · rw [dif_pos hk, dif_pos hk'] at h
    have e := kcell_injective (congrArg Prod.fst h)
    exact Prod.ext (show c = c' from congrArg Prod.fst e) (Fin.ext (congrArg (fun z : Dev nD × Fin 21 => z.2.val) e))
  · rw [dif_pos hk, dif_neg hk'] at h
    exact absurd (congrArg (fun z : GSem nD τ sig × ℕ × Bool => z.2.2) h) (fun h' => by cases h')
  · rw [dif_neg hk, dif_pos hk'] at h
    exact absurd (congrArg (fun z : GSem nD τ sig × ℕ × Bool => z.2.2) h) (fun h' => by cases h')
  · rw [dif_neg hk, dif_neg hk'] at h
    have h1 : c = c' := by have := congrArg (fun z : GSem nD τ sig × ℕ × Bool => z.1.1.1) h; exact this
    exact Prod.ext h1 (Fin.ext (show k.val = k'.val by have := k.isLt; have := k'.isLt; omega))
def exToks : Finset (GSem nD τ sig × ℕ × Bool) := Finset.univ.map ⟨duty, duty_injective⟩

def u₀ : UU := (initOf (Pipeline.cells cfgs cellOf_inj) (Pipeline.launchToks cfgs cellOf_inj), (initOf exCells exToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 := iprop(dutyTok ER (barCell c) 0 true ∗ dutyTok ER (dCell c 3) 0 true ∗ dutyTok ER (dCell c 4) 0 true ∗ dutyTok ER (dCell c 5) 0 true ∗ dutyTok ER (dCell c 6) 0 true ∗ dutyTok ER (dCell c 7) 0 true ∗ dutyTok ER (dCell c 8) 0 true ∗ dutyTok ER (dCell c 9) 0 true ∗ dutyTok ER (dCell c 10) 0 true ∗ dutyTok ER (dCell c 11) 0 true ∗ dutyTok ER (dCell c 12) 0 true ∗ dutyTok ER (dCell c 13) 0 true ∗ dutyTok ER (dCell c 14) 0 true ∗ dutyTok ER (dCell c 15) 0 true ∗ dutyTok ER (dCell c 16) 0 true ∗ dutyTok ER (dCell c 17) 0 true ∗ dutyTok ER (dCell c 18) 0 true ∗ dutyTok ER (dCell c 19) 0 true ∗ dutyTok ER (dCell c 20) 0 true ∗ dutyTok ER (dCell c 21) 0 true ∗ dutyTok ER (dCell c 22) 0 true ∗ dutyTok ER (barCell c) 0 false)

/-- What the launch element deals device `c`. -/
def G (c : Dev nD) : sProp 𝕄 :=
  iprop((bigSep Finset.univ fun k : Fin 21 => roundState ER (sched m) (kcell (c, k)) 0)
    ∗ (bigSep Finset.univ fun k : Fin 21 => iprop(atPos ER (kcell (c, k)) 0 ∅ 0 ∗ reached ER (kcell (c, k)) 0)) ∗ toks c)
/-- What the step over all devices makes of it. -/
def G' (c : Dev nD) : sProp 𝕄 := iprop((∃ K, records m K) ∗ Stands c ∗ Duties c ∗ WRest c)

theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
theorem bigSep_fin22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 21 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin22]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem closed_eq (c : Dev nD) : (bigSep Finset.univ fun k : Fin 21 => (semVal (kcell (c, k)) 0 : sProp 𝕄)) = Closed c := by
  unfold Closed; rw [bigSep_fin21]; rfl
theorem stands_eq (c : Dev nD) : (bigSep Finset.univ fun k : Fin 21 => (atPos ER (kcell (c, k)) 0 ∅ 0 : sProp 𝕄)) = Stands c := by
  unfold Stands; rw [bigSep_fin21]; rfl

/-- The kernel's own semaphores, one by one. -/
theorem ownSems0_list (c : Dev nD) : (Pipeline.ownSems0 (Ix := Unit) (Name := ℕ) (U := UU) (Lvl := ℕ) (Val := Elt F) (τ := τ) osem c : sProp 𝕄)
    = iprop(Dn c 3 ∗ Dn c 4 ∗ Dn c 5 ∗ Dn c 6 ∗ Dn c 7 ∗ Dn c 8 ∗ Dn c 9 ∗ Dn c 10 ∗ Dn c 11 ∗ Dn c 12 ∗ Dn c 13 ∗ Dn c 14 ∗ Dn c 15 ∗ Dn c 16 ∗ Dn c 17 ∗ Dn c 18 ∗ Dn c 19 ∗ Dn c 20 ∗ Dn c 21 ∗ Dn c 22 ∗ semVal (wcell1 c 0) 0 ∗ semVal (wcell1 c 1) 0 ∗ semVal (wcell2 c 0) 0 ∗ semVal (wcell2 c 1) 0) := by
  rw [Pipeline.ownSems0_eq_of_list c osem [0, 1, 2, 3, 4, 5, 6, 7, 8, 9, 10, 11, 12, 13, 14, 15, 16, 17, 18, 19, 20, 21, 22, 23] (by decide) (by decide)]; rfl
/-- The barrier semaphore is the only unscoped one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 21 => semVal (kcell (c, k)) 0) ∗ WRest c) : sProp 𝕄) := by
  rw [ownSems0_list, unscopedSems0_eq, closed_eq]
  unfold Closed WRest
  iintro ⟨⟨D3, D4, D5, D6, D7, D8, D9, D10, D11, D12, D13, D14, D15, D16, D17, D18, D19, D20, D21, D22, V0, V1, V2, V3⟩, HB⟩
  isplitl [HB D3 D4 D5 D6 D7 D8 D9 D10 D11 D12 D13 D14 D15 D16 D17 D18 D19 D20 D21 D22]
  · isplitl [HB]; · iexact HB
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    isplitl [D20]; · iexact D20
    isplitl [D21]; · iexact D21
    iexact D22
  isplitl [V0]; · iexact V0
  isplitl [V1]; · iexact V1
  isplitl [V2]; · iexact V2
  iexact V3

theorem sems0_out (c : Dev nD) :
    iprop(Closed c ∗ WRest c) ⊢ (iprop(unscopedSems0 c ∗ Pipeline.ownSems0 (Ix := Unit) (Name := ℕ) (U := UU) (Lvl := ℕ) (Val := Elt F) (τ := τ) osem c) : sProp 𝕄) := by
  rw [ownSems0_list, unscopedSems0_eq]
  unfold Closed WRest
  iintro ⟨⟨HB, D3, D4, D5, D6, D7, D8, D9, D10, D11, D12, D13, D14, D15, D16, D17, D18, D19, D20, D21, D22⟩, ⟨V0, V1, V2, V3⟩⟩
  isplitl [HB]; · iexact HB
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  isplitl [D21]; · iexact D21
  isplitl [D22]; · iexact D22
  isplitl [V0]; · iexact V0
  isplitl [V1]; · iexact V1
  isplitl [V2]; · iexact V2
  iexact V3

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ WRest c) := by
  unfold G
  iintro ⟨Hos, Hus, Hst, Hat, Htok⟩
  ihave Hv := (sems0_in (F := F) c) $$ [Hos Hus]
  · isplitl [Hos] <;> iassumption
  icases Hv with ⟨Hv, Hw⟩
  imod (show iprop((bigSep Finset.univ fun k : Fin 21 => semVal (kcell (c, k)) 0) ∗ bigSep Finset.univ fun k : Fin 21 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

/-- A token of every device, dealt to the neighbour instead. -/
theorem across (e : Dev nD ≃ Dev nD) (Φ : Dev nD → sProp 𝕄) : bigSep Finset.univ Φ ⊢ bigSep Finset.univ fun c => Φ (e c) :=
  Entails.of_eq (bigSep_univ_equiv e Φ)

/-- The duties dealt to the devices that pay them. -/
theorem toks_around : (bigSep Finset.univ fun c : Dev nD => (toks c : sProp 𝕄)) ⊢ bigSep Finset.univ fun c : Dev nD => Duties c := by
  unfold toks Duties Tk
  simp only [bigSep_sep']
  iintro ⟨Tx, T3, T4, T5, T6, T7, T8, T9, T10, T11, T12, T13, T14, T15, T16, T17, T18, T19, T20, T21, T22, Ty⟩
  ihave Tx := (across xSwap fun c => dutyTok ER (barCell c) 0 true) $$ Tx
  ihave Ty := (across ySwap fun c => dutyTok ER (barCell c) 0 false) $$ Ty
  ihave T3 := (across xSwap fun c => dutyTok ER (dCell c 3 (Nat.le_of_ble_eq_true rfl)) 0 true) $$ T3
  ihave T4 := (across xSwap fun c => dutyTok ER (dCell c 4 (Nat.le_of_ble_eq_true rfl)) 0 true) $$ T4
  ihave T7 := (across xSwap fun c => dutyTok ER (dCell c 7 (Nat.le_of_ble_eq_true rfl)) 0 true) $$ T7
  ihave T8 := (across xSwap fun c => dutyTok ER (dCell c 8 (Nat.le_of_ble_eq_true rfl)) 0 true) $$ T8
  ihave T9 := (across xSwap fun c => dutyTok ER (dCell c 9 (Nat.le_of_ble_eq_true rfl)) 0 true) $$ T9
  ihave T10 := (across xSwap fun c => dutyTok ER (dCell c 10 (Nat.le_of_ble_eq_true rfl)) 0 true) $$ T10
  ihave T15 := (across ySwap fun c => dutyTok ER (dCell c 15 (Nat.le_of_ble_eq_true rfl)) 0 true) $$ T15
  ihave T16 := (across ySwap fun c => dutyTok ER (dCell c 16 (Nat.le_of_ble_eq_true rfl)) 0 true) $$ T16
  ihave T17 := (across ySwap fun c => dutyTok ER (dCell c 17 (Nat.le_of_ble_eq_true rfl)) 0 true) $$ T17
  ihave T18 := (across ySwap fun c => dutyTok ER (dCell c 18 (Nat.le_of_ble_eq_true rfl)) 0 true) $$ T18
  isplitl [Tx]; · iexact Tx
  isplitl [Ty]; · iexact Ty
  isplitl [T5 T3]
  · isplitl [T5]; · iexact T5
    iexact T3
  isplitl [T6 T4]
  · isplitl [T6]; · iexact T6
    iexact T4
  isplitl [T11 T7]
  · isplitl [T11]; · iexact T11
    iexact T7
  isplitl [T12 T8]
  · isplitl [T12]; · iexact T12
    iexact T8
  isplitl [T13 T9]
  · isplitl [T13]; · iexact T13
    iexact T9
  isplitl [T14 T10]
  · isplitl [T14]; · iexact T14
    iexact T10
  isplitl [T19 T15]
  · isplitl [T19]; · iexact T19
    iexact T15
  isplitl [T20 T16]
  · isplitl [T20]; · iexact T20
    iexact T16
  isplitl [T21 T17]
  · isplitl [T21]; · iexact T21
    iexact T17
  isplitl [T22]; · iexact T22
  iexact T18

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 21 → ℕ) (c : Dev nD) : iprop(records m K ∗ Stands c ∗ Duties c ∗ WRest c) ⊢ G' m c := by
  unfold G'
  iintro ⟨#H, Hs⟩
  isplitr; · iexists K; iexact H
  iexact Hs

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ WRest c) : sProp 𝕄)
      ⊢ bigSep Finset.univ (G' m) := by
  rw [bigSep_sep', bigSep_sep', bigSep_sep', ← bigSep_univ_prod (fun ck : Dev nD × Fin 21 => iprop(∃ κ : ℕ, cellInv ER (sched m) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄)),
    bigSep_congr (s := Finset.univ) (fun (c : Dev nD) _ => stands_eq (F := F) c)]
  iintro ⟨HI, ⟨Hat, #HR⟩, Htok, Hw⟩
  ihave HK := (BI.bigSep_exists_pi Finset.univ (fun (ck : Dev nD × Fin 21) (κ : ℕ) => (cellInv ER (sched m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · simp only [bigSep_sep']
    isplitl [Hat]; · iexact Hat
    isplitl [Htk]; · iexact Htk
    iexact Hw

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem cell_eq_iff {a b : Dev nD} {s s' : SemLoc sig} : Iff ((((a : Thread nD τ), s) : GSem nD τ sig) = ((b : Thread nD τ), s')) (a = b ∧ s = s') :=
  ⟨fun h => ⟨Fin.ext (congrArg (fun g : GSem nD τ sig => g.1.1.val) h), congrArg Prod.snd h⟩, fun h => by rw [h.1, h.2]⟩

/-- What a list of units owed to `n`'s cells puts on device `c`'s cell `s`. -/
def wt (l : List (SemLoc sig × ℕ)) (s : SemLoc sig) : ℕ := match l with
  | [] => 0
  | p :: ps => wt ps s + (if s = p.1 then p.2 else 0)

theorem wt_hit (s : SemLoc sig) (n : ℕ) (l : List (SemLoc sig × ℕ)) (h : wt l s = 0) : wt ((s, n) :: l) s = n := by
  show wt l s + (if s = s then n else 0) = n
  rw [h, if_pos rfl, Nat.zero_add]
theorem wt_miss (s s' : SemLoc sig) (n : ℕ) (l : List (SemLoc sig × ℕ)) (h : s ≠ s') : wt ((s', n) :: l) s = wt l s := by
  show wt l s + (if s = s' then n else 0) = wt l s
  rw [if_neg h, Nat.add_zero]

theorem tl_append (l l' : List (GSem nD τ sig × ℕ)) (g : GSem nD τ sig) : tl (l ++ l') g () = tl l g () + tl l' g () := by
  induction l with
  | nil => show tl l' g () = 0 + tl l' g (); rw [Nat.zero_add]
  | cons p ps ih =>
    show (tl (ps ++ l') + tallyAt p.1 () p.2) g () = (tl ps + tallyAt p.1 () p.2) g () + tl l' g ()
    rw [Pi.add_apply, Finsupp.add_apply, Pi.add_apply, Finsupp.add_apply, ih]; omega

/-- What device `d` owes cell `s` of device `c` by a list of units owed to its neighbour `n`'s cells. -/
theorem tl_wt (n c : Dev nD) (s : SemLoc sig) (l : List (SemLoc sig × ℕ)) :
    tl (l.map fun p => (((n : Thread nD τ), p.1), p.2)) ((c : Thread nD τ), s) () = if c = n then wt l s else 0 := by
  induction l with
  | nil => show 0 = _; split <;> rfl
  | cons p ps ih =>
    show (tl (ps.map fun p => (((n : Thread nD τ), p.1), p.2)) + tallyAt (((n : Thread nD τ), p.1)) () p.2) ((c : Thread nD τ), s) () = _
    rw [Pi.add_apply, Finsupp.add_apply, ih, tallyAt_apply]
    by_cases h : c = n
    · subst h
      rw [if_pos rfl, if_pos rfl]
      show _ = wt ps s + (if s = p.1 then p.2 else 0)
      by_cases hs : s = p.1
      · subst hs; rw [if_pos ⟨rfl, rfl⟩, if_pos rfl]
      · rw [if_neg fun h' => hs (congrArg Prod.snd h'.1), if_neg hs]
    · rw [if_neg h, if_neg h, if_neg fun h' => h (cell_eq_iff.mp h'.1).1]

/-- The units owed to the neighbour along the first axis, and along the second. -/
def listX : List (SemLoc sig × ℕ) := [(.reg barS, 1), (.dma (dq 3), Nr), (.dma (dq 4), Nx), (.dma (dq 7), Nc), (.dma (dq 8), Nc), (.dma (dq 9), Nc), (.dma (dq 10), Nc)]
def listY : List (SemLoc sig × ℕ) := [(.reg barS, 1), (.dma (dq 15), Nc), (.dma (dq 16), Nc), (.dma (dq 17), Nc), (.dma (dq 18), Nc)]

theorem tl_cons (p : GSem nD τ sig × ℕ) (ps : List (GSem nD τ sig × ℕ)) (g : GSem nD τ sig) :
    tl (p :: ps) g () = tl ps g () + (if g = p.1 then p.2 else 0) := by
  show (tl ps + tallyAt p.1 () p.2) g () = _
  rw [Pi.add_apply, Finsupp.add_apply, tallyAt_apply]
  by_cases h : g = p.1
  · rw [if_pos ⟨h, rfl⟩, if_pos h]
  · rw [if_neg fun h' => h h'.1, if_neg h]

theorem owed_at (d c : Dev nD) (s : SemLoc sig) :
    tl (oweAll d) ((c : Thread nD τ), s) () = (if d = xn c then wt listX s else 0) + (if d = yn c then wt listY s else 0) := by
  have e : tl (oweAll d) ((c : Thread nD τ), s) ()
      = tl ((listX.map fun p => (((xn d : Thread nD τ), p.1), p.2)) ++ (listY.map fun p => (((yn d : Thread nD τ), p.1), p.2))) ((c : Thread nD τ), s) () := by
    unfold oweAll oweSum oweOut listX listY
    simp only [List.map_cons, List.map_nil, List.cons_append, List.nil_append, tl_cons, dCell, barCell]
    omega
  rw [e, tl_append, tl_wt, tl_wt]
  congr 1
  · exact if_congr ⟨fun h => by rw [h, xn_xn], fun h => by rw [h, xn_xn]⟩ rfl rfl
  · exact if_congr ⟨fun h => by rw [h, yn_yn], fun h => by rw [h, yn_yn]⟩ rfl rfl

/-- What a device is due on a cell, all devices counted. -/
theorem launch_at (c : Dev nD) (s : SemLoc sig) (n : ℕ) (hn : wt listX s + wt listY s = n) :
    tallyOn ((c : Thread nD τ), s) (launchCredit (Pipeline.owing fun d => tl (oweAll d)) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => owed_at d c s, Finset.sum_add_distrib,
    Finset.sum_ite_eq' Finset.univ (xn c) fun _ => wt listX s, Finset.sum_ite_eq' Finset.univ (yn c) fun _ => wt listY s,
    if_pos (Finset.mem_univ _), if_pos (Finset.mem_univ _), hn]

theorem due_bar : wt listX (.reg barS) + wt listY (.reg barS) = 2 := by decide
theorem due_3 : wt listX (.dma (dq 3)) + wt listY (.dma (dq 3)) = amt 3 :=
  (congrArg₂ (· + ·) ((wt_miss _ _ _ _ (by decide)).trans (wt_hit _ _ _ ((wt_miss _ _ _ _ (by decide)).trans ((wt_miss _ _ _ _ (by decide)).trans ((wt_miss _ _ _ _ (by decide)).trans ((wt_miss _ _ _ _ (by decide)).trans ((wt_miss _ _ _ _ (by decide)).trans rfl))))))) ((wt_miss _ _ _ _ (by decide)).trans ((wt_miss _ _ _ _ (by decide)).trans ((wt_miss _ _ _ _ (by decide)).trans ((wt_miss _ _ _ _ (by decide)).trans ((wt_miss _ _ _ _ (by decide)).trans rfl)))))).trans (Nat.add_zero _)
theorem due_4 : wt listX (.dma (dq 4)) + wt listY (.dma (dq 4)) = amt 4 :=
  (congrArg₂ (· + ·) ((wt_miss _ _ _ _ (by decide)).trans ((wt_miss _ _ _ _ (by decide)).trans (wt_hit _ _ _ ((wt_miss _ _ _ _ (by decide)).trans ((wt_miss _ _ _ _ (by decide)).trans ((wt_miss _ _ _ _ (by decide)).trans ((wt_miss _ _ _ _ (by decide)).trans rfl))))))) ((wt_miss _ _ _ _ (by decide)).trans ((wt_miss _ _ _ _ (by decide)).trans ((wt_miss _ _ _ _ (by decide)).trans ((wt_miss _ _ _ _ (by decide)).trans ((wt_miss _ _ _ _ (by decide)).trans rfl)))))).trans (Nat.add_zero _)
theorem due_7 : wt listX (.dma (dq 7)) + wt listY (.dma (dq 7)) = amt 7 :=
  (congrArg₂ (· + ·) ((wt_miss _ _ _ _ (by decide)).trans ((wt_miss _ _ _ _ (by decide)).trans ((wt_miss _ _ _ _ (by decide)).trans (wt_hit _ _ _ ((wt_miss _ _ _ _ (by decide)).trans ((wt_miss _ _ _ _ (by decide)).trans ((wt_miss _ _ _ _ (by decide)).trans rfl))))))) ((wt_miss _ _ _ _ (by decide)).trans ((wt_miss _ _ _ _ (by decide)).trans ((wt_miss _ _ _ _ (by decide)).trans ((wt_miss _ _ _ _ (by decide)).trans ((wt_miss _ _ _ _ (by decide)).trans rfl)))))).trans (Nat.add_zero _)
theorem due_8 : wt listX (.dma (dq 8)) + wt listY (.dma (dq 8)) = amt 8 :=
  (congrArg₂ (· + ·) ((wt_miss _ _ _ _ (by decide)).trans ((wt_miss _ _ _ _ (by decide)).trans ((wt_miss _ _ _ _ (by decide)).trans ((wt_miss _ _ _ _ (by decide)).trans (wt_hit _ _ _ ((wt_miss _ _ _ _ (by decide)).trans ((wt_miss _ _ _ _ (by decide)).trans rfl))))))) ((wt_miss _ _ _ _ (by decide)).trans ((wt_miss _ _ _ _ (by decide)).trans ((wt_miss _ _ _ _ (by decide)).trans ((wt_miss _ _ _ _ (by decide)).trans ((wt_miss _ _ _ _ (by decide)).trans rfl)))))).trans (Nat.add_zero _)
theorem due_9 : wt listX (.dma (dq 9)) + wt listY (.dma (dq 9)) = amt 9 :=
  (congrArg₂ (· + ·) ((wt_miss _ _ _ _ (by decide)).trans ((wt_miss _ _ _ _ (by decide)).trans ((wt_miss _ _ _ _ (by decide)).trans ((wt_miss _ _ _ _ (by decide)).trans ((wt_miss _ _ _ _ (by decide)).trans (wt_hit _ _ _ ((wt_miss _ _ _ _ (by decide)).trans rfl))))))) ((wt_miss _ _ _ _ (by decide)).trans ((wt_miss _ _ _ _ (by decide)).trans ((wt_miss _ _ _ _ (by decide)).trans ((wt_miss _ _ _ _ (by decide)).trans ((wt_miss _ _ _ _ (by decide)).trans rfl)))))).trans (Nat.add_zero _)
theorem due_10 : wt listX (.dma (dq 10)) + wt listY (.dma (dq 10)) = amt 10 :=
  (congrArg₂ (· + ·) ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans (wt_hit _ _ _ rfl))))))) ((wt_miss _ _ _ _ (by decide)).trans ((wt_miss _ _ _ _ (by decide)).trans ((wt_miss _ _ _ _ (by decide)).trans ((wt_miss _ _ _ _ (by decide)).trans ((wt_miss _ _ _ _ (by decide)).trans rfl)))))).trans (Nat.add_zero _)
theorem due_15 : wt listX (.dma (dq 15)) + wt listY (.dma (dq 15)) = amt 15 :=
  (congrArg₂ (· + ·) ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans rfl))))))) ((wt_miss _ _ _ _ (by decide)).trans (wt_hit _ _ _ ((wt_miss _ _ _ _ (by decide)).trans ((wt_miss _ _ _ _ (by decide)).trans ((wt_miss _ _ _ _ (by decide)).trans rfl)))))).trans (Nat.zero_add _)
theorem due_16 : wt listX (.dma (dq 16)) + wt listY (.dma (dq 16)) = amt 16 :=
  (congrArg₂ (· + ·) ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans rfl))))))) ((wt_miss _ _ _ _ (by decide)).trans ((wt_miss _ _ _ _ (by decide)).trans (wt_hit _ _ _ ((wt_miss _ _ _ _ (by decide)).trans ((wt_miss _ _ _ _ (by decide)).trans rfl)))))).trans (Nat.zero_add _)
theorem due_17 : wt listX (.dma (dq 17)) + wt listY (.dma (dq 17)) = amt 17 :=
  (congrArg₂ (· + ·) ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans rfl))))))) ((wt_miss _ _ _ _ (by decide)).trans ((wt_miss _ _ _ _ (by decide)).trans ((wt_miss _ _ _ _ (by decide)).trans (wt_hit _ _ _ ((wt_miss _ _ _ _ (by decide)).trans rfl)))))).trans (Nat.zero_add _)
theorem due_18 : wt listX (.dma (dq 18)) + wt listY (.dma (dq 18)) = amt 18 :=
  (congrArg₂ (· + ·) ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans ((wt_miss _ _ _ _ (by decide)).trans rfl))))))) ((wt_miss _ _ _ _ (by decide)).trans ((wt_miss _ _ _ _ (by decide)).trans ((wt_miss _ _ _ _ (by decide)).trans ((wt_miss _ _ _ _ (by decide)).trans (wt_hit _ _ _ rfl)))))).trans (Nat.zero_add _)

/-- The cells a device is due units on. -/
def dueCells : List (SemLoc sig) := [SemLoc.reg barS, SemLoc.dma (dq 3), SemLoc.dma (dq 4), SemLoc.dma (dq 7), SemLoc.dma (dq 8), SemLoc.dma (dq 9), SemLoc.dma (dq 10), SemLoc.dma (dq 15), SemLoc.dma (dq 16), SemLoc.dma (dq 17), SemLoc.dma (dq 18)]
theorem dueCells_nodup : dueCells.Nodup := by decide

/-- The credits a device starts with. -/
theorem creds (c : Dev nD) : (Pipeline.launchCred (fun d => tl (oweAll d)) c : sProp 𝕄) ⊢ Credits c := by
  have h (Φ : SemLoc sig → sProp 𝕄) : bigSep Finset.univ Φ ⊢ bigSepL dueCells Φ :=
    BIBase.Entails.trans (BI.bigSep_subset (Finset.subset_univ dueCells.toFinset)) (Entails.of_eq (bigSep_eq_bigSepL dueCells dueCells_nodup Φ))
  unfold Pipeline.launchCred
  refine BIBase.Entails.trans (h _) ?_
  unfold dueCells
  dsimp only [bigSepL]
  rw [launch_at c (.reg barS) 2 due_bar]
  rw [launch_at c (.dma (dq 3)) (amt 3) due_3, launch_at c (.dma (dq 4)) (amt 4) due_4, launch_at c (.dma (dq 7)) (amt 7) due_7, launch_at c (.dma (dq 8)) (amt 8) due_8, launch_at c (.dma (dq 9)) (amt 9) due_9, launch_at c (.dma (dq 10)) (amt 10) due_10, launch_at c (.dma (dq 15)) (amt 15) due_15, launch_at c (.dma (dq 16)) (amt 16) due_16, launch_at c (.dma (dq 17)) (amt 17) due_17, launch_at c (.dma (dq 18)) (amt 18) due_18]
  unfold Credits Cr
  exact BI.Entails.refl _

/-! ### The theorem's side conditions -/

theorem start_intro (c : Dev nD) :
    iprop(Pipeline.unscopedRestP Pipeline.Prefetch.none cfg0.spec c (fun b => m ((c : Thread nD τ).loc b)) ∗ levAts L lv
        ∗ Pipeline.launchCred (fun d => tl (oweAll d)) c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = Wts m c from (Pipeline.unscopedRestP_none _ _ _).trans (unscopedRest0_eq c _)]
  iintro ⟨Hw, Hlev, Hcr, -, HG⟩
  ihave Hc := (creds (F := F) c) $$ Hcr
  imodintro
  unfold start G'
  icases HG with ⟨HK, Hs, Hd, Hr⟩
  isplitl
  · isplitl [Hlev]; · iexact Hlev
    isplitl [HK]; · iexact HK
    isplitl [Hw]; · iexact Hw
    isplitl [Hr]; · iexact Hr
    isplitl [Hd]; · iexact Hd
    isplitl [Hs]; · iexact Hs
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = Scr c from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ Wts m c) ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = Scr c from scopedRest0_eq c]
  unfold Φ₁
  iintro ⟨Hr, Hw, HW, HC⟩
  ihave H := (sems0_out (F := F) c) $$ [HC HW]
  · isplitl [HC] <;> iassumption
  icases H with ⟨Hu, Ho⟩
  isplitl [Hu Hw]
  · isplitl [Hu] <;> iassumption
  isplitl [Ho] <;> iassumption

theorem mayWait_stage (c : Dev nD) (q : DmaSem sig) (hq : lvl (.dma q) < 1) (O : CellTallies nD τ sig Unit) (hO : O = tl (oweAll c) ∨ O = 0) :
    (levAts L lv : sProp 𝕄) ⊢ MayWait (c : Thread nD τ) (.dma q) () O := by
  rcases hO with rfl | rfl
  · exact mayWait_tl c (.dma q) (oweAll c) (above_all c (.dma q) hq)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Two arrays read against the state: the memory holds what their owner knows. -/
theorem wts_read (c : Dev nD) (s' : Phys nD τ sig (Elt F)) :
    iprop(Wts m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold Wts own
  iintro ⟨⟨H2, H3⟩, HSI⟩
  icombine HSI H2 gives %h2
  icombine HSI H3 gives %h3
  isplitr
  · ipureintro
    exact ⟨Buf.eq_of_forall_mem_univ h2, Buf.eq_of_forall_mem_univ h3⟩
  iexact HSI

/-! ### The run -/

def finalA (c : Dev nD) (w : Fin cfg0.W) : Buf (Elt F) ((cfg0.win w).arr.view.loc (c : Thread nD τ)) := (dats m ρ 0 c).arrAt w cfg0.N

/-- What a final state holds: the windows' arrays as computed, the weight arrays as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

set_option maxRecDepth 40000 in
/-- From any memory with every counter at zero, every fair execution of the program ends, with the arrays of `QC` and
    every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := fun d => tl (oweAll d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => iprop(unscopedSems0 c ∗ Wts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      iintro ⟨⟨Hu, Hw⟩, -, HSI⟩
      ihave H := (wts_read m c s') $$ [Hw HSI]
      · isplitl [Hw] <;> iassumption
      icases H with ⟨%hw, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hw⟩
      iexact HSI)
    (hQ := fun _ h hs => ⟨fun c => ⟨(h c).1, (h c).2.2.2⟩, sem_eq_zero hs fun c => (h c).2.2.1⟩)

/-- The tokens and the router columns hold what they held. -/
theorem finalA_x (c : Dev nD) : finalA m ρ c (0 : Fin 3) = m ((c : Thread nD τ).loc main_arg0) :=
  (dats (F := F) m ρ 0 c).arrAt_in (0 : Fin 3) rfl _
theorem finalA_r (c : Dev nD) : finalA m ρ c (1 : Fin 3) = m ((c : Thread nD τ).loc main_arg1) :=
  (dats (F := F) m ρ 0 c).arrAt_in (1 : Fin 3) rfl _

end Cert.KernelIdealProof

end
-- ==== Proof.Frames.lean ====
/-
# What every run leaves: the arguments as they were, every counter at zero
-/
module

public import proofs.«01_k».proof.Defs
public import proofs.«01_k».proof.Proof.KLaunch
public import proofs.«01_k».proof.Proof.ILaunch
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel as printed: the two staged operands come back as they went in, the weight arrays are only read. -/
theorem frame_kernel : Cert.quiescent_Kernel := fun m ρ _ =>
  (θ_run Cert.Kernel.defs _ _).mono
    (fun _ h => ⟨fun c => ⟨((h.1 c).1 (0 : Fin 3)).trans (Cert.KernelProof.finalA_x m ρ c), ((h.1 c).1 (1 : Fin 3)).trans (Cert.KernelProof.finalA_r m ρ c),
      (h.1 c).2.1, (h.1 c).2.2⟩, h.2⟩)
    (Cert.KernelProof.run_main (F := Bits) m ρ)

/-- The kernel at exact values, the same. -/
theorem frame_ideal : Cert.quiescent_KernelIdeal := fun m ρ _ =>
  (θ_run Cert.KernelIdeal.defs _ _).mono
    (fun _ h => ⟨fun c => ⟨((h.1 c).1 (0 : Fin 3)).trans (Cert.KernelIdealProof.finalA_x m ρ c), ((h.1 c).1 (1 : Fin 3)).trans (Cert.KernelIdealProof.finalA_r m ρ c),
      (h.1 c).2.1, (h.1 c).2.2⟩, h.2⟩)
    (Cert.KernelIdealProof.run_main (F := Ideal) m ρ)

/-- The reference's operations write none of its arguments, and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one constant that was named. -/
theorem preserves : Cert.preserves_Kernel_KernelIdeal :=
  IdealRules.named_const.statement Cert.KernelIdeal.κ "mask" .f32 0xF149F2CA#32 ⊥ rfl

end Cert.Proof

end
-- ==== Proof.ValueMath.lean ====
/-
  The arithmetic of the routed layer on extended reals, with no program in it: the two greatest of eight gates, the
  two weights they give, and the sum over the eight experts that those weights leave.
-/
module

public import Idealize.ShloMosaic.PureOps.Ideal.Laws
public import Idealize.ShloMosaic.Lib.IdealHost
public import Idealize.ShloMosaic.Lib.ValueIdx

@[expose] public section

noncomputable section

namespace Cert.Proof.Val

open Idealize.ShloMosaic Idealize.ShloMosaic.ValueIdx
open scoped BigOperators

/-- A gate with the greatest taken out. -/
def drop1 (M v : EReal) : EReal := if v = M then ⊥ else v

/-- The greatest of two groups of four gates. -/
def kTop (a b : Fin 4 → EReal) : EReal := max (Finset.univ.sup a) (Finset.univ.sup b)

/-- The greatest that is left when the greatest is taken out. -/
def kSnd (a b : Fin 4 → EReal) : EReal := kTop (fun e => drop1 (kTop a b) (a e)) (fun e => drop1 (kTop a b) (b e))

/-- The weight of expert `e` of the first group. -/
def kw (a b : Fin 4 → EReal) (e : Fin 4) : EReal :=
  (if a e = kTop a b then Ideal.div 1 (1 + Ideal.exp (kSnd a b - kTop a b)) else 0)
    + (if drop1 (kTop a b) (a e) = kSnd a b
        then Ideal.div (Ideal.exp (kSnd a b - kTop a b)) (1 + Ideal.exp (kSnd a b - kTop a b)) else 0)

/-- The eight gates of a row with the greatest at `p`, the second at `q` and the rest at most `v`. -/
structure Picked (g : Fin 8 → EReal) (p q : Fin 8) (v : EReal) : Prop where
  ne : p ≠ q
  gt1 : g q < g p
  gt2 : v < g q
  rest : ∀ e, e ≠ p → e ≠ q → g e ≤ v
  fin : g p < ⊤

variable {g : Fin 8 → EReal} {p q : Fin 8} {v : EReal}

theorem Picked.le (h : Picked g p q v) (e : Fin 8) : g e ≤ g p := by
  by_cases h1 : e = p
  · rw [h1]
  · by_cases h2 : e = q
    · rw [h2]; exact h.gt1.le
    · exact ((h.rest e h1 h2).trans h.gt2.le).trans h.gt1.le

theorem Picked.eq_iff (h : Picked g p q v) (e : Fin 8) : g e = g p ↔ e = p := by
  constructor
  · intro he
    by_contra h1
    by_cases h2 : e = q
    · rw [h2] at he; exact absurd he h.gt1.ne
    · exact absurd he (((h.rest e h1 h2).trans_lt h.gt2).trans h.gt1).ne
  · rintro rfl; rfl

/-- With the greatest taken out, the greatest is at `q`. -/
theorem Picked.drop_le (h : Picked g p q v) (e : Fin 8) : drop1 (g p) (g e) ≤ g q := by
  unfold drop1
  split
  · exact bot_le
  · next hn =>
    have h1 : e ≠ p := fun hp => hn (by rw [hp])
    by_cases h2 : e = q
    · rw [h2]
    · exact (h.rest e h1 h2).trans h.gt2.le

theorem Picked.drop_eq_iff (h : Picked g p q v) (e : Fin 8) : drop1 (g p) (g e) = g q ↔ e = q := by
  unfold drop1
  constructor
  · intro he
    split at he
    · exact absurd he (lt_of_le_of_lt bot_le h.gt2).ne
    · next hn =>
      have h1 : e ≠ p := fun hp => hn (by rw [hp])
      by_contra h2
      exact absurd he ((h.rest e h1 h2).trans_lt h.gt2).ne
  · rintro rfl
    rw [if_neg h.gt1.ne]

/-- The greatest of the two groups is the greatest of the eight. -/
theorem kTop_eq {f : Fin 8 → EReal} {k : Fin 8} {ia ib : Fin 4 → Fin 8} (hcov : ∀ e, (∃ j, ia j = e) ∨ ∃ j, ib j = e)
    (hle : ∀ e, f e ≤ f k) : kTop (fun j => f (ia j)) (fun j => f (ib j)) = f k := by
  unfold kTop
  apply le_antisymm
  · exact max_le (Finset.sup_le fun j _ => hle _) (Finset.sup_le fun j _ => hle _)
  · rcases hcov k with ⟨j, hj⟩ | ⟨j, hj⟩
    · exact le_max_of_le_left (by rw [← hj]; exact Finset.le_sup (f := fun j => f (ia j)) (Finset.mem_univ j))
    · exact le_max_of_le_right (by rw [← hj]; exact Finset.le_sup (f := fun j => f (ib j)) (Finset.mem_univ j))

/-- The weight of expert `e` of the row, by where the two greatest gates are. -/
def wt (g : Fin 8 → EReal) (p q e : Fin 8) : EReal :=
  if e = p then Ideal.div 1 (1 + Ideal.exp (g q - g p))
  else if e = q then Ideal.div (Ideal.exp (g q - g p)) (1 + Ideal.exp (g q - g p)) else 0

/-- The weight computed from the two groups is the weight by position. -/
theorem kw_eq (h : Picked g p q v) {ia ib : Fin 4 → Fin 8} (hcov : ∀ e, (∃ j, ia j = e) ∨ ∃ j, ib j = e) (e : Fin 4) :
    kw (fun j => g (ia j)) (fun j => g (ib j)) e = wt g p q (ia e) := by
  have h1 : kTop (fun j => g (ia j)) (fun j => g (ib j)) = g p := kTop_eq hcov h.le
  have h2 : kSnd (fun j => g (ia j)) (fun j => g (ib j)) = g q := by
    unfold kSnd
    rw [h1]
    have hq : drop1 (g p) (g q) = g q := (h.drop_eq_iff q).mpr rfl
    refine (kTop_eq (f := fun e => drop1 (g p) (g e)) (k := q) hcov fun e => ?_).trans hq
    show drop1 (g p) (g e) ≤ drop1 (g p) (g q)
    rw [hq]; exact h.drop_le e
  unfold kw wt
  rw [h1, h2]
  simp only [h.eq_iff, h.drop_eq_iff]
  by_cases e1 : ia e = p
  · have e2 : ia e ≠ q := fun hq => h.ne (e1.symm.trans hq)
    rw [if_pos e1, if_neg e2, if_pos e1, add_zero]
  · rw [if_neg e1, if_neg e1, zero_add]

/-- The two groups' sums are the sum over the eight experts. -/
theorem groups_sum (f : Fin 8 → EReal) (k : Fin 2) (ia ib : Fin 4 → Fin 8) (ha : ∀ j, (ia j).val = 4 * k.val + j.val)
    (hb : ∀ j, (ib j).val = 4 * (1 - k.val) + j.val) :
    (((f (ia 0) + f (ia 1)) + f (ia 2)) + f (ia 3)) + (((f (ib 0) + f (ib 1)) + f (ib 2)) + f (ib 3)) = ∑ e, f e := by
  have ha' : ∀ j, ia j = ⟨4 * k.val + j.val, by omega⟩ := fun j => Fin.ext (ha j)
  have hb' : ∀ j, ib j = ⟨4 * (1 - k.val) + j.val, by omega⟩ := fun j => Fin.ext (hb j)
  simp only [ha', hb', Fin.sum_univ_eight]
  fin_cases k
  · simp only [← add_assoc]; rfl
  · rw [add_comm]; simp only [← add_assoc]; rfl

/-- Only the two chosen experts count in the weighted sum. -/
theorem sum_wt (hne : p ≠ q) (y : Fin 8 → EReal) :
    ∑ e, y e * wt g p q e
      = y p * Ideal.div 1 (1 + Ideal.exp (g q - g p))
        + y q * Ideal.div (Ideal.exp (g q - g p)) (1 + Ideal.exp (g q - g p)) := by
  rw [Finset.sum_eq_add p q hne]
  · unfold wt
    rw [if_pos rfl, if_neg hne.symm, if_pos rfl]
  · intro e _ he
    unfold wt
    rw [if_neg he.1, if_neg he.2, mul_zero]
  · intro hn; exact absurd (Finset.mem_univ p) hn
  · intro hn; exact absurd (Finset.mem_univ q) hn

/-- A sum in which one index is selected. -/
theorem sum_select (p : Fin 8) (f : Fin 8 → EReal) : ∑ e, (if p = e then f e else 0) = f p := by
  rw [Finset.sum_ite_eq, if_pos (Finset.mem_univ p)]

/-- Every expert is in one of the two groups. -/
theorem cover (k : Fin 2) (ia ib : Fin 4 → Fin 8) (ha : ∀ j, (ia j).val = 4 * k.val + j.val)
    (hb : ∀ j, (ib j).val = 4 * (1 - k.val) + j.val) (e : Fin 8) : (∃ j, ia j = e) ∨ ∃ j, ib j = e := by
  by_cases h : e.val / 4 = k.val
  · exact .inl ⟨⟨e.val % 4, Nat.mod_lt _ (by decide)⟩, Fin.ext (by rw [ha]; show 4 * k.val + e.val % 4 = e.val; omega)⟩
  · exact .inr ⟨⟨e.val % 4, Nat.mod_lt _ (by decide)⟩, Fin.ext (by rw [hb]; show 4 * (1 - k.val) + e.val % 4 = e.val; omega)⟩

/-! ## The layer on whole arrays -/

abbrev A2 (a b : Nat) := (⟨2, ![a, b]⟩ : Shape).Idx → EReal
abbrev A3 (a b c : Nat) := (⟨3, ![a, b, c]⟩ : Shape).Idx → EReal

/-- The gate of expert `e` for a token. -/
def gate {T E : Nat} (x : A2 T 1024) (r : A2 1024 E) (t : Fin T) (e : Fin E) : EReal := ∑ k : Fin 1024, x (ix2 t k) * r (ix2 k e)

/-- The hidden value `f` of expert `e` for a token. -/
def hid {T E : Nat} (x : A2 T 1024) (w : A3 E 1024 2048) (e : Fin E) (t : Fin T) (f : Fin 2048) : EReal :=
  max (∑ k : Fin 1024, x (ix2 t k) * w (ix3 e k f)) 0

/-- Column `d` of expert `e`'s output for a token. -/
def yv {T E : Nat} (x : A2 T 1024) (w : A3 E 1024 2048) (w' : A3 E 2048 1024) (e : Fin E) (t : Fin T) (d : Fin 1024) : EReal :=
  ∑ f : Fin 2048, hid x w e t f * w' (ix3 e f d)

/-- The layer's value at a row whose two greatest gates are at `p` and `q`. -/
def layer (X : A2 1024 1024) (R : A2 1024 8) (W1 : A3 8 1024 2048) (W2 : A3 8 2048 1024) (p q : Fin 8) (t d : Fin 1024) : EReal :=
  yv X W1 W2 p t d * Ideal.div 1 (1 + Ideal.exp (gate X R t q - gate X R t p))
    + yv X W1 W2 q t d * Ideal.div (Ideal.exp (gate X R t q - gate X R t p)) (1 + Ideal.exp (gate X R t q - gate X R t p))

end Cert.Proof.Val

end
-- ==== Proof.ValuePayload.lean ====
/-
  The kernel's pure payloads read at an index, at exact values: the gates of a token, the weights of the device's own
  experts, and one expert's output scaled by its weight.
-/
module

public import proofs.«01_k».proof.Proof.ValueMath
public import proofs.«01_k».proof.Proof.ICommon
public import Idealize.ShloMosaic.Lib.MatmulPlain
public import Idealize.ShloMosaic.Lib.ValueLayoutCasts
public import Idealize.ShloMosaic.Lib.Pipeline.Value
public import Idealize.ShloMosaic.PureOps.IdealRules

@[expose] public section

noncomputable section

namespace Cert.Proof.Val

open Cert.KernelIdeal Cert.KernelIdeal.Gen Cert.KernelIdealProof
open Idealize.ShloMosaic Idealize.ShloMosaic.ValueIdx
open scoped BigOperators

/-- A selection on an equality of two exact values. -/
theorem select_oeq (x y : Ideal .f32) (a b : EReal) : Scalar.select (FloatOps.cmpf .oeq x y) a b = if x = y then a else b := by
  by_cases h : x = y
  · rw [if_pos h, show FloatOps.cmpf (F := Ideal) .oeq x y = 1#1 by simp [Ideal.cmpf_def, Ideal.cmp, h]]; rfl
  · rw [if_neg h, show FloatOps.cmpf (F := Ideal) .oeq x y = 0#1 by simp [Ideal.cmpf_def, Ideal.cmp, h]]; rfl

/-- The named constant is −∞. -/
theorem named_mask (b : BitVec FTy.f32.bits) : Named.named (F := Ideal) κ "mask" b = (⊥ : EReal) :=
  IdealRules.named_const.ideal_named_scalar _ _ _ _ rfl

/-- The pattern of −∞. -/
theorem neg_inf : FloatOps.ofBits (F := Ideal) .f32 0xFF800000#32 = (⊥ : EReal) := by
  simp [Ideal.ofBits, Ideal.ieee]

/-- The pattern of 0. -/
theorem zero_bits : Scalar.ofBits (F := Ideal) .f32 0x00000000#32 = (0 : EReal) := Ideal.ofBits_zero_f32
/-- The pattern of 1. -/
theorem one_bits : Scalar.ofBits (F := Ideal) .f32 0x3F800000#32 = (1 : EReal) := Ideal.ofBits_one_f32

/-- The exponential of a vector at an index. -/
theorem exp_apply {s : Shape} (a : FVec Ideal s .f32) (i : s.Idx) : exp a i = Ideal.exp (a i) := rfl

/-- The maximum of every row of four. -/
def rmax (y : FVec Ideal S256x4 .f32) : FVec Ideal S256 .f32 :=
  multiReduction .maximumf [1] S256 y 0xFF800000#32 reduces_S256x4_S256 (.inl rfl) rfl

theorem rmax_apply (y : FVec Ideal S256x4 .f32) (t : Fin 256) : rmax y (ix1 t) = Finset.univ.sup fun e : Fin 4 => y (ix2 t e) := by
  unfold rmax
  refine (Ideal.multiReduction_maximumf_single y _ reduces_S256x4_S256 _ _ (ix1 t)).trans ?_
  have hl : ∀ e : Fin 4, reduces_S256x4_S256.lift (ix1 t) e = (ix2 t e : S256x4.Idx) := fun e => by
    funext a; apply Fin.ext
    match a with
    | ⟨0, _⟩ => rfl
    | ⟨1, _⟩ => rfl
  rw [neg_inf]
  show (Finset.univ : Finset (Fin 4)).fold max ⊥ (y ∘ reduces_S256x4_S256.lift (ix1 t)) = _
  rw [show (y ∘ reduces_S256x4_S256.lift (ix1 t)) = fun e : Fin 4 => y (ix2 t e) from funext fun e => congrArg y (hl e)]
  rfl

/-- A column vector laid along four columns. -/
theorem bcast4_apply {α : Type} (z : S256x1.Idx → α) (t : Fin 256) (e : Fin 4) :
    broadcastTo S256x4 z broadcasts_S256x1_S256x4 (ix2 t e) = z (ix2 t 0) :=
  broadcastTo_apply _ _ _ _ fun a => match a with
    | ⟨0, _⟩ => rfl
    | ⟨1, _⟩ => rfl

/-- A column vector laid along the columns of a block. -/
theorem bcastD_apply {α : Type} (z : S256x1.Idx → α) (t : Fin 256) (d : Fin 1024) :
    broadcastTo S256x1024 z broadcasts_S256x1_S256x1024 (ix2 t d) = z (ix2 t 0) :=
  broadcastTo_apply _ _ _ _ fun a => match a with
    | ⟨0, _⟩ => rfl
    | ⟨1, _⟩ => rfl

/-- A row maximum as a column. -/
theorem col_apply (z : S256.Idx → EReal) (t : Fin 256) : shapeCast S256x1 z shapeCasts_S256_S256x1 (ix2 t 0) = z (ix1 t) :=
  shapeCast_a_a1_apply z _ t 0

variable (x : Vec Ideal S256x1024 .f32) (r r' : Vec Ideal S1024x4 .f32) (t : Fin 256)

/-- The gates of a token, four ways the kernel computes them. -/
theorem pay2_apply (e : Fin 4) : k0_pay2 (F := Ideal) x r (ix2 t e) = gate x r t e := by
  unfold k0_pay2 gate
  rw [shapeCast_self]
  refine (Ideal.matmul_plain_apply (M := 256) (K := 1024) (N := 4) (some .fp32) x r _ t e).trans ?_
  rw [constant_apply, Ideal.ofBits_zero_f32, zero_add]
theorem pay3_apply (e : Fin 4) : k0_pay3 (F := Ideal) x r (ix2 t e) = gate x r t e := by
  unfold k0_pay3 gate
  refine (Ideal.matmul_plain_apply (M := 256) (K := 1024) (N := 4) (some .fp32) x r _ t e).trans ?_
  rw [constant_apply, Ideal.ofBits_zero_f32, zero_add]
theorem pay27_apply (e : Fin 4) : k0_pay27 (F := Ideal) x r (ix2 t e) = gate x r t e := by
  unfold k0_pay27 gate
  rw [shapeCast_self]
  refine (Ideal.matmul_plain_apply (M := 256) (K := 1024) (N := 4) (some .fp32) x r _ t e).trans ?_
  rw [constant_apply, Ideal.ofBits_zero_f32, zero_add]
theorem pay28_apply (e : Fin 4) : k0_pay28 (F := Ideal) x r (ix2 t e) = gate x r t e := by
  unfold k0_pay28 gate
  refine (Ideal.matmul_plain_apply (M := 256) (K := 1024) (N := 4) (some .fp32) x r _ t e).trans ?_
  rw [constant_apply, Ideal.ofBits_zero_f32, zero_add]

/-- The greatest gate of a token. -/
theorem pay4_apply : k0_pay4 (F := Ideal) x r r' (ix2 t 0) = kTop (gate x r t) (gate x r' t) := by
  show max (shapeCast S256x1 (rmax (k0_pay2 x r)) shapeCasts_S256_S256x1 (ix2 t 0))
    (shapeCast S256x1 (rmax (k0_pay3 x r')) shapeCasts_S256_S256x1 (ix2 t 0)) = _
  rw [col_apply, col_apply, rmax_apply, rmax_apply]
  simp only [pay2_apply, pay3_apply]
  rfl
theorem pay29_apply : k0_pay29 (F := Ideal) x r (ix2 t 0) = Finset.univ.sup (gate x r t) := by
  show shapeCast S256x1 (rmax (k0_pay27 x r)) shapeCasts_S256_S256x1 (ix2 t 0) = _
  rw [col_apply, rmax_apply]
  simp only [pay27_apply]
theorem pay30_apply : k0_pay30 (F := Ideal) x r (ix2 t 0) = Finset.univ.sup (gate x r t) := by
  show shapeCast S256x1 (rmax (k0_pay28 x r)) shapeCasts_S256_S256x1 (ix2 t 0) = _
  rw [col_apply, rmax_apply]
  simp only [pay28_apply]

/-- The gates `y` with the greatest, `M`, taken out. -/
def dropv (y : FVec Ideal S256x4 .f32) (M : FVec Ideal S256x1 .f32) : FVec Ideal S256x4 .f32 :=
  select (cmpf .oeq y (broadcastTo S256x4 M broadcasts_S256x1_S256x4)) (broadcast S256x4 (Named.named κ "mask" 0xF149F2CA#32)) y

theorem dropv_apply (y : FVec Ideal S256x4 .f32) (M : FVec Ideal S256x1 .f32) (e : Fin 4) :
    dropv y M (ix2 t e) = drop1 (M (ix2 t 0)) (y (ix2 t e)) := by
  show Scalar.select (FloatOps.cmpf .oeq (y (ix2 t e)) (broadcastTo S256x4 M broadcasts_S256x1_S256x4 (ix2 t e)))
    (Named.named (F := Ideal) κ "mask" 0xF149F2CA#32) (y (ix2 t e)) = _
  rw [select_oeq, named_mask, bcast4_apply]
  rfl

/-- The greatest of what is left of two groups. -/
def sndv (a b : FVec Ideal S256x4 .f32) (M : FVec Ideal S256x1 .f32) : FVec Ideal S256x1 .f32 :=
  maximumf (shapeCast S256x1 (rmax (dropv a M)) shapeCasts_S256_S256x1) (shapeCast S256x1 (rmax (dropv b M)) shapeCasts_S256_S256x1)

theorem sndv_apply (a b : FVec Ideal S256x4 .f32) (M : FVec Ideal S256x1 .f32) :
    sndv a b M (ix2 t 0) = kTop (fun e => drop1 (M (ix2 t 0)) (a (ix2 t e))) (fun e => drop1 (M (ix2 t 0)) (b (ix2 t e))) := by
  unfold sndv kTop
  rw [maximumf_apply, col_apply, col_apply, rmax_apply, rmax_apply]
  simp only [dropv_apply]

/-- The weights of the first group. -/
def wOf (a b : FVec Ideal S256x4 .f32) (M : FVec Ideal S256x1 .f32) : FVec Ideal S256x4 .f32 :=
  addf
    (select (cmpf .oeq a (broadcastTo S256x4 M broadcasts_S256x1_S256x4))
      (broadcastTo S256x4 (shapeCast S256x1 (divf (broadcast S256x1 (Scalar.ofBits .f32 0x3F800000#32))
        (addf (broadcast S256x1 (Scalar.ofBits .f32 0x3F800000#32)) (exp (subf (sndv a b M) M)))) shapeCasts_S256x1_S256x1) broadcasts_S256x1_S256x4)
      (broadcast S256x4 (Scalar.ofBits .f32 0x00000000#32)))
    (select (cmpf .oeq (dropv a M) (broadcastTo S256x4 (sndv a b M) broadcasts_S256x1_S256x4))
      (broadcastTo S256x4 (shapeCast S256x1 (divf (exp (subf (sndv a b M) M))
        (addf (broadcast S256x1 (Scalar.ofBits .f32 0x3F800000#32)) (exp (subf (sndv a b M) M)))) shapeCasts_S256x1_S256x1) broadcasts_S256x1_S256x4)
      (broadcast S256x4 (Scalar.ofBits .f32 0x00000000#32)))

theorem wOf_apply (a b : FVec Ideal S256x4 .f32) (M : FVec Ideal S256x1 .f32)
    (hM : M (ix2 t 0) = kTop (fun e => a (ix2 t e)) (fun e => b (ix2 t e))) (e : Fin 4) :
    wOf a b M (ix2 t e) = kw (fun e => a (ix2 t e)) (fun e => b (ix2 t e)) e := by
  unfold wOf
  simp only [addf_apply, select_apply, cmpf_apply, select_oeq, bcast4_apply, broadcast_apply, shapeCast_self, divf_apply, subf_apply,
    exp_apply, dropv_apply, sndv_apply, zero_bits, one_bits, hM]
  rfl

/-- The weights of the device's own experts for its own tokens. -/
theorem gateLo_apply (e : Fin 4) : gateLo (F := Ideal) x r r' (ix2 t e) = kw (gate x r t) (gate x r' t) e := by
  have h : gateLo (F := Ideal) x r r' = wOf (k0_pay2 x r) (k0_pay3 x r') (k0_pay4 x r r') := rfl
  rw [h, wOf_apply t _ _ _ ?_ e]
  · simp only [pay2_apply, pay3_apply]
  · simp only [pay2_apply, pay3_apply, pay4_apply]

/-- The weights of the device's own experts for its neighbour's tokens. -/
theorem gateHi_apply (e : Fin 4) : gateHi (F := Ideal) x r r' (ix2 t e) = kw (gate x r t) (gate x r' t) e := by
  have h : gateHi (F := Ideal) x r r' = wOf (k0_pay27 x r) (k0_pay28 x r') (maximumf (k0_pay29 x r) (k0_pay30 x r')) := rfl
  rw [h, wOf_apply t _ _ _ ?_ e]
  · simp only [pay27_apply, pay28_apply]
  · rw [maximumf_apply]; simp only [pay27_apply, pay28_apply, pay29_apply, pay30_apply]; rfl

/-! ## One expert -/

/-- One expert's output, unscaled, as the kernel's operations write it. -/
def ffnv (xb : FVec Ideal S256x1024 .bf16) (w : FVec Ideal S1x1024x2048 .bf16) (w' : FVec Ideal S1x2048x1024 .bf16) : FVec Ideal S256x1024 .f32 :=
  matmul dot_S256x2048_S2048x1024_S256x1024_1_0_0_1_n_n none
    (truncf .bf16 (maximumf (matmul dot_S256x1024_S1024x2048_S256x2048_1_0_0_1_n_n none xb
      (shapeCast S1024x2048 w shapeCasts_S1x1024x2048_S1024x2048) (constant S256x2048 .f32 0x00000000#32))
      (broadcast S256x2048 (Scalar.ofBits .f32 0x00000000#32))) bitsLt_bf16_f32)
    (shapeCast S2048x1024 w' shapeCasts_S1x2048x1024_S2048x1024) (constant S256x1024 .f32 0x00000000#32)

theorem drop3_apply {b c : Nat} (w : (⟨3, ![1, b, c]⟩ : Shape).Idx → EReal) (h : (⟨3, ![1, b, c]⟩ : Shape).ShapeCasts ⟨2, ![b, c]⟩)
    (k : Fin b) (f : Fin c) : shapeCast ⟨2, ![b, c]⟩ w h (ix2 k f) = w (ix3 0 k f) := by
  refine (shapeCast_dropUnit_apply ![b, c] w h (ix2 k f)).trans (congrArg w ?_)
  funext a
  match a with
  | ⟨0, _⟩ => rfl
  | ⟨1, _⟩ => rfl
  | ⟨2, _⟩ => rfl

theorem ffnv_apply (xb : FVec Ideal S256x1024 .bf16) (w : FVec Ideal S1x1024x2048 .bf16) (w' : FVec Ideal S1x2048x1024 .bf16)
    (d : Fin 1024) : ffnv xb w w' (ix2 t d) = yv (E := 1) xb w w' 0 t d := by
  unfold ffnv yv
  refine (Ideal.matmul_plain_apply (M := 256) (K := 2048) (N := 1024) none _ _ _ t d).trans ?_
  rw [constant_apply, Ideal.ofBits_zero_f32, zero_add]
  refine Finset.sum_congr rfl fun f _ => ?_
  rw [drop3_apply, truncf_apply, maximumf_apply, broadcast_apply, zero_bits]
  unfold hid
  refine congrArg (fun z => max z 0 * w' (ix3 0 f d)) ?_
  refine (Ideal.matmul_plain_apply (M := 256) (K := 1024) (N := 2048) none _ _ _ t f).trans ?_
  rw [constant_apply, Ideal.ofBits_zero_f32, zero_add]
  refine Finset.sum_congr rfl fun k _ => ?_
  rw [drop3_apply]

/-- A weight column laid along the columns of a block. -/
theorem wcol_apply (w : FVec Ideal S256x4 .f32) (e : Fin 4) (h : S256x4.Slices ![0, e.val] S256x1) (d : Fin 1024) :
    broadcastTo S256x1024 (extractStridedSlice S256x1 ![0, e.val] w h) broadcasts_S256x1_S256x1024 (ix2 t d) = w (ix2 t e) := by
  rw [bcastD_apply]
  exact extractStridedSlice_apply _ w h _ _ fun a => match a with
    | ⟨0, _⟩ => (Nat.zero_add _).symm
    | ⟨1, _⟩ => rfl

section Acc
variable (w : FVec Ideal S256x4 .f32) (a : FVec Ideal S256x1024 .f32) (xb xb' : FVec Ideal S256x1024 .bf16)
  (u u' : FVec Ideal S1x1024x2048 .bf16) (z z' : FVec Ideal S1x2048x1024 .bf16) (d : Fin 1024)

/-- The accumulations of the scaled outputs. -/
theorem pay17_apply : k0_pay17 (F := Ideal) w xb u z (ix2 t d) = yv (E := 1) xb u z 0 t d * w (ix2 t 0) := by
  rw [← ffnv_apply, ← wcol_apply t w 0 slices_S256x4_o0_0_S256x1 d]; rfl
theorem pay33_apply : k0_pay33 (F := Ideal) w xb u z xb' u' z' (ix2 t d)
    = yv (E := 1) xb u z 0 t d * w (ix2 t 0) + yv (E := 1) xb' u' z' 0 t d * w (ix2 t 1) := by
  rw [← ffnv_apply, ← ffnv_apply, ← wcol_apply t w 0 slices_S256x4_o0_0_S256x1 d, ← wcol_apply t w 1 slices_S256x4_o0_1_S256x1 d]; rfl
theorem pay43_apply : k0_pay43 (F := Ideal) w a xb u z (ix2 t d) = a (ix2 t d) + yv (E := 1) xb u z 0 t d * w (ix2 t 2) := by
  rw [← ffnv_apply, ← wcol_apply t w 2 slices_S256x4_o0_2_S256x1 d]; rfl
theorem pay53_apply : k0_pay53 (F := Ideal) w a xb u z (ix2 t d) = a (ix2 t d) + yv (E := 1) xb u z 0 t d * w (ix2 t 3) := by
  rw [← ffnv_apply, ← wcol_apply t w 3 slices_S256x4_o0_3_S256x1 d]
  unfold k0_pay53
  rw [shapeCast_self]; rfl
theorem pay54_apply : k0_pay54 (F := Ideal) w a xb u z xb' u' z' (ix2 t d)
    = (a (ix2 t d) + yv (E := 1) xb u z 0 t d * w (ix2 t 1)) + yv (E := 1) xb' u' z' 0 t d * w (ix2 t 2) := by
  rw [← ffnv_apply, ← ffnv_apply, ← wcol_apply t w 1 slices_S256x4_o0_1_S256x1 d, ← wcol_apply t w 2 slices_S256x4_o0_2_S256x1 d]; rfl
theorem pay57_apply : k0_pay57 (F := Ideal) w a (k0_pay55 xb u) k0_pay56 z (ix2 t d)
    = a (ix2 t d) + yv (E := 1) xb u z 0 t d * w (ix2 t 3) := by
  rw [← ffnv_apply, ← wcol_apply t w 3 slices_S256x4_o0_3_S256x1 d]; rfl

end Acc

end Cert.Proof.Val

end
-- ==== Proof.ValueKernel.lean ====
/-
  What the kernel's result holds at exact values: each device's arrays as blocks of the whole arrays, and a row of the
  result as the routed layer of that row.
-/
module

public import proofs.«01_k».proof.Proof.ValuePayload
public import proofs.«01_k».proof.Proof.IViews
public import proofs.«01_k».proof.Proof.ILaunch
public import Idealize.ShloMosaic.Lib.Layout

@[expose] public section

noncomputable section

namespace Cert.Proof.Val

open Cert.KernelIdeal Cert.KernelIdeal.Gen Cert.KernelIdealProof
open Idealize.ShloMosaic Idealize.ShloMosaic.ValueIdx
open Idealize.ShloMosaic.TcCoe
open scoped BigOperators

/-- The row of the whole token array that row `t` of device `c`'s half is. -/
def row (c : Dev nD) (t : Fin 256) : Fin 1024 :=
  ⟨512 * (c.val / 2) + 256 * (c.val % 2) + t.val, by have : c.val < 4 := c.isLt; omega⟩
/-- The expert of the eight that expert `e` of device `c` is. -/
def ex (c : Dev nD) (e : Fin 4) : Fin 8 := ⟨4 * (c.val / 2) + e.val, by have : c.val < 4 := c.isLt; omega⟩

/-- Each device holds its blocks of the whole arrays. -/
structure Parts (m : (ℓ : Loc nD τ sig) → Buf (Elt Ideal) ℓ) (X : A2 1024 1024) (R : A2 1024 8) (W1 : A3 8 1024 2048) (W2 : A3 8 2048 1024) : Prop where
  x : ∀ c : Dev nD, m ((c : Thread nD τ).loc main_arg0) = Layout.blockN ⟨2, ![512, 1024]⟩ ⟨2, ![1024, 1024]⟩ (Layout.meshBlock [2, 2] ![[0], []] c) X
  r : ∀ c : Dev nD, m ((c : Thread nD τ).loc main_arg1) = Layout.blockN ⟨2, ![1024, 4]⟩ ⟨2, ![1024, 8]⟩ (Layout.meshBlock [2, 2] ![[], [0]] c) R
  w1 : ∀ c : Dev nD, m ((c : Thread nD τ).loc main_arg2) = Layout.blockN ⟨3, ![4, 1024, 2048]⟩ ⟨3, ![8, 1024, 2048]⟩ (Layout.meshBlock [2, 2] ![[0], [], []] c) W1
  w2 : ∀ c : Dev nD, m ((c : Thread nD τ).loc main_arg3) = Layout.blockN ⟨3, ![4, 2048, 1024]⟩ ⟨3, ![8, 2048, 1024]⟩ (Layout.meshBlock [2, 2] ![[0], [], []] c) W2

/-- A device's place along the cut dimension. -/
theorem lin0 (c : Dev nD) : Layout.meshLin [2, 2] c.val [0] = c.val / 2 := by revert c; decide

variable {m : (ℓ : Loc nD τ sig) → Buf (Elt Ideal) ℓ} {X : A2 1024 1024} {R : A2 1024 8} {W1 : A3 8 1024 2048} {W2 : A3 8 2048 1024}

/-! ## The blocks -/

theorem xstg_eq (c : Dev nD) : xstg m c = m ((c : Thread nD τ).loc main_arg0) :=
  Memref.read_access_unit_zero (Elt Ideal) main_arg0 (funext fun a => by fin_cases a <;> decide) (fun a => by fin_cases a <;> decide) _
theorem rstg_eq (c : Dev nD) : rstg m c = m ((c : Thread nD τ).loc main_arg1) :=
  Memref.read_access_unit_zero (Elt Ideal) main_arg1 (funext fun a => by fin_cases a <;> decide) (fun a => by fin_cases a <;> decide) _

theorem Parts.xlo_at (h : Parts m X R W1 W2) (c : Dev nD) (t : Fin 256) (k : Fin 1024) : xlo m c (ix2 t k) = X (ix2 (row c t) k) := by
  have e1 : xlo m c = (xM).view.readAt (Elt Ideal) (rown c).toLoadRect (xstg m c) := by
    unfold xlo k0_pay1; exact (shapeCast_self _ _).trans (shapeCast_self _ _)
  rw [e1, xstg_eq, h.x c]
  show X (_) = X _
  refine congrArg X (funext fun a => Fin.ext ?_)
  match a with
  | ⟨0, _⟩ =>
    show Layout.meshLin [2, 2] c.val [0] * 512 + ((rown c).emb (ix2 t k) (0 : Fin 2)).val = 512 * (c.val / 2) + 256 * (c.val % 2) + t.val
    rw [lin0, emb_val (rown c) (fun _ => rfl) (ix2 t k) (0 : Fin 2)]
    show c.val / 2 * 512 + (k0_off1 c 0 + t.val) = _
    rw [k0_off1_eq]
    show c.val / 2 * 512 + (256 * (c.val % 2) + t.val) = _
    omega
  | ⟨1, _⟩ =>
    show 0 * 1024 + ((rown c).emb (ix2 t k) (1 : Fin 2)).val = k.val
    rw [emb_val (rown c) (fun _ => rfl) (ix2 t k) (1 : Fin 2)]
    show 0 * 1024 + (k0_off1 c 1 + k.val) = _
    rw [k0_off1_eq]
    show 0 * 1024 + (0 + k.val) = _
    omega

theorem Parts.rstg_at (h : Parts m X R W1 W2) (c : Dev nD) (k : Fin 1024) (e : Fin 4) : rstg m c (ix2 k e) = R (ix2 k (ex c e)) := by
  rw [rstg_eq, h.r c]
  show R (_) = R _
  refine congrArg R (funext fun a => Fin.ext ?_)
  match a with
  | ⟨0, _⟩ => show 0 * 1024 + k.val = k.val; omega
  | ⟨1, _⟩ => show Layout.meshLin [2, 2] c.val [0] * 4 + e.val = 4 * (c.val / 2) + e.val; rw [lin0]; omega

theorem Parts.W1e_at (h : Parts m X R W1 W2) (c : Dev nD) (e : Fin 4) (k : Fin 1024) (f : Fin 2048) :
    W1e m c e (ix3 0 k f) = W1 (ix3 (ex c e) k f) := by
  show (m ((c : Thread nD τ).loc main_arg2)) ((re1 e).emb (ix3 0 k f)) = _
  rw [h.w1 c]
  show W1 (_) = W1 _
  refine congrArg W1 (funext fun a => Fin.ext ?_)
  match a with
  | ⟨0, _⟩ =>
    show Layout.meshLin [2, 2] c.val [0] * 4 + ((re1 e).emb (ix3 0 k f) (0 : Fin 3)).val = 4 * (c.val / 2) + e.val
    rw [lin0, emb_val (re1 e) (fun _ => rfl) (ix3 0 k f) (0 : Fin 3)]
    show c.val / 2 * 4 + (e.val + 0) = _
    omega
  | ⟨1, _⟩ =>
    show 0 * 1024 + ((re1 e).emb (ix3 0 k f) (1 : Fin 3)).val = k.val
    rw [emb_val (re1 e) (fun _ => rfl) (ix3 0 k f) (1 : Fin 3)]
    show 0 * 1024 + (0 + k.val) = _
    omega
  | ⟨2, _⟩ =>
    show 0 * 2048 + ((re1 e).emb (ix3 0 k f) (2 : Fin 3)).val = f.val
    rw [emb_val (re1 e) (fun _ => rfl) (ix3 0 k f) (2 : Fin 3)]
    show 0 * 2048 + (0 + f.val) = _
    omega

theorem Parts.W2e_at (h : Parts m X R W1 W2) (c : Dev nD) (e : Fin 4) (f : Fin 2048) (d : Fin 1024) :
    W2e m c e (ix3 0 f d) = W2 (ix3 (ex c e) f d) := by
  show (m ((c : Thread nD τ).loc main_arg3)) ((re2 e).emb (ix3 0 f d)) = _
  rw [h.w2 c]
  show W2 (_) = W2 _
  refine congrArg W2 (funext fun a => Fin.ext ?_)
  match a with
  | ⟨0, _⟩ =>
    show Layout.meshLin [2, 2] c.val [0] * 4 + ((re2 e).emb (ix3 0 f d) (0 : Fin 3)).val = 4 * (c.val / 2) + e.val
    rw [lin0, emb_val (re2 e) (fun _ => rfl) (ix3 0 f d) (0 : Fin 3)]
    show c.val / 2 * 4 + (e.val + 0) = _
    omega
  | ⟨1, _⟩ =>
    show 0 * 2048 + ((re2 e).emb (ix3 0 f d) (1 : Fin 3)).val = f.val
    rw [emb_val (re2 e) (fun _ => rfl) (ix3 0 f d) (1 : Fin 3)]
    show 0 * 2048 + (0 + f.val) = _
    omega
  | ⟨2, _⟩ =>
    show 0 * 1024 + ((re2 e).emb (ix3 0 f d) (2 : Fin 3)).val = d.val
    rw [emb_val (re2 e) (fun _ => rfl) (ix3 0 f d) (2 : Fin 3)]
    show 0 * 1024 + (0 + d.val) = _
    omega

/-! ## The gates, the weights and the experts -/

/-- A gate computed from the blocks is the gate of the whole arrays. -/
theorem Parts.gate_at (h : Parts m X R W1 W2) (c d : Dev nD) (t : Fin 256) :
    gate (T := 256) (E := 4) (xlo m c) (rstg m d) t = fun e => gate X R (row c t) (ex d e) :=
  funext fun e => Finset.sum_congr rfl fun k _ => by rw [h.xlo_at, h.rstg_at]

/-- An expert's output computed from the blocks is the one of the whole arrays. -/
theorem Parts.yv_at (h : Parts m X R W1 W2) (c d : Dev nD) (xb : FVec Ideal S256x1024 .bf16) (hx : ∀ t k, xb (ix2 t k) = xlo m c (ix2 t k))
    (e : Fin 4) (t : Fin 256) (j : Fin 1024) :
    yv (T := 256) (E := 1) xb (W1e m d e) (W2e m d e) 0 t j = yv X W1 W2 (ex d e) (row c t) j := by
  unfold yv hid
  refine Finset.sum_congr rfl fun f _ => ?_
  rw [h.W2e_at]
  refine congrArg (fun z => max z 0 * W2 (ix3 (ex d e) f j)) (Finset.sum_congr rfl fun k _ => ?_)
  rw [hx, h.xlo_at, h.W1e_at]

theorem blo_at (c : Dev nD) (t : Fin 256) (k : Fin 1024) : blo m c (ix2 t k) = xlo m c (ix2 t k) := by
  unfold blo k0_pay7
  rw [shapeCast_self]; rfl
theorem bhi_at (c : Dev nD) (t : Fin 256) (k : Fin 1024) : bhi m c (ix2 t k) = xlo m (xn c) (ix2 t k) := by
  unfold bhi k0_pay32
  rw [shapeCast_self]; rfl

theorem xn_div (c : Dev nD) : (xn c).val / 2 = 1 - c.val / 2 := by revert c; decide

theorem cov (c d : Dev nD) (hd : d.val / 2 = 1 - c.val / 2) (e : Fin 8) : (∃ j, ex c j = e) ∨ ∃ j, ex d j = e :=
  cover ⟨c.val / 2, by have : c.val < 4 := c.isLt; omega⟩ (ex c) (ex d) (fun _ => rfl) (fun j => by
    show 4 * (d.val / 2) + j.val = _
    rw [hd]) e

section Row
variable (c : Dev nD) (t : Fin 256) (d : Fin 1024) {p q : Fin 8} {v : EReal}

/-- The weights of a device's experts for its own tokens. -/
theorem Parts.wlo_at (h : Parts m X R W1 W2) (hp : Picked (gate X R (row c t)) p q v) (e : Fin 4) :
    wlo m c (ix2 t e) = wt (gate X R (row c t)) p q (ex c e) := by
  unfold wlo
  rw [gateLo_apply, h.gate_at c c, h.gate_at c (xn c)]
  exact kw_eq hp (cov c (xn c) (xn_div c)) e
/-- The weights of the neighbour's experts for the device's tokens. -/
theorem Parts.whi_at (h : Parts m X R W1 W2) (hp : Picked (gate X R (row c t)) p q v) (e : Fin 4) :
    whi m (xn c) (ix2 t e) = wt (gate X R (row c t)) p q (ex (xn c) e) := by
  unfold whi
  rw [gateHi_apply, xn_xn, h.gate_at c (xn c), h.gate_at c c]
  exact kw_eq hp (cov (xn c) c (by rw [xn_div]; have : c.val < 4 := c.isLt; omega)) e

/-- Expert `e`'s share of an entry of the result. -/
abbrev share (X : A2 1024 1024) (R : A2 1024 8) (W1 : A3 8 1024 2048) (W2 : A3 8 2048 1024) (p q : Fin 8) (T d : Fin 1024) (e : Fin 8) : EReal :=
  yv X W1 W2 e T d * wt (gate X R T) p q e

theorem Parts.accLo_at (h : Parts m X R W1 W2) (hp : Picked (gate X R (row c t)) p q v) :
    accLo m c (ix2 t d) = ((share X R W1 W2 p q (row c t) d (ex c 0) + share X R W1 W2 p q (row c t) d (ex c 1))
      + share X R W1 W2 p q (row c t) d (ex c 2)) + share X R W1 W2 p q (row c t) d (ex c 3) := by
  unfold accLo acc2 acc0
  rw [pay57_apply, pay54_apply, pay17_apply]
  simp only [h.yv_at c c _ (blo_at c), h.wlo_at c t hp]

theorem Parts.accHi_at (h : Parts m X R W1 W2) (hp : Picked (gate X R (row c t)) p q v) :
    accHi m (xn c) (ix2 t d) = ((share X R W1 W2 p q (row c t) d (ex (xn c) 0) + share X R W1 W2 p q (row c t) d (ex (xn c) 1))
      + share X R W1 W2 p q (row c t) d (ex (xn c) 2)) + share X R W1 W2 p q (row c t) d (ex (xn c) 3) := by
  have hb : ∀ t k, bhi m (xn c) (ix2 t k) = xlo m c (ix2 t k) := fun t k => by rw [bhi_at, xn_xn]
  unfold accHi
  rw [pay53_apply, pay43_apply, pay33_apply]
  simp only [h.yv_at c (xn c) _ hb, h.whi_at c t hp]

/-- A row a device works on holds the layer's values. -/
theorem Parts.sums_at (h : Parts m X R W1 W2) (hp : Picked (gate X R (row c t)) p q v) :
    sums m c (ix2 t d) = layer X R W1 W2 p q (row c t) d := by
  unfold sums
  rw [addf_apply, h.accLo_at c t d hp, h.accHi_at c t d hp]
  refine (groups_sum (share X R W1 W2 p q (row c t) d) ⟨c.val / 2, by have : c.val < 4 := c.isLt; omega⟩ (ex c) (ex (xn c))
    (fun _ => rfl) (fun j => by
      show 4 * ((xn c).val / 2) + j.val = _
      rw [xn_div])).trans ?_
  exact sum_wt hp.ne _

end Row

/-- A device's result block holds the layer's values, at the rows whose gates are told apart. -/
theorem Parts.OUT_at (h : Parts m X R W1 W2) (c : Dev nD) (i : S512x1024.Idx) (T : Fin 1024)
    (hT : T.val = 512 * (c.val / 2) + (i (0 : Fin 2)).val) (d : Fin 1024) (hd : d.val = (i (1 : Fin 2)).val) {p q : Fin 8} {v : EReal}
    (hp : Picked (gate X R T) p q v) : OUT m c i = layer X R W1 W2 p q T d := by
  have hc : c.val < 4 := c.isLt
  have hi : (i (0 : Fin 2)).val < 512 := (i (0 : Fin 2)).isLt
  have hs : sub i = ix2 ⟨(i (0 : Fin 2)).val % 256, Nat.mod_lt _ (by decide)⟩ d := by
    funext a
    match a with
    | ⟨0, _⟩ => rfl
    | ⟨1, _⟩ => exact Fin.ext hd.symm
  have hr : T = row (colDev c ((i (0 : Fin 2)).val / 256) (row_half i)) ⟨(i (0 : Fin 2)).val % 256, Nat.mod_lt _ (by decide)⟩ := by
    apply Fin.ext
    show T.val = 512 * ((2 * (c.val / 2) + (i (0 : Fin 2)).val / 256) / 2) + 256 * ((2 * (c.val / 2) + (i (0 : Fin 2)).val / 256) % 2) + (i (0 : Fin 2)).val % 256
    omega
  unfold OUT
  rw [hs]
  subst hr
  exact h.sums_at _ _ _ hp

/-- The result array ends holding what the body left in its staging buffer. -/
theorem finalA_o (m : (ℓ : Loc nD τ sig) → Buf (Elt Ideal) ℓ) (ρ : Dev nD → PrngReg) (c : Dev nD) : finalA m ρ c (2 : Fin 3) = OUT m c := by
  have hr : ∀ f, (win0_2.blk (0 : Fin 1)).view.read (Elt Ideal) f = f := fun f =>
    Memref.read_access_unit_zero (Elt Ideal) main_v1 (funext fun a => by fin_cases a <;> decide) (fun a => by fin_cases a <;> decide) f
  refine (hr _).symm.trans ?_
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

end Cert.Proof.Val

end
-- ==== Proof.ValueTop.lean ====
/-
  The greatest gates of a row, as the stable sort gives them: a `top_k` along the rows of eight gates read at an
  index, and the places of the three greatest when they are told apart.
-/
module

public import proofs.«01_k».proof.Proof.ValueMath
public import Idealize.ShloMosaic.Lib.SortFacts
public import Idealize.ShloMosaic.Lib.StackMember
public import Idealize.ShloMosaic.Lib.Pipeline.Value

@[expose] public section

noncomputable section

namespace Cert.Proof.Val

open Idealize.ShloMosaic Idealize.ShloMosaic.ValueIdx
open scoped BigOperators

/-- The places of a row's gates, the greatest first, ties in order. -/
def srt (g : Fin 8 → EReal) : Fin 8 → Fin 8 :=
  sortedFrom fun k k' => FloatOps.cmpfTotal (F := Ideal) (φ := .f32) .gt (g k) (g k') == 1#1

theorem gt_iff (x y : EReal) : (FloatOps.cmpfTotal (F := Ideal) (φ := .f32) .gt x y == 1#1) = decide (y < x) := by
  rw [Ideal.cmpfTotal_def]
  show (BitVec.ofBool (decide (y < x)) == 1#1) = _
  by_cases h : y < x <;> simp [h]

theorem srt_eq (g : Fin 8 → EReal) : srt g = sortedFrom fun k k' => decide (g k' < g k) := by
  unfold srt; simp only [gt_iff]

/-- A later place's gate is no greater than an earlier place's. -/
theorem srt_le (g : Fin 8 → EReal) (i j : Fin 8) (h : i < j) : g (srt g j) ≤ g (srt g i) := by
  rw [srt_eq]
  have := sortedFrom_noInversion (fun k k' => decide (g k' < g k)) (fun k k' => decide (g k' < g k))
    (fun a b hab => by simp only [decide_eq_true_eq, decide_eq_false_iff_not, not_lt] at hab ⊢; exact hab.le)
    (fun _ _ h => h)
    (fun a b c hab hbc => by simp only [decide_eq_false_iff_not, not_lt] at hab hbc ⊢; exact hab.trans hbc) i j h
  simpa using this

/-- The first three places, when their gates are told apart. -/
theorem picked_srt (g : Fin 8 → EReal) (h1 : g (srt g 1) < g (srt g 0)) (h2 : g (srt g 2) < g (srt g 1)) (hf : g (srt g 0) < ⊤) :
    Picked g (srt g 0) (srt g 1) (g (srt g 2)) where
  ne := fun e => by rw [← e] at h1; exact lt_irrefl _ h1
  gt1 := h1
  gt2 := h2
  rest e h0 h1' := by
    obtain ⟨j, rfl⟩ : ∃ j, srt g j = e := by rw [srt_eq]; exact sortedFrom_surjective _ e
    by_cases hj : j = 2
    · rw [hj]
    · refine srt_le g 2 j ?_
      have a : j ≠ 0 := fun h => h0 (by rw [h])
      have b : j ≠ 1 := fun h => h1' (by rw [h])
      have a' : j.val ≠ 0 := fun h => a (Fin.ext h)
      have b' : j.val ≠ 1 := fun h => b (Fin.ext h)
      have c' : j.val ≠ 2 := fun h => hj (Fin.ext h)
      show 2 < j.val
      omega
  fin := hf

variable {K : Nat} (G : FVec Ideal ⟨2, ![1024, 8]⟩ .f32) (h : (⟨2, ![1024, 8]⟩ : Shape).Slices (fun _ => 0) ⟨2, ![1024, K]⟩)
  (t : Fin 1024) (j : Fin K) (hj : j.val < 8)

theorem along_ix (k : Fin 8) (e : Fin 8) : Shape.Idx.along (s := ⟨2, ![1024, 8]⟩) (ix2 t e) (1 : Fin 2) k = ix2 t k := by
  unfold Shape.Idx.along
  funext a
  match a with
  | ⟨0, _⟩ => rfl
  | ⟨1, _⟩ => rfl

/-- The values of a `top_k`, read at an index. -/
theorem topK_fst : (Host.topK ⟨2, ![1024, K]⟩ 1 (FloatOps.cmpfTotal .gt) G h).1 (ix2 t j) = G (ix2 t (srt (fun e => G (ix2 t e)) ⟨j.val, hj⟩)) := by
  unfold Host.topK
  dsimp only
  refine (extractStridedSlice_apply _ _ h (ix2 t j) (ix2 t ⟨j.val, hj⟩) fun a => match a with
    | ⟨0, _⟩ => (Nat.zero_add _).symm
    | ⟨1, _⟩ => (Nat.zero_add _).symm).trans ?_
  unfold Host.sort2
  rw [dif_pos (show 1 < 2 by decide)]
  show G (Shape.Idx.along (s := ⟨2, ![1024, 8]⟩) (ix2 t ⟨j.val, hj⟩) (1 : Fin 2) (sortedFrom (n := 8) (fun k k' => FloatOps.cmpfTotal .gt
    (G (Shape.Idx.along (s := ⟨2, ![1024, 8]⟩) (ix2 t ⟨j.val, hj⟩) (1 : Fin 2) k)) (G (Shape.Idx.along (s := ⟨2, ![1024, 8]⟩) (ix2 t ⟨j.val, hj⟩) (1 : Fin 2) k')) == 1#1) ⟨j.val, hj⟩)) = _
  simp only [along_ix]
  rfl

/-- The places of a `top_k`, read at an index. -/
theorem topK_snd : (Host.topK ⟨2, ![1024, K]⟩ 1 (FloatOps.cmpfTotal .gt) G h).2 (ix2 t j)
    = BitVec.ofNat 32 (srt (fun e => G (ix2 t e)) ⟨j.val, hj⟩).val := by
  unfold Host.topK
  dsimp only
  refine (extractStridedSlice_apply _ _ h (ix2 t j) (ix2 t ⟨j.val, hj⟩) fun a => match a with
    | ⟨0, _⟩ => (Nat.zero_add _).symm
    | ⟨1, _⟩ => (Nat.zero_add _).symm).trans ?_
  unfold Host.sort2
  rw [dif_pos (show 1 < 2 by decide)]
  show BitVec.ofNat 32 (sortedFrom (n := 8) (fun k k' => FloatOps.cmpfTotal .gt
    (G (Shape.Idx.along (s := ⟨2, ![1024, 8]⟩) (ix2 t ⟨j.val, hj⟩) (1 : Fin 2) k)) (G (Shape.Idx.along (s := ⟨2, ![1024, 8]⟩) (ix2 t ⟨j.val, hj⟩) (1 : Fin 2) k')) == 1#1) ⟨j.val, hj⟩).val = _
  simp only [along_ix]
  rfl

/-- Two expert numbers are the same word only when they are the same. -/
theorem word_eq (p e : Fin 8) : BitVec.ofNat 32 p.val = BitVec.ofNat 32 e.val ↔ p = e := by
  revert p e; decide

end Cert.Proof.Val

end
-- ==== Proof.ValueRef.lean ====
/-
  The reference's result read at an index, at exact values, at a row whose three greatest gates are told apart.
-/
module

public import proofs.«01_k».proof.Proof.ValueTop
public import proofs.«01_k».proof.Proof.Gen.ReferenceIdeal.Run
public import Idealize.ShloMosaic.Lib.KernelVsHost

@[expose] public section

noncomputable section

namespace Cert.Proof.Val

open Cert.ReferenceIdeal Cert.ReferenceIdeal.Gen
open Idealize.ShloMosaic Idealize.ShloMosaic.ValueIdx
open Idealize.ShloMosaic.TcCoe
open scoped BigOperators

/-! ## The layout operations -/

section Lay
variable {α : Type}

/-- A column as a vector. -/
theorem uncol_apply (z : S1024x1.Idx → α) (h : S1024x1.ShapeCasts S1024) (t : Fin 1024) : shapeCast S1024 z h (ix1 t) = z (ix2 t 0) :=
  shapeCast_apply z h (ix1 t) (ix2 t 0) (by
    rw [Shape.rowMajor_val_two, Shape.rowMajor_val_one]
    show t.val * 1 + 0 = t.val
    omega)

/-- A column of a matrix, as a vector. -/
theorem column_apply {K : Nat} (x : (⟨2, ![1024, K]⟩ : Shape).Idx → α) (o : Nat) (ho : o < K) (h : (⟨2, ![1024, K]⟩ : Shape).Slices ![0, o] S1024x1)
    (h' : S1024x1.ShapeCasts S1024) (t : Fin 1024) : shapeCast S1024 (extractStridedSlice S1024x1 ![0, o] x h) h' (ix1 t) = x (ix2 t ⟨o, ho⟩) := by
  rw [uncol_apply]
  exact extractStridedSlice_apply _ x h _ _ fun a => match a with
    | ⟨0, _⟩ => (Nat.zero_add _).symm
    | ⟨1, _⟩ => rfl

/-- A vector over the rows, laid along the columns of a pair of columns. -/
theorem rows2_apply (v : S1024.Idx → α) (t : Fin 1024) (j : Fin 2) :
    broadcastInDim S1024x2 ![0, 1] bcast_S1024x1_S1024x2_0_1 (broadcastInDim S1024x1 ![0] bcast_S1024_S1024x1_0 v) (ix2 t j) = v (ix1 t) :=
  (broadcastInDim_apply _ _ _ _ (ix2 t 0) fun a => match a with
    | ⟨0, _⟩ => rfl
    | ⟨1, _⟩ => rfl).trans (broadcastInDim_apply _ _ _ _ (ix1 t) fun a => match a with
    | ⟨0, _⟩ => rfl)

/-- A vector over the rows, laid along the experts and the columns. -/
theorem rows3_apply (v : S1024.Idx → α) (e : Fin 8) (t d : Fin 1024) :
    broadcastInDim S8x1024x1024 ![0, 1, 2] bcast_S1x1024x1_S8x1024x1024_0_1_2 (broadcastInDim S1x1024x1 ![1] bcast_S1024_S1x1024x1_1 v) (ix3 e t d) = v (ix1 t) :=
  (broadcastInDim_apply _ _ _ _ (ix3 0 t 0) fun a => match a with
    | ⟨0, _⟩ => rfl
    | ⟨1, _⟩ => rfl
    | ⟨2, _⟩ => rfl).trans (broadcastInDim_apply _ _ _ _ (ix1 t) fun a => match a with
    | ⟨0, _⟩ => rfl)

/-- A table over experts and rows, laid along the columns. -/
theorem tab3_apply (v : S8x1024.Idx → α) (e : Fin 8) (t d : Fin 1024) :
    broadcastInDim S8x1024x1024 ![0, 1, 2] bcast_S8x1024x1_S8x1024x1024_0_1_2 (broadcastInDim S8x1024x1 ![0, 1] bcast_S8x1024_S8x1024x1_0_1 v) (ix3 e t d) = v (ix2 e t) :=
  (broadcastInDim_apply _ _ _ _ (ix3 e t 0) fun a => match a with
    | ⟨0, _⟩ => rfl
    | ⟨1, _⟩ => rfl
    | ⟨2, _⟩ => rfl).trans (broadcastInDim_apply _ _ _ _ (ix2 e t) fun a => match a with
    | ⟨0, _⟩ => rfl
    | ⟨1, _⟩ => rfl)

/-- A vector over the rows, laid along the experts. -/
theorem lay8_apply (v : S1024.Idx → α) (e : Fin 8) (t : Fin 1024) :
    broadcastInDim S8x1024 ![0, 1] bcast_S1x1024_S8x1024_0_1 (broadcastInDim S1x1024 ![1] bcast_S1024_S1x1024_1 v) (ix2 e t) = v (ix1 t) :=
  (broadcastInDim_apply _ _ _ _ (ix2 0 t) fun a => match a with
    | ⟨0, _⟩ => rfl
    | ⟨1, _⟩ => rfl).trans (broadcastInDim_apply _ _ _ _ (ix1 t) fun a => match a with
    | ⟨0, _⟩ => rfl)

/-- A vector over the experts, laid along the rows. -/
theorem exps_apply (v : S8.Idx → α) (e : Fin 8) (t : Fin 1024) :
    broadcastInDim S8x1024 ![0, 1] bcast_S8x1_S8x1024_0_1 (broadcastInDim S8x1 ![0] bcast_S8_S8x1_0 v) (ix2 e t) = v (ix1 e) :=
  (broadcastInDim_apply _ _ _ _ (ix2 e 0) fun a => match a with
    | ⟨0, _⟩ => rfl
    | ⟨1, _⟩ => rfl).trans (broadcastInDim_apply _ _ _ _ (ix1 e) fun a => match a with
    | ⟨0, _⟩ => rfl)

end Lay

/-! ## The parts of the reference's term -/

variable (X : FVec Ideal S1024x1024 .f32) (R : FVec Ideal S1024x8 .f32) (W1 : FVec Ideal S8x1024x2048 .f32) (W2 : FVec Ideal S8x2048x1024 .f32)

/-- The gates. -/
def gatesR : FVec Ideal S1024x8 .f32 := Host.dotGeneral dot_S1024x1024_S1024x8_S1024x8_1_0_0_1_n_n none X R

theorem gatesR_apply (t : Fin 1024) (e : Fin 8) : gatesR X R (ix2 t e) = gate X R t e :=
  StackMember.dotGeneral_plain_apply (m := 1024) (n := 8) (k := 1024) none X R t e

/-- The two greatest gates of every row, and their places. -/
def valsR (G : FVec Ideal S1024x8 .f32) : FVec Ideal S1024x2 .f32 := (Host.topK S1024x2 1 (FloatOps.cmpfTotal .gt) G sliceFits_S1024x8_S1024x2).1
def idxR (G : FVec Ideal S1024x8 .f32) : IVec S1024x2 32 := (Host.topK S1024x2 1 (FloatOps.cmpfTotal .gt) G sliceFits_S1024x8_S1024x2).2

/-- The exponentials of a row's two gates, less the greater. -/
def expsR (V : FVec Ideal S1024x2 .f32) : FVec Ideal S1024x2 .f32 :=
  Host.exp (subf V (broadcastInDim S1024x2 ![0, 1] bcast_S1024x1_S1024x2_0_1 (broadcastInDim S1024x1 ![0] bcast_S1024_S1024x1_0
    (Host.reduce FloatOps.maximumf V (constant S_ .f32 0xFF800000#32) reducesTo_S1024x2_S1024_d1 h_S_))))
/-- The weights of a row's two experts. -/
def softR (V : FVec Ideal S1024x2 .f32) : FVec Ideal S1024x2 .f32 :=
  Host.divf (expsR V) (broadcastInDim S1024x2 ![0, 1] bcast_S1024x1_S1024x2_0_1 (broadcastInDim S1024x1 ![0] bcast_S1024_S1024x1_0
    (Host.reduceAdd (expsR V) (constant S_ .f32 0x00000000#32) reducesTo_S1024x2_S1024_d1 h_S_)))

/-- Every expert's output for every token. -/
def ysR : FVec Ideal S8x1024x1024 .f32 :=
  Host.dotGeneral dot_S8x1024x2048_S8x2048x1024_S8x1024x1024_2_1_1_2_0_0 none (maximumf (transpose S8x1024x2048 [0, 2, 1] (Host.dotGeneral dot_S8x1024x2048_S1024x1024_S8x2048x1024_1_1_02_0_n_n none W1 X) transposes_S8x2048x1024_S8x1024x2048_0_2_1) (broadcastInDim S8x1024x2048 ![] bcast_S_S8x1024x2048 (constant S_ .f32 0x00000000#32))) W2

/-- The weighted output of the experts that `I` names. -/
def pickR (I : IVec S1024 32) (w : FVec Ideal S1024 .f32) (Y : FVec Ideal S8x1024x1024 .f32) : FVec Ideal S1024x1024 .f32 :=
  Host.reduceAdd (select (broadcastInDim S8x1024x1024 ![0, 1, 2] bcast_S8x1024x1_S8x1024x1024_0_1_2 (broadcastInDim S8x1024x1 ![0, 1] bcast_S8x1024_S8x1024x1_0_1
      (cmpi .eq (broadcastInDim S8x1024 ![0, 1] bcast_S1x1024_S8x1024_0_1 (broadcastInDim S1x1024 ![1] bcast_S1024_S1x1024_1 I))
        (broadcastInDim S8x1024 ![0, 1] bcast_S8x1_S8x1024_0_1 (broadcastInDim S8x1 ![0] bcast_S8_S8x1_0 (iotaInDim S8 32 0))))))
    (mulf Y (broadcastInDim S8x1024x1024 ![0, 1, 2] bcast_S1x1024x1_S8x1024x1024_0_1_2 (broadcastInDim S1x1024x1 ![1] bcast_S1024_S1x1024x1_1 w)))
    (broadcastInDim S8x1024x1024 ![] bcast_S_S8x1024x1024 (id (constant S_ .f32 0x00000000#32)))) (constant S_ .f32 0x00000000#32) reducesTo_S8x1024x1024_S1024x1024_d0 h_S_

/-- The result. -/
def outR : FVec Ideal S1024x1024 .f32 :=
  addf (addf (broadcastInDim S1024x1024 ![] bcast_S_S1024x1024 (constant S_ .f32 0x00000000#32))
    (pickR (shapeCast S1024 (extractStridedSlice S1024x1 ![0, 0] (idxR (gatesR X R)) slices_S1024x2_S1024x1_0_0) shapeCasts_S1024x1_S1024)
      (shapeCast S1024 (extractStridedSlice S1024x1 ![0, 0] (softR (valsR (gatesR X R))) slices_S1024x2_S1024x1_0_0) shapeCasts_S1024x1_S1024) (ysR X W1 W2)))
    (pickR (shapeCast S1024 (extractStridedSlice S1024x1 ![0, 1] (idxR (gatesR X R)) slices_S1024x2_S1024x1_0_1) shapeCasts_S1024x1_S1024)
      (shapeCast S1024 (extractStridedSlice S1024x1 ![0, 1] (softR (valsR (gatesR X R))) slices_S1024x2_S1024x1_0_1) shapeCasts_S1024x1_S1024) (ysR X W1 W2))

set_option maxRecDepth 8192 in
/-- The reference's printed result is the term of its parts. -/
theorem res_eq (m : (ℓ : Loc nD τ sig) → Buf (Elt Ideal) ℓ) (c : Dev nD) :
    Cert.ReferenceIdeal.Value.res_main_v49 m c = outR (m ((c.tc : Thread nD τ).loc main_arg0)) (m ((c.tc : Thread nD τ).loc main_arg1))
      (m ((c.tc : Thread nD τ).loc main_arg2)) (m ((c.tc : Thread nD τ).loc main_arg3)) := rfl

/-! ## The experts -/

/-- The first product, with the tokens as its second operand. -/
theorem dotW_apply (e : Fin 8) (f : Fin 2048) (t : Fin 1024) :
    Host.dotGeneral dot_S8x1024x2048_S1024x1024_S8x2048x1024_1_1_02_0_n_n none W1 X (ix3 e f t) = ∑ k : Fin 1024, W1 (ix3 e k f) * X (ix2 t k) := by
  show FloatOps.dotGeneral _ none _ W1 X (ix3 e f t) = _
  rw [Ideal.dotGeneral_apply, ← Equiv.sum_comp (contrEquiv1 dot_S8x1024x2048_S1024x1024_S8x2048x1024_1_1_02_0_n_n 1024 rfl rfl).symm]
  refine Finset.sum_congr rfl fun k _ => ?_
  have hk := contrEquiv1_symm_val dot_S8x1024x2048_S1024x1024_S8x2048x1024_1_1_02_0_n_n 1024 rfl rfl k
  refine congrArg₂ (· * ·) (congrArg W1 ?_) (congrArg X ?_)
  · funext a; apply Fin.ext
    match a with
    | ⟨0, _⟩ => simp [DotDims.lhsIdx, dot_S8x1024x2048_S1024x1024_S8x2048x1024_1_1_02_0_n_n]; rfl
    | ⟨1, _⟩ => simp [DotDims.lhsIdx, dot_S8x1024x2048_S1024x1024_S8x2048x1024_1_1_02_0_n_n]; exact hk
    | ⟨2, _⟩ => simp [DotDims.lhsIdx, dot_S8x1024x2048_S1024x1024_S8x2048x1024_1_1_02_0_n_n]; rfl
  · funext a; apply Fin.ext
    match a with
    | ⟨0, _⟩ => simp [DotDims.rhsIdx, dot_S8x1024x2048_S1024x1024_S8x2048x1024_1_1_02_0_n_n]; rfl
    | ⟨1, _⟩ => simp [DotDims.rhsIdx, dot_S8x1024x2048_S1024x1024_S8x2048x1024_1_1_02_0_n_n]; exact hk

theorem ysR_apply (e : Fin 8) (t d : Fin 1024) : ysR X W1 W2 (ix3 e t d) = yv X W1 W2 e t d := by
  refine (StackMember.dotGeneral_stack_apply (G := 8) (m := 1024) (n := 1024) (k := 2048) dot_S8x1024x2048_S8x2048x1024_S8x1024x1024_2_1_1_2_0_0_wf none _ W2 e t d).trans ?_
  unfold yv hid
  refine Finset.sum_congr rfl fun f _ => ?_
  refine congrArg (· * W2 (ix3 e f d)) ?_
  rw [maximumf_apply, broadcastInDim_scalar_apply, constant_apply, Ideal.ofBits_zero_f32]
  refine congrArg (max · 0) ?_
  refine (transpose_apply _ _ _ _ (ix3 e f t) fun b => match b with
    | ⟨0, _⟩ => rfl
    | ⟨1, _⟩ => rfl
    | ⟨2, _⟩ => rfl).trans ?_
  rw [dotW_apply]
  exact Finset.sum_congr rfl fun k _ => mul_comm _ _

/-! ## The weights -/

theorem red2 : S1024x2.Reduces [1] S1024 := by decide
theorem red8 : S8x1024x1024.Reduces [0] S1024x1024 := by decide

theorem lift2 (t : Fin 1024) (j : Fin 2) : red2.lift (ix1 t) j = (ix2 t j : S1024x2.Idx) := by
  funext a; apply Fin.ext
  match a with
  | ⟨0, _⟩ => rfl
  | ⟨1, _⟩ => rfl
theorem lift8 (t d : Fin 1024) (e : Fin 8) : red8.lift (ix2 t d) e = (ix3 e t d : S8x1024x1024.Idx) := by
  funext a; apply Fin.ext
  match a with
  | ⟨0, _⟩ => rfl
  | ⟨1, _⟩ => rfl
  | ⟨2, _⟩ => rfl

/-- The greater of two numbers, at their row. -/
theorem max2_apply (V : FVec Ideal S1024x2 .f32) (t : Fin 1024) :
    Host.reduce FloatOps.maximumf V (constant S_ .f32 0xFF800000#32) reducesTo_S1024x2_S1024_d1 h_S_ (ix1 t) = max (V (ix2 t 0)) (V (ix2 t 1)) := by
  refine (congrFun (hostReduce_maximumf_eq_multiReduction V 0xFF800000#32 reducesTo_S1024x2_S1024_d1 h_S_ red2 (.inl rfl) rfl) (ix1 t)).trans ?_
  refine (Ideal.multiReduction_maximumf_single V _ red2 _ _ (ix1 t)).trans ?_
  have hb : FloatOps.ofBits (F := Ideal) .f32 0xFF800000#32 = (⊥ : EReal) := by simp [Ideal.ofBits, Ideal.ieee]
  rw [hb]
  show (Finset.univ : Finset (Fin 2)).fold max ⊥ (V ∘ red2.lift (ix1 t)) = _
  rw [show (V ∘ red2.lift (ix1 t)) = fun j : Fin 2 => V (ix2 t j) from funext fun j => congrArg V (lift2 t j)]
  show (Finset.univ : Finset (Fin 2)).sup (fun j => V (ix2 t j)) = _
  rw [Fin.univ_succ, Finset.sup_cons, Finset.sup_map]
  simp

theorem expsR_apply (V : FVec Ideal S1024x2 .f32) (t : Fin 1024) (j : Fin 2) (h : V (ix2 t 1) ≤ V (ix2 t 0)) :
    expsR V (ix2 t j) = Ideal.exp (V (ix2 t j) - V (ix2 t 0)) := by
  unfold expsR
  show Ideal.exp (V (ix2 t j) - _) = _
  rw [rows2_apply, max2_apply, max_eq_left h]

/-- The two weights of a row whose greater gate is finite. -/
theorem softR_apply (V : FVec Ideal S1024x2 .f32) (t : Fin 1024) (j : Fin 2) (h : V (ix2 t 1) < V (ix2 t 0)) (hf : V (ix2 t 0) < ⊤) :
    softR V (ix2 t j) = Ideal.div (Ideal.exp (V (ix2 t j) - V (ix2 t 0))) (1 + Ideal.exp (V (ix2 t 1) - V (ix2 t 0)))
      ∧ Ideal.exp (V (ix2 t 0) - V (ix2 t 0)) = 1 := by
  have h1 : Ideal.exp (V (ix2 t 0) - V (ix2 t 0)) = 1 := by
    rw [EReal.sub_self hf.ne (lt_of_le_of_lt bot_le h).ne']
    show ((Real.exp 0 : ℝ) : EReal) = 1
    rw [Real.exp_zero]; rfl
  refine ⟨?_, h1⟩
  unfold softR
  rw [hostDivf_apply, rows2_apply, expsR_apply V t j h.le, hostReduceAdd_apply, Ideal.hostReduceAdd_single _ red2, constant_apply,
    Ideal.ofBits_zero_f32, zero_add]
  refine congrArg (Ideal.div _) ?_
  show ∑ k : Fin 2, expsR V (red2.lift (ix1 t) k) = _
  simp only [lift2]
  rw [Fin.sum_univ_two, expsR_apply V t 0 h.le, expsR_apply V t 1 h.le, h1]

/-! ## The result -/

/-- A selection on an equality of two words. -/
theorem select_word {α : Type} (p e : Fin 8) (a b : α) :
    Scalar.select (IntOp.cmpi .eq (BitVec.ofNat 32 p.val) (BitVec.ofNat 32 e.val)) a b = if p = e then a else b := by
  by_cases h : p = e
  · subst h; rw [if_pos rfl]; simp [IntOp.cmpi, Scalar.select]
  · rw [if_neg h]
    have : BitVec.ofNat 32 p.val ≠ BitVec.ofNat 32 e.val := fun hw => h ((word_eq p e).mp hw)
    have hb : (BitVec.ofNat 32 p.val == BitVec.ofNat 32 e.val) = false := beq_eq_false_iff_ne.mpr this
    simp only [IntOp.cmpi, hb, Scalar.select]
    rfl

/-- The picked expert's weighted output. -/
theorem pickR_apply (I : IVec S1024 32) (w : FVec Ideal S1024 .f32) (Y : FVec Ideal S8x1024x1024 .f32) (t d : Fin 1024) (p : Fin 8)
    (hI : I (ix1 t) = BitVec.ofNat 32 p.val) : pickR I w Y (ix2 t d) = Y (ix3 p t d) * w (ix1 t) := by
  unfold pickR
  rw [hostReduceAdd_apply, Ideal.hostReduceAdd_single _ red8, constant_apply, Ideal.ofBits_zero_f32, zero_add]
  refine Eq.trans (Finset.sum_congr rfl fun (e : Fin 8) _ => ?_) (sum_select p fun e => Y (ix3 e t d) * w (ix1 t))
  rw [lift8, select_apply, tab3_apply, mulf_apply, rows3_apply, broadcastInDim_scalar_apply]
  show Scalar.select (IntOp.cmpi .eq _ _) _ _ = _
  rw [lay8_apply, exps_apply, hI, iotaInDim_apply]
  rw [show ((ix1 e : S8.Idx) 0).val = e.val from rfl, select_word]
  rw [show (id (constant S_ .f32 0x00000000#32) : FVec Ideal S_ .f32) ix0 = (0 : EReal) from Ideal.ofBits_zero_f32]

/-- The reference's result at a row whose three greatest gates are told apart is the layer's value. -/
theorem outR_apply (t d : Fin 1024) (hp : Picked (gate X R t) (srt (gate X R t) 0) (srt (gate X R t) 1) (gate X R t (srt (gate X R t) 2))) :
    outR X R W1 W2 (ix2 t d) = layer X R W1 W2 (srt (gate X R t) 0) (srt (gate X R t) 1) t d := by
  have hg : (fun e => gatesR X R (ix2 t e)) = gate X R t := funext fun e => gatesR_apply X R t e
  have hv : ∀ j : Fin 2, valsR (gatesR X R) (ix2 t j) = gate X R t (srt (gate X R t) ⟨j.val, by omega⟩) := fun j => by
    unfold valsR
    rw [topK_fst (gatesR X R) sliceFits_S1024x8_S1024x2 t j (by omega), gatesR_apply, hg]
  have hi : ∀ j : Fin 2, idxR (gatesR X R) (ix2 t j) = BitVec.ofNat 32 (srt (gate X R t) ⟨j.val, by omega⟩).val := fun j => by
    unfold idxR
    rw [topK_snd (gatesR X R) sliceFits_S1024x8_S1024x2 t j (by omega), hg]
  have v0 : valsR (gatesR X R) (ix2 t 0) = gate X R t (srt (gate X R t) 0) := hv 0
  have v1 : valsR (gatesR X R) (ix2 t 1) = gate X R t (srt (gate X R t) 1) := hv 1
  have hs := fun j => softR_apply (valsR (gatesR X R)) t j (by rw [v0, v1]; exact hp.gt1) (by rw [v0]; exact hp.fin)
  unfold outR
  rw [addf_apply, addf_apply, broadcastInDim_scalar_apply, constant_apply, Ideal.ofBits_zero_f32, zero_add,
    pickR_apply _ _ _ t d (srt (gate X R t) 0) (by rw [column_apply _ 0 (by decide)]; exact hi 0),
    pickR_apply _ _ _ t d (srt (gate X R t) 1) (by rw [column_apply _ 1 (by decide)]; exact hi 1),
    column_apply _ 0 (by decide), column_apply _ 1 (by decide), ysR_apply, ysR_apply]
  show yv X W1 W2 _ t d * softR (valsR (gatesR X R)) (ix2 t 0) + yv X W1 W2 _ t d * softR (valsR (gatesR X R)) (ix2 t 1) = _
  rw [(hs 0).1, (hs 1).1, (hs 0).2, v0, v1]
  rfl

end Cert.Proof.Val

end
-- ==== Proof.Algebraic.lean ====
/-
  The value claim: at the rows whose three greatest gates are told apart, with the greatest finite, the idealized
  kernel's result is the reference's.
-/
module

public import proofs.«01_k».proof.Defs
public import proofs.«01_k».proof.Proof.ValueKernel
public import proofs.«01_k».proof.Proof.ValueRef

@[expose] public section

noncomputable section

namespace Cert.Proof.Val

open Idealize.ShloMosaic Idealize.ShloMosaic.ValueIdx Idealize.SL.Sem
open Idealize.ShloMosaic.TcCoe
open scoped BigOperators

/-- What the mask's operations state of their shapes. -/
theorem maskFacts : Cert.On_untied.Facts where
  sliceFits_S1024x8_S1024x3 := by decide
  slices_S1024x3_S1024x1_0_0 := by decide
  shapeCasts_S1024x1_S1024 := by decide
  slices_S1024x3_S1024x1_0_1 := by decide
  slices_S1024x3_S1024x1_0_2 := by decide
  bcast_S_S1024 := by decide
  bcast_S1024_S1024x1_0 := by decide
  bcast_S1024x1_S1024x1024_0_1 := by decide
  dot_S1024x1024_S1024x8_S1024x8_1_0_0_1_n_n_wf := by decide

/-- A conjunction of bits is set only when both are. -/
theorem and_one {a b : BitVec 1} (h : a &&& b = 1#1) : a = 1#1 ∧ b = 1#1 := by revert a b; decide

/-- A decision's bit is set only when what it decides holds. -/
theorem ofBool_one {p : Prop} [Decidable p] (h : BitVec.ofBool (decide p) = 1#1) : p := by
  by_contra hp
  rw [decide_eq_false hp] at h
  exact absurd h (by decide)

/-- The word of positive infinity. -/
theorem top_word : FloatOps.ofBits (F := Ideal) .f32 0x7F800000#32 = (⊤ : EReal) := by simp [Ideal.ofBits, Ideal.ieee]

/-- A set bit of a comparison is the comparison. -/
theorem of_ogt {s : Shape} (a b : FVec Ideal s .f32) (i : s.Idx) (h : cmpf .ogt a b i = 1#1) : b i < a i := ofBool_one h
theorem of_olt {s : Shape} (a b : FVec Ideal s .f32) (i : s.Idx) (h : cmpf .olt a b i = 1#1) : a i < b i := ofBool_one h

/-- Where the mask is set, the row's three greatest gates are told apart and the greatest is finite. -/
theorem picked_of_mask [Cert.On_untied.Facts] (X : A2 1024 1024) (R : A2 1024 8) (W1 : A3 8 1024 2048) (W2 : A3 8 2048 1024) (t d : Fin 1024)
    (h : Cert.On_untied.fn (F := Ideal) X R W1 W2 (ix2 t d) = 1#1) :
    Picked (gate X R t) (srt (gate X R t) 0) (srt (gate X R t) 1) (gate X R t (srt (gate X R t) 2)) := by
  unfold Cert.On_untied.fn at h
  dsimp only at h
  have h' := ((broadcastInDim_apply _ _ _ _ (ix2 t 0) fun a => match a with
    | ⟨0, _⟩ => rfl
    | ⟨1, _⟩ => rfl).trans (broadcastInDim_apply _ _ _ _ (ix1 t) fun a => match a with
    | ⟨0, _⟩ => rfl)).symm.trans h
  obtain ⟨h12, h3⟩ := and_one h'
  obtain ⟨h1, h2⟩ := and_one h12
  have hc : ∀ (o : Nat) (ho : o < 3) (hs : (⟨2, ![1024, 3]⟩ : Shape).Slices ![0, o] Cert.On_untied.S1024x1) (hk : Cert.On_untied.S1024x1.ShapeCasts Cert.On_untied.S1024),
      (shapeCast Cert.On_untied.S1024 (extractStridedSlice Cert.On_untied.S1024x1 ![0, o]
        ((Host.topK Cert.On_untied.S1024x3 1 (FloatOps.cmpfTotal .gt) (gatesR X R) Cert.On_untied.Facts.sliceFits_S1024x8_S1024x3).1) hs) hk : FVec Ideal Cert.On_untied.S1024 .f32) (ix1 t)
        = gate X R t (srt (gate X R t) ⟨o, by omega⟩) := fun o ho hs hk => by
    refine (column_apply _ o ho hs hk t).trans ((topK_fst (K := 3) _ _ t ⟨o, ho⟩ (by show o < 8; omega)).trans ?_)
    rw [show (fun e => gatesR X R (ix2 t e)) = gate X R t from funext (gatesR_apply X R t)]
    exact gatesR_apply X R t _
  refine picked_srt _ ?_ ?_ ?_
  · exact (hc 1 (by omega) _ _).symm.trans_lt ((of_ogt _ _ _ h1).trans_eq (hc 0 (by omega) _ _))
  · exact (hc 2 (by omega) _ _).symm.trans_lt ((of_ogt _ _ _ h2).trans_eq (hc 1 (by omega) _ _))
  · exact (hc 0 (by omega) _ _).symm.trans_lt ((of_olt _ _ _ h3).trans_eq ((broadcastInDim_scalar_apply _ _ _).trans top_word))

end Cert.Proof.Val

namespace Cert.Proof

open Idealize.ShloMosaic Idealize.ShloMosaic.ValueIdx Idealize.SL.Sem
open Idealize.ShloMosaic.TcCoe
open Cert.Proof.Val

/-- The idealized kernel computes the reference's result at the rows the mask selects. -/
theorem algebraic : Cert.algebraic_KernelIdeal_ReferenceIdeal_on_untied (hKernelIdeal := Cert.KernelIdeal.Gen.facts)
    (hReferenceIdeal := Cert.ReferenceIdeal.Gen.facts) (hOn_untied := maskFacts) := by
  intro m g m' g' _ hm
  have P : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hm c).1, fun c => (hm c).2.1, fun c => (hm c).2.2.1, fun c => (hm c).2.2.2⟩
  refine ⟨Cert.ReferenceIdeal.Value.res_main_v49 m' 0, ?_, ?_⟩
  · refine (θ_run _ _ _).mono ?_ (Cert.KernelIdealProof.run_main (F := Ideal) m g)
    rintro r ⟨hr, -⟩ c
    refine ⟨fun i hi => ?_, ((hr c).1 (0 : Fin 3)).trans (Cert.KernelIdealProof.finalA_x m g c),
      ((hr c).1 (1 : Fin 3)).trans (Cert.KernelIdealProof.finalA_r m g c), (hr c).2.1, (hr c).2.2⟩
    have ho := congrFun (((hr c).1 (2 : Fin 3)).trans (finalA_o m g c)) i
    refine ho.trans ?_
    have hc : c.val < 4 := c.isLt
    have i0 : (i (0 : Fin 2)).val < 512 := (i (0 : Fin 2)).isLt
    have i1 : (i (1 : Fin 2)).val < 1024 := (i (1 : Fin 2)).isLt
    have hT : 512 * (c.val / 2) + (i (0 : Fin 2)).val < 1024 := by omega
    have hx : ∀ h : Layout.TilesN ⟨2, ![512, 1024]⟩ ⟨2, ![1024, 1024]⟩ _, h.idx (Layout.meshBlock [2, 2] ![[0], []] c) i
        = ix2 ⟨512 * (c.val / 2) + (i (0 : Fin 2)).val, hT⟩ ⟨(i (1 : Fin 2)).val, i1⟩ := fun h => by
      funext a; apply Fin.ext
      match a with
      | ⟨0, _⟩ => show Layout.meshLin [2, 2] c.val [0] * 512 + (i (0 : Fin 2)).val = _; rw [lin0]; show _ = 512 * (c.val / 2) + _; omega
      | ⟨1, _⟩ => show 0 * 1024 + (i (1 : Fin 2)).val = (i (1 : Fin 2)).val; omega
    rw [Layout.blockN_apply, hx] at hi
    haveI := maskFacts
    have hp := picked_of_mask
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      ⟨512 * (c.val / 2) + (i (0 : Fin 2)).val, hT⟩ ⟨(i (1 : Fin 2)).val, i1⟩ hi
    rw [Layout.blockN_apply, hx, res_eq, outR_apply _ _ _ _ _ _ hp]
    exact P.OUT_at c i _ rfl _ rfl hp
  · refine (θ_run _ _ _).mono ?_ (Cert.ReferenceIdeal.Value.run (F := Ideal) m' g')
    intro r hr
    exact ⟨fun i _ => congrFun (hr 0).1 i, (hr 0).2⟩

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Val.maskFacts,
  frame_kernel, frame_ideal, frame_reference, preserves, algebraic⟩

end Cert.Proof

end
